-- ==== Defs.lean ====
def Pre_Kernel [hPre_pos_in_rows : Cert.Pre_pos_in_rows.Facts] (m : (ℓ : Loc Cert.Kernel.nD Cert.Kernel.τ Cert.Kernel.sig) → Buf (Elt Bits) ℓ) : Prop :=
  ∀ c : Dev Cert.Kernel.nD,
    (Cert.Pre_pos_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pos_in_rows : Cert.Pre_pos_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_pos_in_rows : Cert.Pre_pos_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_pos_in_rows : Cert.Pre_pos_in_rows.Facts] (m : (ℓ : Loc Cert.Reference.nD Cert.Reference.τ Cert.Reference.sig) → Buf (Elt Bits) ℓ) : Prop :=
  ∀ c : Dev Cert.Reference.nD,
    (Cert.Pre_pos_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Experts [hPre_tables_in_range : Cert.Pre_tables_in_range.Facts] (m : (ℓ : Loc Cert.Experts.nD Cert.Experts.τ Cert.Experts.sig) → Buf (Elt Bits) ℓ) : Prop :=
  ∀ c : Dev Cert.Experts.nD,
    (Cert.Pre_tables_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_tables_in_range : Cert.Pre_tables_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal [hPre_tables_in_range : Cert.Pre_tables_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def quiescent_Kernel [hKernel : Cert.Kernel.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_pos_in_rows : Cert.Pre_pos_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_pos_in_rows : Cert.Pre_pos_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Experts [hExperts : Cert.Experts.Facts] [hPre_tables_in_range : Cert.Pre_tables_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] [hPre_tables_in_range : Cert.Pre_tables_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v12)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v12) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Experts_ExpertsIdeal : Prop :=
  True

def algebraic_ExpertsIdeal_ExpertsReferenceIdeal_on_rows_of_used_tiles [hExpertsIdeal : Cert.ExpertsIdeal.Facts] [hExpertsReferenceIdeal : Cert.ExpertsReferenceIdeal.Facts] [hPre_tables_in_range : Cert.Pre_tables_in_range.Facts] [hOn_rows_of_used_tiles : Cert.On_rows_of_used_tiles.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨3, ![8, 44544, 256]⟩ : Shape).Idx, (Cert.On_rows_of_used_tiles.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨3, ![8, 44544, 256]⟩ : Shape).Idx, (Cert.On_rows_of_used_tiles.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsReferenceIdeal.nD Cert.ExpertsReferenceIdeal.τ).loc Cert.ExpertsReferenceIdeal.main_v142) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hExperts : Cert.Experts.Facts) (hExpertsIdeal : Cert.ExpertsIdeal.Facts) (hExpertsReferenceIdeal : Cert.ExpertsReferenceIdeal.Facts) (hPre_pos_in_rows : Cert.Pre_pos_in_rows.Facts) (hPre_tables_in_range : Cert.Pre_tables_in_range.Facts) (hOn_rows_of_used_tiles : Cert.On_rows_of_used_tiles.Facts),
    quiescent_Kernel (hKernel := hKernel) (hPre_pos_in_rows := hPre_pos_in_rows)
    ∧ quiescent_KernelIdeal (hKernelIdeal := hKernelIdeal) (hPre_pos_in_rows := hPre_pos_in_rows)
    ∧ quiescent_ReferenceIdeal (hReferenceIdeal := hReferenceIdeal) (hPre_pos_in_rows := hPre_pos_in_rows)
    ∧ quiescent_Reference (hReference := hReference) (hPre_pos_in_rows := hPre_pos_in_rows)
    ∧ quiescent_Experts (hExperts := hExperts) (hPre_tables_in_range := hPre_tables_in_range)
    ∧ quiescent_ExpertsIdeal (hExpertsIdeal := hExpertsIdeal) (hPre_tables_in_range := hPre_tables_in_range)
    ∧ quiescent_ExpertsReferenceIdeal (hExpertsReferenceIdeal := hExpertsReferenceIdeal) (hPre_tables_in_range := hPre_tables_in_range)
    ∧ preserves_Kernel_KernelIdeal
    ∧ algebraic_KernelIdeal_ReferenceIdeal (hKernelIdeal := hKernelIdeal) (hReferenceIdeal := hReferenceIdeal) (hPre_pos_in_rows := hPre_pos_in_rows)
    ∧ bitexact_Kernel_Reference (hKernel := hKernel) (hReference := hReference) (hPre_pos_in_rows := hPre_pos_in_rows)
    ∧ preserves_Experts_ExpertsIdeal
    ∧ algebraic_ExpertsIdeal_ExpertsReferenceIdeal_on_rows_of_used_tiles (hExpertsIdeal := hExpertsIdeal) (hExpertsReferenceIdeal := hExpertsReferenceIdeal) (hPre_tables_in_range := hPre_tables_in_range) (hOn_rows_of_used_tiles := hOn_rows_of_used_tiles)
-- ==== On_rows_of_used_tiles.lean ====
abbrev S8x44544x256 : Shape := ⟨3, ![8, 44544, 256]⟩
abbrev S29 : Shape := ⟨1, ![29]⟩
abbrev S1 : Shape := ⟨1, ![1]⟩
abbrev S8x2048x7168 : Shape := ⟨3, ![8, 2048, 7168]⟩
abbrev S8x7168x2048 : Shape := ⟨3, ![8, 7168, 2048]⟩
abbrev S44544 : Shape := ⟨1, ![44544]⟩
abbrev S1x44544x1 : Shape := ⟨3, ![1, 44544, 1]⟩
abbrev S_ : Shape := ⟨0, ![]⟩
abbrev S1x1x1 : Shape := ⟨3, ![1, 1, 1]⟩

class Facts : Prop where
  bcast_S44544_S1x44544x1_1 : S44544.BroadcastsInDim S1x44544x1 (![1] : Fin 1 → Fin S1x44544x1.rank)
  bcast_S_S1 : S_.BroadcastsInDim S1 (![] : Fin 0 → Fin S1.rank)
  bcast_S1_S1x1x1_2 : S1.BroadcastsInDim S1x1x1 (![2] : Fin 1 → Fin S1x1x1.rank)
  bcast_S1x1x1_S1x44544x1_0_1_2 : S1x1x1.BroadcastsInDim S1x44544x1 (![0, 1, 2] : Fin 3 → Fin S1x44544x1.rank)
  bcast_S1x44544x1_S8x44544x256_0_1_2 : S1x44544x1.BroadcastsInDim S8x44544x256 (![0, 1, 2] : Fin 3 → Fin S8x44544x256.rank)

variable [Facts]

def fn {F : FTy → Type} [FloatOps F] (main_arg0 : FVec F S8x44544x256 .bf16) (main_arg1 : IVec S29 32) (main_arg2 : IVec S1 32) (main_arg3 : IVec S29 32) (main_arg4 : FVec F S8x2048x7168 .f32) (main_arg5 : FVec F S8x2048x7168 .f32) (main_arg6 : FVec F S8x7168x2048 .f32) : IVec S8x44544x256 1 :=
  let main_v0 : IVec S44544 32 := iotaInDim S44544 32 0
  let main_v1 : IVec S1x44544x1 32 := broadcastInDim S1x44544x1 ![1] bcast_S44544_S1x44544x1_1 main_v0
  let main_c : IVec S_ 32 := constantI S_ 32 29#32
  let main_v2 : IVec S1 32 := broadcastInDim S1 ![] bcast_S_S1 main_c
  let main_v3 : IVec S1 32 := minsi main_arg2 main_v2
  let main_c_0 : IVec S_ 32 := constantI S_ 32 1536#32
  let main_v4 : IVec S1 32 := broadcastInDim S1 ![] bcast_S_S1 main_c_0
  let main_v5 : IVec S1 32 := muli main_v3 main_v4
  let main_v6 : IVec S1x1x1 32 := broadcastInDim S1x1x1 ![2] bcast_S1_S1x1x1_2 main_v5
  let main_v7 : IVec S1x44544x1 32 := broadcastInDim S1x44544x1 ![0, 1, 2] bcast_S1x1x1_S1x44544x1_0_1_2 main_v6
  let main_v8 : IVec S1x44544x1 1 := cmpi .slt main_v1 main_v7
  let main_v9 : IVec S8x44544x256 1 := broadcastInDim S8x44544x256 ![0, 1, 2] bcast_S1x44544x1_S8x44544x256_0_1_2 main_v8
  main_v9
-- ==== Pre_pos_in_rows.lean ====
abbrev S4x44544x256 : Shape := ⟨3, ![4, 44544, 256]⟩
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S4x44544x256 32) (main_arg1 : IVec S16384 32) : IVec S16384 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 44544#32
  let main_v2 : IVec S16384 32 := broadcastInDim S16384 ![] bcast_S_S16384 main_c_0
  let main_v3 : IVec S16384 1 := cmpi .slt main_arg1 main_v2
  let main_v4 : IVec S16384 1 := andi main_v1 main_v3
  main_v4
-- ==== Pre_tables_in_range.lean ====
abbrev S8x44544x256 : Shape := ⟨3, ![8, 44544, 256]⟩
abbrev S29 : Shape := ⟨1, ![29]⟩
abbrev S1 : Shape := ⟨1, ![1]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S29 : S_.BroadcastsInDim S29 (![] : Fin 0 → Fin S29.rank)
  reducesTo_S29_S_d0 : S29.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S8x44544x256 .bf16) (main_arg1 : IVec S29 32) (main_arg2 : IVec S1 32) (main_arg3 : IVec S29 32) (main_arg4 : FVec F S8x2048x7168 .f32) (main_arg5 : FVec F S8x2048x7168 .f32) (main_arg6 : FVec F S8x7168x2048 .f32) : IVec S_ 1 :=
  let main_c : IVec S_ 32 := constantI S_ 32 0#32
  let main_v0 : IVec S29 32 := broadcastInDim S29 ![] bcast_S_S29 main_c
  let main_v1 : IVec S29 1 := cmpi .sge main_arg1 main_v0
  let main_c_0 : IVec S_ 32 := constantI S_ 32 8#32
  let main_v2 : IVec S29 32 := broadcastInDim S29 ![] bcast_S_S29 main_c_0
  let main_v3 : IVec S29 1 := cmpi .slt main_arg1 main_v2
  let main_v4 : IVec S29 1 := andi main_v1 main_v3
  let main_c_1 : IVec S_ 1 := constantI S_ 1 1#1
  let main_v5 : IVec S_ 1 := (fun x v => Host.reduce IntOp.andi x v reducesTo_S29_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  let main_c_4 : IVec S_ 32 := constantI S_ 32 1536#32
  let main_v10 : IVec S29 32 := broadcastInDim S29 ![] bcast_S_S29 main_c_4
  let main_v11 : IVec S29 1 := cmpi .sle main_arg3 main_v10
  let main_c_5 : IVec S_ 1 := constantI S_ 1 1#1
  let main_v12 : IVec S_ 1 := (fun x v => Host.reduce IntOp.andi x v reducesTo_S29_S_d0 h_S_) main_v11 main_c_5
  let main_v13 : IVec S_ 1 := andi main_v9 main_v12
  main_v13
-- ==== Kernel.lean ====
abbrev S4x44544x256 : Shape := ⟨3, ![4, 44544, 256]⟩
abbrev S16384 : Shape := ⟨1, ![16384]⟩
abbrev S178176x2x128 : Shape := ⟨3, ![178176, 2, 128]⟩
abbrev S4 : Shape := ⟨1, ![4]⟩
abbrev S4x1 : Shape := ⟨2, ![4, 1]⟩
abbrev S_ : Shape := ⟨0, ![]⟩
abbrev S1x16384 : Shape := ⟨2, ![1, 16384]⟩
abbrev S4x16384 : Shape := ⟨2, ![4, 16384]⟩
abbrev S65536 : Shape := ⟨1, ![65536]⟩
abbrev S1x65536 : Shape := ⟨2, ![1, 65536]⟩
abbrev S65536x2x128 : Shape := ⟨3, ![65536, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S1x128x2x128 : Shape := ⟨4, ![1, 128, 2, 128]⟩
abbrev S128x2x128 : Shape := ⟨3, ![128, 2, 128]⟩
abbrev S128 : Shape := ⟨1, ![128]⟩
abbrev S4x16384x256 : Shape := ⟨3, ![4, 16384, 256]⟩

abbrev nBuf : Table → Nat
  | .hbm => 16
  | .local .scVector .vmem => 2
  | _ => 0

abbrev bufTy : (tb : Table) → Fin (nBuf tb) → BufTy
  | .hbm, ⟨0, _⟩ => ⟨S4x44544x256, .i32⟩
  | .hbm, ⟨1, _⟩ => ⟨S16384, .i32⟩
  | .hbm, ⟨2, _⟩ => ⟨S178176x2x128, .i32⟩
  | .hbm, ⟨3, _⟩ => ⟨S4, .i32⟩
  | .hbm, ⟨4, _⟩ => ⟨S4x1, .i32⟩
  | .hbm, ⟨5, _⟩ => ⟨S_, .i32⟩
  | .hbm, ⟨6, _⟩ => ⟨S4x1, .i32⟩
  | .hbm, ⟨7, _⟩ => ⟨S4x1, .i32⟩
  | .hbm, ⟨8, _⟩ => ⟨S1x16384, .i32⟩
  | .hbm, ⟨9, _⟩ => ⟨S4x16384, .i32⟩
  | .hbm, ⟨10, _⟩ => ⟨S4x16384, .i32⟩
  | .hbm, ⟨11, _⟩ => ⟨S4x16384, .i32⟩
  | .hbm, ⟨12, _⟩ => ⟨S65536, .i32⟩
  | .hbm, ⟨13, _⟩ => ⟨S1x65536, .i32⟩
  | .hbm, ⟨14, _⟩ => ⟨S65536x2x128, .i32⟩
  | .hbm, ⟨15, _⟩ => ⟨S4x16384x256, .i32⟩
  | .local .scVector .vmem, ⟨0, _⟩ => ⟨S2x1x128, .i32⟩
  | .local .scVector .vmem, ⟨1, _⟩ => ⟨S2x128x2x128, .i32⟩
  | _, _ => ⟨S4x44544x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v0_scv : Ref sig .scVector := ⟨.hbm, 2, rfl⟩
abbrev main_v10_scv : Ref sig .scVector := ⟨.hbm, 13, rfl⟩
abbrev main_v11_scv : Ref sig .scVector := ⟨.hbm, 14, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k0_off2 (i : grid0.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k0_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k0_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k0_off4 (arg6_r0 : BitVec 32) : Fin 3 → Nat :=
  let c2_i32_104_r0 : BitVec 32 := 2#32
  let v144_r0 : BitVec 32 := Scalar.remui arg6_r0 c2_i32_104_r0
  let c0_i32_106_r0 : BitVec 32 := 0#32
  let c0_i32_107_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_66_r0 : BitVec 1 := 1#1
  let c1_i32_65_r0 : BitVec 32 := 1#32
  let v72_r0 : BitVec 32 := Scalar.addi arg10_r0 c1_i32_65_r0
  let v73_r0 : BitVec 32 := Scalar.select true_66_r0 v72_r0 arg10_r0
  let c16_i32_67_r0 : BitVec 32 := 16#32
  let v74_r0 : BitVec 1 := Scalar.cmpi .eq v73_r0 c16_i32_67_r0
  let c0_i32_68_r0 : BitVec 32 := 0#32
  let v75_r0 : BitVec 32 := Scalar.select v74_r0 c0_i32_68_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c15_i32_73_r0 : BitVec 32 := 15#32
  let v83_r0 : BitVec 1 := Scalar.cmpi .sge arg5_r0 c15_i32_73_r0
  let true_74_r0 : BitVec 1 := 1#1
  let v84_r0 : BitVec 1 := Scalar.xori v83_r0 true_74_r0
  let v85_r0 : BitVec 1 := Scalar.andi v82_r0 v84_r0
  let true_75_r0 : BitVec 1 := 1#1
  let v86_r0 : BitVec 1 := Scalar.andi v85_r0 true_75_r0
  let v87_r0 : BitVec 32 := Scalar.extui v86_r0
  let c0_i32_76_r0 : BitVec 32 := 0#32
  let v88_r0 : BitVec 1 := Scalar.cmpi .ne v87_r0 c0_i32_76_r0
  v88_r0

def k0_off5 (i : grid0.Coords) (arg10_r0 : BitVec 32) : Fin 2 → Nat :=
  let c0_i32_108_r0 : BitVec 32 := 0#32
  let c128_i32_105_r0 : BitVec 32 := 128#32
  let true_66_r0 : BitVec 1 := 1#1
  let c1_i32_65_r0 : BitVec 32 := 1#32
  let v72_r0 : BitVec 32 := Scalar.addi arg10_r0 c1_i32_65_r0
  let v73_r0 : BitVec 32 := Scalar.select true_66_r0 v72_r0 arg10_r0
  let c16_i32_67_r0 : BitVec 32 := 16#32
  let v74_r0 : BitVec 1 := Scalar.cmpi .eq v73_r0 c16_i32_67_r0
  let c0_i32_68_r0 : BitVec 32 := 0#32
  let v75_r0 : BitVec 32 := Scalar.select v74_r0 c0_i32_68_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_105_r0 v76_r0
  ![0, v145_r0.toNat]
def k0_off6 (arg6_r0 : BitVec 32) : Fin 1 → Nat :=
  let c2_i32_104_r0 : BitVec 32 := 2#32
  let v144_r0 : BitVec 32 := Scalar.remui arg6_r0 c2_i32_104_r0
  ![v144_r0.toNat]
def k0_off7 (arg7_r0 : BitVec 32) : Fin 3 → Nat :=
  let c2_i32_105_r0 : BitVec 32 := 2#32
  let v145_r0 : BitVec 32 := Scalar.remui arg7_r0 c2_i32_105_r0
  let c0_i32_106_r0 : BitVec 32 := 0#32
  let c0_i32_107_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v67_r0 : BitVec 32 := Scalar.subi arg10_r0 c1_i32_61_r0
  let v68_r0 : BitVec 32 := Scalar.select true_62_r0 v67_r0 arg10_r0
  let c_m1_i32_63_r0 : BitVec 32 := 4294967295#32
  let v69_r0 : BitVec 1 := Scalar.cmpi .eq v68_r0 c_m1_i32_63_r0
  let c15_i32_64_r0 : BitVec 32 := 15#32
  let v70_r0 : BitVec 32 := Scalar.select v69_r0 c15_i32_64_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_59_r0 : BitVec 32 := 0#32
  let v64_r0 : BitVec 1 := Scalar.cmpi .eq arg5_r0 c0_i32_59_r0
  let v97_r0 : BitVec 1 := Scalar.ori v96_r0 v64_r0
  let c0_i32_81_r0 : BitVec 32 := 0#32
  let v98_r0 : BitVec 1 := Scalar.cmpi .sge arg5_r0 c0_i32_81_r0
  let v99_r0 : BitVec 1 := Scalar.andi v97_r0 v98_r0
  let v100_r0 : BitVec 32 := Scalar.extui v99_r0
  let c0_i32_82_r0 : BitVec 32 := 0#32
  let v101_r0 : BitVec 1 := Scalar.cmpi .ne v100_r0 c0_i32_82_r0
  v101_r0

def k0_off8 (i : grid0.Coords) (arg10_r0 : BitVec 32) : Fin 2 → Nat :=
  let c0_i32_108_r0 : BitVec 32 := 0#32
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_104_r0 v66_r0
  ![0, v144_r0.toNat]
def k0_off9 (arg7_r0 : BitVec 32) : Fin 1 → Nat :=
  let c2_i32_105_r0 : BitVec 32 := 2#32
  let v145_r0 : BitVec 32 := Scalar.remui arg7_r0 c2_i32_105_r0
  ![v145_r0.toNat]
def k0_off10 (arg8_r0 : BitVec 32) : Fin 4 → Nat :=
  let c2_i32_86_r0 : BitVec 32 := 2#32
  let v109_r0 : BitVec 32 := Scalar.remui arg8_r0 c2_i32_86_r0
  let c0_i32_104_r1 : BitVec 32 := 0#32
  let c0_i32_105_r1 : BitVec 32 := 0#32
  let c0_i32_106_r1 : BitVec 32 := 0#32
  ![v109_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 3 → Nat :=
  let c2_i32_85_r0 : BitVec 32 := 2#32
  let v108_r0 : BitVec 32 := Scalar.remui arg7_r0 c2_i32_85_r0
  let c0_i32_107_r1 : BitVec 32 := 0#32
  let c0_i32_108_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_104_r0 : BitVec 32 := 2#32
  let v144_r0 : BitVec 32 := Scalar.remui arg8_r0 c2_i32_104_r0
  let c0_i32_106_r0 : BitVec 32 := 0#32
  let c0_i32_107_r0 : BitVec 32 := 0#32
  let c0_i32_108_r0 : BitVec 32 := 0#32
  ![v144_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_66_r0 : BitVec 1 := 1#1
  let c1_i32_65_r0 : BitVec 32 := 1#32
  let v72_r0 : BitVec 32 := Scalar.addi arg10_r0 c1_i32_65_r0
  let v73_r0 : BitVec 32 := Scalar.select true_66_r0 v72_r0 arg10_r0
  let c16_i32_67_r0 : BitVec 32 := 16#32
  let v74_r0 : BitVec 1 := Scalar.cmpi .eq v73_r0 c16_i32_67_r0
  let c0_i32_68_r0 : BitVec 32 := 0#32
  let v75_r0 : BitVec 32 := Scalar.select v74_r0 c0_i32_68_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c15_i32_60_r0 : BitVec 32 := 15#32
  let v65_r0 : BitVec 1 := Scalar.cmpi .eq arg5_r0 c15_i32_60_r0
  let v116_r0 : BitVec 1 := Scalar.ori v115_r0 v65_r0
  let v117_r0 : BitVec 32 := Scalar.extui v116_r0
  let c0_i32_89_r0 : BitVec 32 := 0#32
  let v118_r0 : BitVec 1 := Scalar.cmpi .ne v117_r0 c0_i32_89_r0
  v118_r0

def k0_off13 (i : grid0.Coords) (arg10_r0 : BitVec 32) : Fin 3 → Nat :=
  let c128_i32_105_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_105_r0 v66_r0
  let c0_i32_109_r0 : BitVec 32 := 0#32
  let c0_i32_110_r0 : BitVec 32 := 0#32
  ![v145_r0.toNat, 0, 0]
def k0_off14 (arg8_r0 : BitVec 32) : Fin 1 → Nat :=
  let c2_i32_104_r0 : BitVec 32 := 2#32
  let v144_r0 : BitVec 32 := Scalar.remui arg8_r0 c2_i32_104_r0
  ![v144_r0.toNat]
def k0_off15 (arg9_r0 : BitVec 32) : Fin 4 → Nat :=
  let c2_i32_104_r0 : BitVec 32 := 2#32
  let v144_r0 : BitVec 32 := Scalar.remui arg9_r0 c2_i32_104_r0
  let c0_i32_106_r0 : BitVec 32 := 0#32
  let c0_i32_107_r0 : BitVec 32 := 0#32
  let c0_i32_108_r0 : BitVec 32 := 0#32
  ![v144_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v67_r0 : BitVec 32 := Scalar.subi arg10_r0 c1_i32_61_r0
  let v68_r0 : BitVec 32 := Scalar.select true_62_r0 v67_r0 arg10_r0
  let c_m1_i32_63_r0 : BitVec 32 := 4294967295#32
  let v69_r0 : BitVec 1 := Scalar.cmpi .eq v68_r0 c_m1_i32_63_r0
  let c15_i32_64_r0 : BitVec 32 := 15#32
  let v70_r0 : BitVec 32 := Scalar.select v69_r0 c15_i32_64_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_59_r0 : BitVec 32 := 0#32
  let v64_r0 : BitVec 1 := Scalar.cmpi .eq arg5_r0 c0_i32_59_r0
  let true_95_r0 : BitVec 1 := 1#1
  let v129_r0 : BitVec 1 := Scalar.xori v64_r0 true_95_r0
  let v130_r0 : BitVec 1 := Scalar.andi v128_r0 v129_r0
  let v131_r0 : BitVec 32 := Scalar.extui v130_r0
  let c0_i32_96_r0 : BitVec 32 := 0#32
  let v132_r0 : BitVec 1 := Scalar.cmpi .ne v131_r0 c0_i32_96_r0
  v132_r0

def k0_off16 (i : grid0.Coords) (arg10_r0 : BitVec 32) : Fin 3 → Nat :=
  let c128_i32_105_r0 : BitVec 32 := 128#32
  let true_62_r0 : BitVec 1 := 1#1
  let c1_i32_61_r0 : BitVec 32 := 1#32
  let v67_r0 : BitVec 32 := Scalar.subi arg10_r0 c1_i32_61_r0
  let v68_r0 : BitVec 32 := Scalar.select true_62_r0 v67_r0 arg10_r0
  let c_m1_i32_63_r0 : BitVec 32 := 4294967295#32
  let v69_r0 : BitVec 1 := Scalar.cmpi .eq v68_r0 c_m1_i32_63_r0
  let c15_i32_64_r0 : BitVec 32 := 15#32
  let v70_r0 : BitVec 32 := Scalar.select v69_r0 c15_i32_64_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_105_r0 v71_r0
  let c0_i32_109_r0 : BitVec 32 := 0#32
  let c0_i32_110_r0 : BitVec 32 := 0#32
  ![v145_r0.toNat, 0, 0]
def k0_off17 (arg9_r0 : BitVec 32) : Fin 1 → Nat :=
  let c2_i32_104_r0 : BitVec 32 := 2#32
  let v144_r0 : BitVec 32 := Scalar.remui arg9_r0 c2_i32_104_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x65536.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x65536.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x2x128.size a ≤ S2x128x2x128.size a) ∧
  (∀ (k0_h5 : k0_cond5 i k0_t1 arg10_r0 = 1#1), ∀ a, (k0_off13 i arg10_r0) a + S128x2x128.size a ≤ S65536x2x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x2x128.size a ≤ S2x128x2x128.size a) ∧
  (∀ (k0_h7 : k0_cond7 i k0_t1 arg10_r0 = 1#1), ∀ a, (k0_off16 i arg10_r0) a + S128x2x128.size a ≤ S65536x2x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x65536.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x65536.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x2x128.size a ≤ S65536x2x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x2x128.size a ≤ S65536x2x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 4 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  let c0_i32_51_r0 : BitVec 32 := 0#32
  ![v54_r0.toNat, 0, 0, 0]

def k0_off19 (i : grid0.Coords) (v33_4_r0 : BitVec 32) : Fin 3 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_52_r0 : BitVec 32 := 0#32
  let c0_i32_53_r0 : BitVec 32 := 0#32
  ![v55_r0.toNat, 0, 0]

def k0_chk5 (i : grid0.Coords) (v33_4_r0 : BitVec 32) : Prop :=
  (∀ a, (k0_off19 i v33_4_r0) a + S128x2x128.size a ≤ S65536x2x128.size a)
theorem k0_off19_inb : ∀ (i : grid0.Coords) (v33_4_r0 : BitVec 32) (k0_hw5 : k0_chk5 i v33_4_r0), ∀ a, (k0_off19 i v33_4_r0) a + S128x2x128.size a ≤ S65536x2x128.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 4 → Nat :=
  let c2_i32_47_r0 : BitVec 32 := 2#32
  let v54_r0 : BitVec 32 := Scalar.remui v33_3_r0 c2_i32_47_r0
  let c0_i32_56_r0 : BitVec 32 := 0#32
  let c0_i32_57_r0 : BitVec 32 := 0#32
  let c0_i32_58_r0 : BitVec 32 := 0#32
  ![v54_r0.toNat, 0, 0, 0]

def k0_chk4 (v33_3_r0 : BitVec 32) : Prop :=
  (∀ a, (k0_off18 v33_3_r0) a + S1x128x2x128.size a ≤ S2x128x2x128.size a) ∧
  (∀ a, (k0_off20 v33_3_r0) a + S1.size a ≤ S2.size a) ∧
  (∀ a, (k0_off21 v33_3_r0) a + S1x128x2x128.size a ≤ S2x128x2x128.size a)
theorem k0_off18_inb : ∀ (v33_3_r0 : BitVec 32) (k0_hw4 : k0_chk4 v33_3_r0), ∀ a, (k0_off18 v33_3_r0) a + S1x128x2x128.size a ≤ S2x128x2x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x2x128.size a ≤ S2x128x2x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x44544x256 : Shape := ⟨3, ![4, 44544, 256]⟩
abbrev S16384 : Shape := ⟨1, ![16384]⟩
abbrev S_ : Shape := ⟨0, ![]⟩
abbrev S16384x1 : Shape := ⟨2, ![16384, 1]⟩
abbrev S4x16384x256 : Shape := ⟨3, ![4, 16384, 256]⟩

abbrev nBuf : Space → Nat
  | .hbm => 11
  | .vmem => 0
  | .smem => 0
  | _ => 0

abbrev bufTy : (tb : Table) → Fin (tcTables nBuf tb) → BufTy
  | .hbm, ⟨0, _⟩ => ⟨S4x44544x256, .i32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S4x16384x256, .i32⟩
  | _, _ => ⟨S4x44544x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Experts.lean ====
abbrev S8x44544x256 : Shape := ⟨3, ![8, 44544, 256]⟩
abbrev S29 : Shape := ⟨1, ![29]⟩
abbrev S1 : Shape := ⟨1, ![1]⟩
abbrev S8x2048x7168 : Shape := ⟨3, ![8, 2048, 7168]⟩
abbrev S8x7168x2048 : Shape := ⟨3, ![8, 7168, 2048]⟩
abbrev S8x1536x256 : Shape := ⟨3, ![8, 1536, 256]⟩
abbrev S1x2048x256 : Shape := ⟨3, ![1, 2048, 256]⟩
abbrev S1x256x2048 : Shape := ⟨3, ![1, 256, 2048]⟩
abbrev S1536x2048 : Shape := ⟨2, ![1536, 2048]⟩
abbrev S1536x256 : Shape := ⟨2, ![1536, 256]⟩
abbrev S1x1536x256 : Shape := ⟨3, ![1, 1536, 256]⟩
abbrev S256x2048 : Shape := ⟨2, ![256, 2048]⟩
abbrev S2048x256 : Shape := ⟨2, ![2048, 256]⟩
abbrev S256x256 : Shape := ⟨2, ![256, 256]⟩
abbrev S512x2048 : Shape := ⟨2, ![512, 2048]⟩
abbrev S512x256 : Shape := ⟨2, ![512, 256]⟩
abbrev S768x2048 : Shape := ⟨2, ![768, 2048]⟩
abbrev S768x256 : Shape := ⟨2, ![768, 256]⟩
abbrev S1024x2048 : Shape := ⟨2, ![1024, 2048]⟩
abbrev S1024x256 : Shape := ⟨2, ![1024, 256]⟩
abbrev S1280x2048 : Shape := ⟨2, ![1280, 2048]⟩
abbrev S1280x256 : Shape := ⟨2, ![1280, 256]⟩

abbrev nBuf : Space → Nat
  | .hbm => 5
  | .vmem => 12
  | .smem => 3
  | _ => 0

abbrev bufTy : (tb : Table) → Fin (tcTables nBuf tb) → BufTy
  | .hbm, ⟨0, _⟩ => ⟨S8x44544x256, .bf16⟩
  | .hbm, ⟨1, _⟩ => ⟨S8x2048x7168, .f32⟩
  | .hbm, ⟨2, _⟩ => ⟨S8x2048x7168, .f32⟩
  | .hbm, ⟨3, _⟩ => ⟨S8x7168x2048, .f32⟩
  | .hbm, ⟨4, _⟩ => ⟨S8x44544x256, .bf16⟩
  | .local _ .vmem, ⟨0, _⟩ => ⟨S8x1536x256, .bf16⟩
  | .local _ .vmem, ⟨1, _⟩ => ⟨S8x1536x256, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S8x1536x256, .bf16⟩
  | .local _ .vmem, ⟨9, _⟩ => ⟨S8x1536x256, .bf16⟩
  | .local _ .vmem, ⟨10, _⟩ => ⟨S1536x2048, .f32⟩
  | .local _ .vmem, ⟨11, _⟩ => ⟨S1536x2048, .bf16⟩
  | .local _ .smem, ⟨0, _⟩ => ⟨S29, .i32⟩
  | .local _ .smem, ⟨1, _⟩ => ⟨S1, .i32⟩
  | .local _ .smem, ⟨2, _⟩ => ⟨S29, .i32⟩
  | _, _ => ⟨S8x44544x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![29, 28], ![false, false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c0_i32_0 : BitVec 32 := 0#32
  let v4 : BitVec 1 := Scalar.cmpi .eq arg1 c0_i32_0
  let v5 : BitVec 32 := Scalar.extui v4
  let c0_i32_1 : BitVec 32 := 0#32
  let v6 : BitVec 1 := Scalar.cmpi .ne v5 c0_i32_1
  v6

def k0_off2 (i : grid0.Coords) : Fin 1 → Nat :=
  let arg0 : BitVec 32 := BitVec.ofNat 32 (i 0).val
  let v54 : Index := Scalar.indexCast arg0
  ![v54.toNat]
def k0_off3 (i : grid0.Coords) : Fin 1 → Nat :=
  let arg0 : BitVec 32 := BitVec.ofNat 32 (i 0).val
  let v7 : Index := Scalar.indexCast arg0
  ![v7.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond9 (i : grid0.Coords) : BitVec 1 :=
  let arg1 : BitVec 32 := BitVec.ofNat 32 (i 1).val
  let c27_i32 : BitVec 32 := 27#32
  let v46 : BitVec 1 := Scalar.cmpi .eq arg1 c27_i32
  let v47 : BitVec 32 := Scalar.extui v46
  let c0_i32_16 : BitVec 32 := 0#32
  let v48 : BitVec 1 := Scalar.cmpi .ne v47 c0_i32_16
  v48

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![c0_i32.toNat, v2.toNat, c0_i32_0.toNat]

def cc0_transform_1 (k0_off1_inb : ∀ i : grid0.Coords, ∀ a, (k0_off1 i) a + S1.size a ≤ S29.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S29) ![v0.toNat] S1.size (k0_off1_inb i)) numel1_S1
  let c0_i32 : BitVec 32 := 0#32
  let v2 : BitVec 32 := Scalar.addi c0_i32 v1
  let c0 : Index := 0#32
  let v3 : BitVec 32 := pf.at 1 (Rect.unit (s := S1) ![0] S1.size inb_S1_S1_0) numel1_S1
  let v4 : BitVec 1 := Scalar.cmpi .slt arg0 v3
  let c27_i32 : BitVec 32 := 27#32
  let v5 : BitVec 32 := Scalar.select v4 arg1 c27_i32
  let c0_i32_0 : BitVec 32 := 0#32
  let c0_i32_1 : BitVec 32 := 0#32
  ![v2.toNat, c0_i32_0.toNat, v5.toNat]

def cc0_transform_2 (k0_off1_inb : ∀ i : grid0.Coords, ∀ a, (k0_off1 i) a + S1.size a ≤ S29.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S29) ![v0.toNat] S1.size (k0_off1_inb i)) numel1_S1
  let c0_i32 : BitVec 32 := 0#32
  let v2 : BitVec 32 := Scalar.addi c0_i32 v1
  let c0 : Index := 0#32
  let v3 : BitVec 32 := pf.at 1 (Rect.unit (s := S1) ![0] S1.size inb_S1_S1_0) numel1_S1
  let v4 : BitVec 1 := Scalar.cmpi .slt arg0 v3
  let c27_i32 : BitVec 32 := 27#32
  let v5 : BitVec 32 := Scalar.select v4 arg1 c27_i32
  let c0_i32_0 : BitVec 32 := 0#32
  let c0_i32_1 : BitVec 32 := 0#32
  ![v2.toNat, c0_i32_0.toNat, v5.toNat]

def cc0_transform_3 (k0_off1_inb : ∀ i : grid0.Coords, ∀ a, (k0_off1 i) a + S1.size a ≤ S29.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S29) ![v0.toNat] S1.size (k0_off1_inb i)) numel1_S1
  let c0_i32 : BitVec 32 := 0#32
  let v2 : BitVec 32 := Scalar.addi c0_i32 v1
  let c0 : Index := 0#32
  let v3 : BitVec 32 := pf.at 1 (Rect.unit (s := S1) ![0] S1.size inb_S1_S1_0) numel1_S1
  let v4 : BitVec 1 := Scalar.cmpi .slt arg0 v3
  let c27_i32 : BitVec 32 := 27#32
  let v5 : BitVec 32 := Scalar.select v4 arg1 c27_i32
  let c0_i32_0 : BitVec 32 := 0#32
  let c0_i32_1 : BitVec 32 := 0#32
  ![v2.toNat, v5.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S8x1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1536x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S8x44544x256 : Shape := ⟨3, ![8, 44544, 256]⟩
abbrev S29 : Shape := ⟨1, ![29]⟩
abbrev S1 : Shape := ⟨1, ![1]⟩
abbrev S8x2048x7168 : Shape := ⟨3, ![8, 2048, 7168]⟩
abbrev S8x7168x2048 : Shape := ⟨3, ![8, 7168, 2048]⟩
abbrev S44544x8x256 : Shape := ⟨3, ![44544, 8, 256]⟩
abbrev S29x1536x2048 : Shape := ⟨3, ![29, 1536, 2048]⟩
abbrev S1536 : Shape := ⟨1, ![1536]⟩
abbrev S1x1536x1 : Shape := ⟨3, ![1, 1536, 1]⟩
abbrev S29x1x1 : Shape := ⟨3, ![29, 1, 1]⟩
abbrev S29x1536x1 : Shape := ⟨3, ![29, 1536, 1]⟩
abbrev S8 : Shape := ⟨1, ![8]⟩
abbrev S1x1x8 : Shape := ⟨3, ![1, 1, 8]⟩
abbrev S29x1x8 : Shape := ⟨3, ![29, 1, 8]⟩
abbrev S29x1536x8 : Shape := ⟨3, ![29, 1536, 8]⟩
abbrev S_ : Shape := ⟨0, ![]⟩
abbrev S1x2048x7168 : Shape := ⟨3, ![1, 2048, 7168]⟩
abbrev S2048x7168 : Shape := ⟨2, ![2048, 7168]⟩
abbrev S1x7168x2048 : Shape := ⟨3, ![1, 7168, 2048]⟩
abbrev S7168x2048 : Shape := ⟨2, ![7168, 2048]⟩
abbrev S29x1536x7168 : Shape := ⟨3, ![29, 1536, 7168]⟩

abbrev nBuf : Space → Nat
  | .hbm => 215
  | .vmem => 0
  | .smem => 0
  | _ => 0

abbrev hbmTy0_0 (i : Nat) : BufTy := match i % 128 with
  | 0 => ⟨S8x44544x256, .bf16⟩
  | 1 => ⟨S29, .i32⟩
  | 2 => ⟨S1, .i32⟩
  | 3 => ⟨S29, .i32⟩
  | 4 => ⟨S8x2048x7168, .f32⟩
  | 5 => ⟨S8x2048x7168, .f32⟩
  | 6 => ⟨S8x7168x2048, .f32⟩
  | 7 => ⟨S44544x8x256, .bf16⟩
  | 8 => ⟨S29x1536x2048, .bf16⟩
  | 9 => ⟨S29x1536x2048, .f32⟩
  | 10 => ⟨S1536, .i32⟩
  | 11 => ⟨S1x1536x1, .i32⟩
  | 12 => ⟨S29x1x1, .i32⟩
  | 13 => ⟨S29x1536x1, .i32⟩
  | 14 => ⟨S29x1536x1, .i32⟩
  | 15 => ⟨S29x1536x1, .i1⟩
  | 16 => ⟨S29x1x1, .i32⟩
  | 17 => ⟨S8, .i32⟩
  | 18 => ⟨S1x1x8, .i32⟩
  | 19 => ⟨S29x1x8, .i32⟩
  | 20 => ⟨S29x1x8, .i32⟩
  | 21 => ⟨S29x1x8, .i1⟩
  | 22 => ⟨S29x1536x8, .i1⟩
  | 23 => ⟨S29x1536x8, .i1⟩
  | 24 => ⟨S29x1536x8, .i1⟩
  | 25 => ⟨S29x1536x8, .f32⟩
  | 26 => ⟨S_, .f32⟩
  | 27 => ⟨S29x1536x2048, .f32⟩
  | 28 => ⟨S29x1536x1, .f32⟩
  | 29 => ⟨S1x2048x7168, .f32⟩
  | 30 => ⟨S2048x7168, .f32⟩
  | 31 => ⟨S1x2048x7168, .f32⟩
  | 32 => ⟨S2048x7168, .f32⟩
  | 33 => ⟨S1x7168x2048, .f32⟩
  | 34 => ⟨S7168x2048, .f32⟩
  | 35 => ⟨S29x1536x7168, .f32⟩
  | 36 => ⟨S29x1536x7168, .f32⟩
  | 37 => ⟨S29x1536x7168, .f32⟩
  | 38 => ⟨S_, .f32⟩
  | 39 => ⟨S29x1536x7168, .f32⟩
  | 40 => ⟨S29x1536x7168, .f32⟩
  | 41 => ⟨S_, .f32⟩
  | 42 => ⟨S29x1536x7168, .f32⟩
  | 43 => ⟨S29x1536x7168, .f32⟩
  | 44 => ⟨S29x1536x7168, .f32⟩
  | 45 => ⟨S29x1536x7168, .f32⟩
  | 46 => ⟨S29x1536x7168, .f32⟩
  | 47 => ⟨S29x1536x2048, .f32⟩
  | 48 => ⟨S29x1536x2048, .f32⟩
  | 49 => ⟨S29x1536x2048, .f32⟩
  | 50 => ⟨S29x1536x2048, .f32⟩
  | 51 => ⟨S29x1536x1, .f32⟩
  | 52 => ⟨S1x2048x7168, .f32⟩
  | 53 => ⟨S2048x7168, .f32⟩
  | 54 => ⟨S1x2048x7168, .f32⟩
  | 55 => ⟨S2048x7168, .f32⟩
  | 56 => ⟨S1x7168x2048, .f32⟩
  | 57 => ⟨S7168x2048, .f32⟩
  | 58 => ⟨S29x1536x7168, .f32⟩
  | 59 => ⟨S29x1536x7168, .f32⟩
  | 60 => ⟨S29x1536x7168, .f32⟩
  | 61 => ⟨S_, .f32⟩
  | 62 => ⟨S29x1536x7168, .f32⟩
  | 63 => ⟨S29x1536x7168, .f32⟩
  | 64 => ⟨S_, .f32⟩
  | 65 => ⟨S29x1536x7168, .f32⟩
  | 66 => ⟨S29x1536x7168, .f32⟩
  | 67 => ⟨S29x1536x7168, .f32⟩
  | 68 => ⟨S29x1536x7168, .f32⟩
  | 69 => ⟨S29x1536x7168, .f32⟩
  | 70 => ⟨S29x1536x2048, .f32⟩
  | 71 => ⟨S29x1536x2048, .f32⟩
  | 72 => ⟨S29x1536x2048, .f32⟩
  | 73 => ⟨S29x1536x2048, .f32⟩
  | 74 => ⟨S29x1536x1, .f32⟩
  | 75 => ⟨S1x2048x7168, .f32⟩
  | 76 => ⟨S2048x7168, .f32⟩
  | 77 => ⟨S1x2048x7168, .f32⟩
  | 78 => ⟨S2048x7168, .f32⟩
  | 79 => ⟨S1x7168x2048, .f32⟩
  | 80 => ⟨S7168x2048, .f32⟩
  | 81 => ⟨S29x1536x7168, .f32⟩
  | 82 => ⟨S29x1536x7168, .f32⟩
  | 83 => ⟨S29x1536x7168, .f32⟩
  | 84 => ⟨S_, .f32⟩
  | 85 => ⟨S29x1536x7168, .f32⟩
  | 86 => ⟨S29x1536x7168, .f32⟩
  | 87 => ⟨S_, .f32⟩
  | 88 => ⟨S29x1536x7168, .f32⟩
  | 89 => ⟨S29x1536x7168, .f32⟩
  | 90 => ⟨S29x1536x7168, .f32⟩
  | 91 => ⟨S29x1536x7168, .f32⟩
  | 92 => ⟨S29x1536x7168, .f32⟩
  | 93 => ⟨S29x1536x2048, .f32⟩
  | 94 => ⟨S29x1536x2048, .f32⟩
  | 95 => ⟨S29x1536x2048, .f32⟩
  | 96 => ⟨S29x1536x2048, .f32⟩
  | 97 => ⟨S29x1536x1, .f32⟩
  | 98 => ⟨S1x2048x7168, .f32⟩
  | 99 => ⟨S2048x7168, .f32⟩
  | 100 => ⟨S1x2048x7168, .f32⟩
  | 101 => ⟨S2048x7168, .f32⟩
  | 102 => ⟨S1x7168x2048, .f32⟩
  | 103 => ⟨S7168x2048, .f32⟩
  | 104 => ⟨S29x1536x7168, .f32⟩
  | 105 => ⟨S29x1536x7168, .f32⟩
  | 106 => ⟨S29x1536x7168, .f32⟩
  | 107 => ⟨S_, .f32⟩
  | 108 => ⟨S29x1536x7168, .f32⟩
  | 109 => ⟨S29x1536x7168, .f32⟩
  | 110 => ⟨S_, .f32⟩
  | 111 => ⟨S29x1536x7168, .f32⟩
  | 112 => ⟨S29x1536x7168, .f32⟩
  | 113 => ⟨S29x1536x7168, .f32⟩
  | 114 => ⟨S29x1536x7168, .f32⟩
  | 115 => ⟨S29x1536x7168, .f32⟩
  | 116 => ⟨S29x1536x2048, .f32⟩
  | 117 => ⟨S29x1536x2048, .f32⟩
  | 118 => ⟨S29x1536x2048, .f32⟩
  | 119 => ⟨S29x1536x2048, .f32⟩
  | 120 => ⟨S29x1536x1, .f32⟩
  | 121 => ⟨S1x2048x7168, .f32⟩
  | 122 => ⟨S2048x7168, .f32⟩
  | 123 => ⟨S1x2048x7168, .f32⟩
  | 124 => ⟨S2048x7168, .f32⟩
  | 125 => ⟨S1x7168x2048, .f32⟩
  | 126 => ⟨S7168x2048, .f32⟩
  | 127 => ⟨S29x1536x7168, .f32⟩
  | _ => ⟨S8x44544x256, .bf16⟩

abbrev hbmTy0_1 (i : Nat) : BufTy := match i % 128 with
  | 0 => ⟨S29x1536x7168, .f32⟩
  | 1 => ⟨S29x1536x7168, .f32⟩
  | 2 => ⟨S_, .f32⟩
  | 3 => ⟨S29x1536x7168, .f32⟩
  | 4 => ⟨S29x1536x7168, .f32⟩
  | 5 => ⟨S_, .f32⟩
  | 6 => ⟨S29x1536x7168, .f32⟩
  | 7 => ⟨S29x1536x7168, .f32⟩
  | 8 => ⟨S29x1536x7168, .f32⟩
  | 9 => ⟨S29x1536x7168, .f32⟩
  | 10 => ⟨S29x1536x7168, .f32⟩
  | 11 => ⟨S29x1536x2048, .f32⟩
  | 12 => ⟨S29x1536x2048, .f32⟩
  | 13 => ⟨S29x1536x2048, .f32⟩
  | 14 => ⟨S29x1536x2048, .f32⟩
  | 15 => ⟨S29x1536x1, .f32⟩
  | 16 => ⟨S1x2048x7168, .f32⟩
  | 17 => ⟨S2048x7168, .f32⟩
  | 18 => ⟨S1x2048x7168, .f32⟩
  | 19 => ⟨S2048x7168, .f32⟩
  | 20 => ⟨S1x7168x2048, .f32⟩
  | 21 => ⟨S7168x2048, .f32⟩
  | 22 => ⟨S29x1536x7168, .f32⟩
  | 23 => ⟨S29x1536x7168, .f32⟩
  | 24 => ⟨S29x1536x7168, .f32⟩
  | 25 => ⟨S_, .f32⟩
  | 26 => ⟨S29x1536x7168, .f32⟩
  | 27 => ⟨S29x1536x7168, .f32⟩
  | 28 => ⟨S_, .f32⟩
  | 29 => ⟨S29x1536x7168, .f32⟩
  | 30 => ⟨S29x1536x7168, .f32⟩
  | 31 => ⟨S29x1536x7168, .f32⟩
  | 32 => ⟨S29x1536x7168, .f32⟩
  | 33 => ⟨S29x1536x7168, .f32⟩
  | 34 => ⟨S29x1536x2048, .f32⟩
  | 35 => ⟨S29x1536x2048, .f32⟩
  | 36 => ⟨S29x1536x2048, .f32⟩
  | 37 => ⟨S29x1536x2048, .f32⟩
  | 38 => ⟨S29x1536x1, .f32⟩
  | 39 => ⟨S1x2048x7168, .f32⟩
  | 40 => ⟨S2048x7168, .f32⟩
  | 41 => ⟨S1x2048x7168, .f32⟩
  | 42 => ⟨S2048x7168, .f32⟩
  | 43 => ⟨S1x7168x2048, .f32⟩
  | 44 => ⟨S7168x2048, .f32⟩
  | 45 => ⟨S29x1536x7168, .f32⟩
  | 46 => ⟨S29x1536x7168, .f32⟩
  | 47 => ⟨S29x1536x7168, .f32⟩
  | 48 => ⟨S_, .f32⟩
  | 49 => ⟨S29x1536x7168, .f32⟩
  | 50 => ⟨S29x1536x7168, .f32⟩
  | 51 => ⟨S_, .f32⟩
  | 52 => ⟨S29x1536x7168, .f32⟩
  | 53 => ⟨S29x1536x7168, .f32⟩
  | 54 => ⟨S29x1536x7168, .f32⟩
  | 55 => ⟨S29x1536x7168, .f32⟩
  | 56 => ⟨S29x1536x7168, .f32⟩
  | 57 => ⟨S29x1536x2048, .f32⟩
  | 58 => ⟨S29x1536x2048, .f32⟩
  | 59 => ⟨S29x1536x2048, .f32⟩
  | 60 => ⟨S29x1536x2048, .f32⟩
  | 61 => ⟨S29x1536x1, .f32⟩
  | 62 => ⟨S1x2048x7168, .f32⟩
  | 63 => ⟨S2048x7168, .f32⟩
  | 64 => ⟨S1x2048x7168, .f32⟩
  | 65 => ⟨S2048x7168, .f32⟩
  | 66 => ⟨S1x7168x2048, .f32⟩
  | 67 => ⟨S7168x2048, .f32⟩
  | 68 => ⟨S29x1536x7168, .f32⟩
  | 69 => ⟨S29x1536x7168, .f32⟩
  | 70 => ⟨S29x1536x7168, .f32⟩
  | 71 => ⟨S_, .f32⟩
  | 72 => ⟨S29x1536x7168, .f32⟩
  | 73 => ⟨S29x1536x7168, .f32⟩
  | 74 => ⟨S_, .f32⟩
  | 75 => ⟨S29x1536x7168, .f32⟩
  | 76 => ⟨S29x1536x7168, .f32⟩
  | 77 => ⟨S29x1536x7168, .f32⟩
  | 78 => ⟨S29x1536x7168, .f32⟩
  | 79 => ⟨S29x1536x7168, .f32⟩
  | 80 => ⟨S29x1536x2048, .f32⟩
  | 81 => ⟨S29x1536x2048, .f32⟩
  | 82 => ⟨S29x1536x2048, .f32⟩
  | 83 => ⟨S29x1536x2048, .f32⟩
  | 84 => ⟨S44544x8x256, .f32⟩
  | 85 => ⟨S8x44544x256, .f32⟩
  | 86 => ⟨S8x44544x256, .bf16⟩
  | _ => ⟨S8x44544x256, .bf16⟩

abbrev hbmTy (i : Nat) : BufTy := match i / 128 with
  | 0 => hbmTy0_0 i
  | 1 => hbmTy0_1 i
  | _ => ⟨S8x44544x256, .bf16⟩

abbrev bufTy : (tb : Table) → Fin (tcTables nBuf tb) → BufTy
  | .hbm, ⟨i, _⟩ => hbmTy i
  | _, _ => ⟨S8x44544x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call2_v0 : Ref sig .tc := ⟨.hbm, 82, rfl⟩
abbrev main_call2_v1 : Ref sig .tc := ⟨.hbm, 83, rfl⟩
abbrev main_call2_cst : Ref sig .tc := ⟨.hbm, 84, rfl⟩
abbrev main_call2_v2 : Ref sig .tc := ⟨.hbm, 85, rfl⟩
abbrev main_call2_v3 : Ref sig .tc := ⟨.hbm, 86, rfl⟩
abbrev main_call2_cst_0 : Ref sig .tc := ⟨.hbm, 87, rfl⟩
abbrev main_call2_v4 : Ref sig .tc := ⟨.hbm, 88, rfl⟩
abbrev main_call2_v5 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call3_v0 : Ref sig .tc := ⟨.hbm, 105, rfl⟩
abbrev main_call3_v1 : Ref sig .tc := ⟨.hbm, 106, rfl⟩
abbrev main_call3_cst : Ref sig .tc := ⟨.hbm, 107, rfl⟩
abbrev main_call3_v2 : Ref sig .tc := ⟨.hbm, 108, rfl⟩
abbrev main_call3_v3 : Ref sig .tc := ⟨.hbm, 109, rfl⟩
abbrev main_call3_cst_0 : Ref sig .tc := ⟨.hbm, 110, rfl⟩
abbrev main_call3_v4 : Ref sig .tc := ⟨.hbm, 111, rfl⟩
abbrev main_call3_v5 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call4_v0 : Ref sig .tc := ⟨.hbm, 128, rfl⟩
abbrev main_call4_v1 : Ref sig .tc := ⟨.hbm, 129, rfl⟩
abbrev main_call4_cst : Ref sig .tc := ⟨.hbm, 130, rfl⟩
abbrev main_call4_v2 : Ref sig .tc := ⟨.hbm, 131, rfl⟩
abbrev main_call4_v3 : Ref sig .tc := ⟨.hbm, 132, rfl⟩
abbrev main_call4_cst_0 : Ref sig .tc := ⟨.hbm, 133, rfl⟩
abbrev main_call4_v4 : Ref sig .tc := ⟨.hbm, 134, rfl⟩
abbrev main_call4_v5 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_call5_v0 : Ref sig .tc := ⟨.hbm, 151, rfl⟩
abbrev main_call5_v1 : Ref sig .tc := ⟨.hbm, 152, rfl⟩
abbrev main_call5_cst : Ref sig .tc := ⟨.hbm, 153, rfl⟩
abbrev main_call5_v2 : Ref sig .tc := ⟨.hbm, 154, rfl⟩
abbrev main_call5_v3 : Ref sig .tc := ⟨.hbm, 155, rfl⟩
abbrev main_call5_cst_0 : Ref sig .tc := ⟨.hbm, 156, rfl⟩
abbrev main_call5_v4 : Ref sig .tc := ⟨.hbm, 157, rfl⟩
abbrev main_call5_v5 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_call6_v0 : Ref sig .tc := ⟨.hbm, 174, rfl⟩
abbrev main_call6_v1 : Ref sig .tc := ⟨.hbm, 175, rfl⟩
abbrev main_call6_cst : Ref sig .tc := ⟨.hbm, 176, rfl⟩
abbrev main_call6_v2 : Ref sig .tc := ⟨.hbm, 177, rfl⟩
abbrev main_call6_v3 : Ref sig .tc := ⟨.hbm, 178, rfl⟩
abbrev main_call6_cst_0 : Ref sig .tc := ⟨.hbm, 179, rfl⟩
abbrev main_call6_v4 : Ref sig .tc := ⟨.hbm, 180, rfl⟩
abbrev main_call6_v5 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_call7_v0 : Ref sig .tc := ⟨.hbm, 197, rfl⟩
abbrev main_call7_v1 : Ref sig .tc := ⟨.hbm, 198, rfl⟩
abbrev main_call7_cst : Ref sig .tc := ⟨.hbm, 199, rfl⟩
abbrev main_call7_v2 : Ref sig .tc := ⟨.hbm, 200, rfl⟩
abbrev main_call7_v3 : Ref sig .tc := ⟨.hbm, 201, rfl⟩
abbrev main_call7_cst_0 : Ref sig .tc := ⟨.hbm, 202, rfl⟩
abbrev main_call7_v4 : Ref sig .tc := ⟨.hbm, 203, rfl⟩
abbrev main_call7_v5 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩

abbrev nD : Nat := 1
abbrev τ : Topo := Topo.v7x

variable {F : FTy → Type} [FloatOps F]
-- ==== Proof.Words.lean ====
/-
  The index arithmetic of the row gather's pipeline loop, in closed form. Each vector subcore walks sixteen consecutive
  blocks of 128 rows; five 32-bit words are carried from trip to trip (how many index blocks have been fetched, which
  index slot is waited for, which row slot is filled, which write-out is waited for, and the trip's own number). Before
  trip `k` they are `word6 k` … `word10 k` below, and everything the loop computes from them (which slot, which block,
  which of the two guarded steps happen) is read off here once for all subcores and trips.
-/
module

public import proofs.«01_k».proof.Proof.Gen.KernelIdeal
public import proofs.«01_k».proof.Proof.Gen.KernelIdeal.Skeleton

@[expose] public section

noncomputable section

namespace Cert.Proof.Words

open Cert.KernelIdeal Cert.KernelIdeal.Gen
open Idealize.ShloMosaic Idealize.SL.Sem

/-- How many index blocks have been fetched before trip `k`. -/
def word6 (k : ℕ) : BitVec 32 := BitVec.ofNat 32 (min (k + 1) 16)
/-- The trip's number, as the loop carries it for the index slot and for the row slot. -/
def word7 (k : ℕ) : BitVec 32 := BitVec.ofNat 32 k
/-- How many write-outs have been waited for before trip `k`. -/
def word9 (k : ℕ) : BitVec 32 := BitVec.ofNat 32 (k - 1)
/-- The block counter, which wraps round after the last trip. -/
def word10 (k : ℕ) : BitVec 32 := BitVec.ofNat 32 (k % 16)

/-- The five words carried into trip `k`. -/
def words (k : ℕ) : BitVec 32 × BitVec 32 × BitVec 32 × BitVec 32 × BitVec 32 :=
  (word6 k, word7 k, word7 k, word9 k, word10 k)

/-- The number of a subcore's first block. -/
abbrev base (i : grid0.Coords) : BitVec 32 :=
  Scalar.muli (Scalar.addi (Scalar.addi 0#32 (Scalar.muli (BitVec.ofNat 32 (i 1).val) 1#32)) (Scalar.muli (BitVec.ofNat 32 (i 0).val) 16#32)) 16#32

/-- The number of a subcore's block `k`. -/
abbrev blk (i : grid0.Coords) (k : ℕ) : ℕ := 256 * (i 0).val + 16 * (i 1).val + k

/-- Each subcore runs 16 trips. -/
theorem trips_eq : k0_t1_loop.trips = 16 := by decide

/-! ## The two guarded steps -/

/-- The next window is fetched on every trip but the last. -/
theorem cond1_iff : ∀ (i : grid0.Coords) (k : Fin k0_t1_loop.trips), k0_cond1 i k (word10 k.val) = 1#1 ↔ k.val < 15 := by decide +kernel
/-- Every trip waits for its window. -/
theorem cond2_eq : ∀ (i : grid0.Coords) (k : Fin k0_t1_loop.trips), k0_cond2 i k (word10 k.val) = 1#1 := by decide +kernel
/-- Every trip starts the copy of its block out. -/
theorem cond5_eq : ∀ (i : grid0.Coords) (k : Fin k0_t1_loop.trips), k0_cond5 i k (word10 k.val) = 1#1 := by decide +kernel
/-- Every trip but the first waits for the previous block's copy. -/
theorem cond7_iff : ∀ (i : grid0.Coords) (k : Fin k0_t1_loop.trips), k0_cond7 i k (word10 k.val) = 1#1 ↔ 0 < k.val := by decide +kernel

/-! ## The side conditions -/

/-- The bounds checked at the head of a trip hold. -/
theorem chk1 : ∀ (i : grid0.Coords) (k : Fin k0_t1_loop.trips), k0_chk1 i k (word6 k.val) (word7 k.val) (word7 k.val) (word9 k.val) (word10 k.val) := by decide +kernel
/-- The bounds of the gather's window slot hold. -/
theorem chk2 : ∀ k : Fin k0_t1_loop.trips, k0_chk2 (word7 k.val) := by decide +kernel
/-- The bounds of the gather's block slot hold. -/
theorem chk3 : ∀ k : Fin k0_t1_loop.trips, k0_chk3 (word7 k.val) := by decide +kernel
/-- The bounds of the last slot, after the loop, hold. -/
theorem chk4 : k0_chk4 (word9 16) := by decide +kernel
/-- The bounds of the last block, after the loop, hold. -/
theorem chk5 : ∀ i : grid0.Coords, k0_chk5 i (word10 16) := by decide +kernel

/-- The words carried out of trip `k`, as the loop computes them, are those of trip `k + 1`. -/
theorem next_words : ∀ (i : grid0.Coords) (k : Fin k0_t1_loop.trips),
    (let at0 : BitVec 1 := Scalar.cmpi .eq (Scf.iv 0#32 1#32 k.val) 0#32
     let at15 : BitVec 1 := Scalar.cmpi .eq (Scf.iv 0#32 1#32 k.val) 15#32
     let this : BitVec 32 := Scalar.addi (word10 k.val) (base i)
     let prev0 : BitVec 32 := Scalar.select 1#1 (Scalar.subi (word10 k.val) 1#32) (word10 k.val)
     let prev : BitVec 32 := Scalar.addi (Scalar.select (Scalar.cmpi .eq prev0 4294967295#32) 15#32 prev0) (base i)
     let next0 : BitVec 32 := Scalar.select 1#1 (Scalar.addi (word10 k.val) 1#32) (word10 k.val)
     let next : BitVec 32 := Scalar.addi (Scalar.select (Scalar.cmpi .eq next0 16#32) 0#32 next0) (base i)
     ((Scalar.select (Scalar.andi (Scalar.andi (Scalar.cmpi .ne this next) (Scalar.xori (Scalar.cmpi .sge (Scf.iv 0#32 1#32 k.val) 15#32) 1#1)) 1#1)
          (Scalar.addi (word6 k.val) 1#32) (word6 k.val),
       Scalar.select (Scalar.ori (Scalar.cmpi .ne this next) at15) (Scalar.addi (word7 k.val) 1#32) (word7 k.val),
       Scalar.select (Scalar.andi (Scalar.ori (Scalar.cmpi .ne this next) at15) 1#1) (Scalar.addi (word7 k.val) 1#32) (word7 k.val),
       Scalar.select (Scalar.andi (Scalar.andi (Scalar.cmpi .ne this prev) (Scalar.xori at0 1#1)) 1#1) (Scalar.addi (word9 k.val) 1#32) (word9 k.val),
       Scalar.select (Scalar.cmpi .eq next0 16#32) 0#32 next0) : BitVec 32 × BitVec 32 × BitVec 32 × BitVec 32 × BitVec 32))
      = words (k.val + 1) := by decide +kernel

/-! ## Slots and blocks -/

/-- The first window fetched is the one of the subcore's first block. -/
theorem off2_eq : ∀ i : grid0.Coords, k0_off2 i = ![0, 128 * blk i 0] := by decide +kernel
/-- The next window goes to the other slot. -/
theorem off4_eq : ∀ k : Fin k0_t1_loop.trips, k.val < 15 → k0_off4 (word6 k.val) = ![(k.val + 1) % 2, 0, 0] := by decide +kernel
/-- The next window is that of the next block. -/
theorem off5_eq : ∀ (i : grid0.Coords) (k : Fin k0_t1_loop.trips), k.val < 15 → k0_off5 i (word10 k.val) = ![0, 128 * blk i (k.val + 1)] := by decide +kernel
/-- The next window's semaphore is the other slot's. -/
theorem off6_eq : ∀ k : Fin k0_t1_loop.trips, k.val < 15 → k0_off6 (word6 k.val) = ![(k.val + 1) % 2] := by decide +kernel
/-- The window waited for is in this trip's slot. -/
theorem off7_eq : ∀ k : Fin k0_t1_loop.trips, k0_off7 (word7 k.val) = ![k.val % 2, 0, 0] := by decide +kernel
/-- The window waited for is that of this trip's block. -/
theorem off8_eq : ∀ (i : grid0.Coords) (k : Fin k0_t1_loop.trips), k0_off8 i (word10 k.val) = ![0, 128 * blk i k.val] := by decide +kernel
/-- The window's semaphore is this trip's slot's. -/
theorem off9_eq : ∀ k : Fin k0_t1_loop.trips, k0_off9 (word7 k.val) = ![k.val % 2] := by decide +kernel
/-- The gather writes this trip's block slot. -/
theorem off10_eq : ∀ k : Fin k0_t1_loop.trips, k0_off10 (word7 k.val) = ![k.val % 2, 0, 0, 0] := by decide +kernel
/-- The gather reads this trip's window slot. -/
theorem off11_eq : ∀ k : Fin k0_t1_loop.trips, k0_off11 (word7 k.val) = ![k.val % 2, 0, 0] := by decide +kernel
/-- The copy out reads this trip's block slot. -/
theorem off12_eq : ∀ k : Fin k0_t1_loop.trips, k0_off12 (word7 k.val) = ![k.val % 2, 0, 0, 0] := by decide +kernel
/-- The copy out writes this trip's block. -/
theorem off13_eq : ∀ (i : grid0.Coords) (k : Fin k0_t1_loop.trips), k0_off13 i (word10 k.val) = ![128 * blk i k.val, 0, 0] := by decide +kernel
/-- The copy out signals this trip's slot. -/
theorem off14_eq : ∀ k : Fin k0_t1_loop.trips, k0_off14 (word7 k.val) = ![k.val % 2] := by decide +kernel
/-- The copy waited for read the other slot. -/
theorem off15_eq : ∀ k : Fin k0_t1_loop.trips, 0 < k.val → k0_off15 (word9 k.val) = ![(k.val - 1) % 2, 0, 0, 0] := by decide +kernel
/-- The copy waited for wrote the previous trip's block. -/
theorem off16_eq : ∀ (i : grid0.Coords) (k : Fin k0_t1_loop.trips), 0 < k.val → k0_off16 i (word10 k.val) = ![128 * blk i (k.val - 1), 0, 0] := by decide +kernel
/-- The copy waited for signals the other slot. -/
theorem off17_eq : ∀ k : Fin k0_t1_loop.trips, 0 < k.val → k0_off17 (word9 k.val) = ![(k.val - 1) % 2] := by decide +kernel
/-- The last copy waited for wrote the subcore's last block. -/
theorem off19_eq : ∀ i : grid0.Coords, k0_off19 i (word10 16) = ![128 * blk i 15, 0, 0] := by decide +kernel
/-- The last copy waited for signals slot 1. -/
theorem off20_eq : k0_off20 (word9 16) = ![1] := by decide +kernel
/-- The last copy waited for read slot 1. -/
theorem off21_eq : k0_off21 (word9 16) = ![1, 0, 0, 0] := by decide +kernel

end Cert.Proof.Words

end
-- ==== Proof.Common.lean ====
/-
  The gather call's set-up: the program as the launch theorem sees it, the buffers, and the pieces of them a vector
  subcore names (the windows of the index row, the two index slots, the two row slots, the blocks of the result), each at
  literal offsets, with what a 32-bit offset of the program is in these terms.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Words

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type}

/-! ## The program as the launch theorem sees it -/

/-- The labels of the program: those of its code and of the pipelines it calls. -/
abbrev ΛP : Labels := Pipeline.Sig Λ₀ (Fin 0) fun p => (pcfgs (F := F) p).Adm
/-- The one SparseCore call of the program. -/
abbrev K : SparseCore.Cfg τ sig (ΛP (F := F)) 1 := sc (F := F)
/-- The call runs on 16 subcores of each SparseCore. -/
theorem nSub_zero : (K (F := F)).nSub 0 = 16 := rfl
/-- The call runs on 2 SparseCores. -/
theorem nCore_zero : (K (F := F)).nCore 0 = 2 := rfl
/-- The definitions that the program's labels stand for. -/
abbrev D [FloatOps F] : Defs nD τ sig (Elt F) (ΛP (F := F)) := Pipeline.defs pcfgs defs₀
/-- No loop variants of the code's own. -/
abbrev 𝒱₀ : Variants := Variants.none
/-- The loop variants, with the pipelines' labels. -/
abbrev 𝒱 : Variants := 𝒱₀.lift
/-- The variant of a loop that has none. -/
abbrev v₀ : 𝒱.V := Sum.inl none

/-- The side conditions of the call: its counts fit the machine's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state of the launch's rounds. -/
abbrev UH : Type := URounds (GSem nD τ sig) ℕ
/-- The ghost state of the whole proof: the rounds and the transfer counters. -/
abbrev UU : Type := UH × Counters

local notation "𝕄" => MT nD τ sig (HIx 1) (Elt F) ℕ UU ℕ

/-- Where the rounds lie in the ghost state. -/
abbrev EH : Emb UH (MT nD τ sig (HIx 1) (Elt F) ℕ UU ℕ) := embL

/-! ## The call's buffers -/

/-- The rows, the row numbers and the gathered rows, as device `d`'s TensorCore names them. -/
abbrev yLoc (d : Dev nD) : Loc nD τ sig := (SparseCore.T d).loc main_v0
/-- The array of row numbers in the memory of the device. -/
abbrev iLoc (d : Dev nD) : Loc nD τ sig := (SparseCore.T d).loc main_v10
/-- The array of gathered rows in the memory of the device. -/
abbrev oLoc (d : Dev nD) : Loc nD τ sig := (SparseCore.T d).loc main_v11

/-- The same three, and the two scratch buffers, as a vector subcore names them. -/
abbrev yV : Memref sig .scVector .hbm S178176x2x128 .i32 := Memref.whole main_v0_scv
/-- The row numbers as a subcore sees them. -/
abbrev iV : Memref sig .scVector .hbm S1x65536 .i32 := Memref.whole main_v10_scv
/-- The gathered rows as a subcore sees them. -/
abbrev oV : Memref sig .scVector .hbm S65536x2x128 .i32 := Memref.whole main_v11_scv
/-- The two slots of the window of row numbers in a subcore's memory. -/
abbrev aV : Memref sig .scVector .vmem S2x1x128 .i32 := Memref.whole cc0_scoped0
/-- The two slots of the block of rows in a subcore's memory. -/
abbrev rV : Memref sig .scVector .vmem S2x128x2x128 .i32 := Memref.whole cc0_scoped2

/-! ## Windows, slots, blocks -/

/-- Window `b` of 128 row numbers lies inside the array of them. -/
theorem win_inb (b : Fin 512) : ∀ a, (![0, 128 * b.val] : Fin 2 → ℕ) a + S1x128.size a ≤ S1x65536.size a := by
  intro a; have := b.isLt
  match a with
  | 0 => simp
  | 1 => simp; omega
/-- Block `b` of 128 rows lies inside the result. -/
theorem blk_inb (b : Fin 512) : ∀ a, (![128 * b.val, 0, 0] : Fin 3 → ℕ) a + S128x2x128.size a ≤ S65536x2x128.size a := by
  intro a; have := b.isLt
  match a with
  | 0 => simp; omega
  | 1 => simp
  | 2 => simp
/-- Slot `p` of the windows lies inside its buffer. -/
theorem inS_inb (p : Fin 2) : ∀ a, (![p.val, 0, 0] : Fin 3 → ℕ) a + S1x1x128.size a ≤ S2x1x128.size a := by revert p; decide
/-- Slot `p` of the blocks lies inside its buffer. -/
theorem outS_inb (p : Fin 2) : ∀ a, (![p.val, 0, 0, 0] : Fin 4 → ℕ) a + S1x128x2x128.size a ≤ S2x128x2x128.size a := by revert p; decide
/-- Semaphore `p` is one of the two. -/
theorem sem_inb (p : Fin 2) : ∀ a, (![p.val] : Fin 1 → ℕ) a + S1.size a ≤ S2.size a := by revert p; decide

/-- Window `b` of the row numbers: 128 of them. -/
abbrev win (b : Fin 512) : Memref sig .scVector .hbm S1x128 .i32 :=
  iV.slice (Rect.unit (s := S1x65536) ![0, 128 * b.val] S1x128.size (win_inb b)) (fun _ => rfl)
/-- Block `b` of the result: 128 rows. -/
abbrev oblk (b : Fin 512) : Memref sig .scVector .hbm S128x2x128 .i32 :=
  oV.slice (Rect.unit (s := S65536x2x128) ![128 * b.val, 0, 0] S128x2x128.size (blk_inb b)) (fun _ => rfl)
/-- Index slot `p`. -/
abbrev inSlot (p : Fin 2) : Memref sig .scVector .vmem S1x128 .i32 :=
  (aV.slice (Rect.unit (s := S2x1x128) ![p.val, 0, 0] S1x1x128.size (inS_inb p)) (fun _ => rfl)).squeeze S1x128 squeezes_S1x1x128_S1x128
/-- Index slot `p` as the list of 128 numbers that the gather reads. -/
abbrev offSlot (p : Fin 2) : Memref sig .scVector .vmem S128 .i32 :=
  ((inSlot p).slice (Rect.unit (s := S1x128) ![0, 0] S1x128.size inb_S1x128_S1x128_0_0) (fun _ => rfl)).squeeze S128 squeezes_S1x128_S128
/-- Row slot `p`. -/
abbrev outSlot (p : Fin 2) : Memref sig .scVector .vmem S128x2x128 .i32 :=
  (rV.slice (Rect.unit (s := S2x128x2x128) ![p.val, 0, 0, 0] S1x128x2x128.size (outS_inb p)) (fun _ => rfl)).squeeze S128x2x128 squeezes_S1x128x2x128_S128x2x128
/-- All the rows, as the gather names its source. -/
abbrev yAll : Memref sig .scVector .hbm S178176x2x128 .i32 :=
  yV.slice (Rect.unit (s := S178176x2x128) ![0, 0, 0] S178176x2x128.size inb_S178176x2x128_S178176x2x128_0_0_0) (fun _ => rfl)

/-- The counter of the fetches into index slot `p`, that of the write-outs of row slot `p`, the gather's. -/
abbrev inSem (p : Fin 2) : DmaSem sig :=
  ((cc0_scoped1.slice (Rect.unit (s := S2) ![p.val] S1.size (sem_inb p))).squeeze S_ squeezes_S1_S_).sem
/-- The semaphore of the copy out of slot `p`. -/
abbrev outSem (p : Fin 2) : DmaSem sig :=
  ((cc0_scoped3.slice (Rect.unit (s := S2) ![p.val] S1.size (sem_inb p))).squeeze S_ squeezes_S1_S_).sem
/-- The semaphore of the gather. -/
abbrev gSem : DmaSem sig := cc0_scoped4.sem

/-- Which slot trip `k` uses. -/
abbrev par (k : ℕ) : Fin 2 := ⟨k % 2, Nat.mod_lt _ (by decide)⟩
/-- Two trips on, the slot is the same. -/
theorem par_add_two (k : ℕ) : par (k + 2) = par k := Fin.ext (Nat.add_mod_right k 2)
/-- The block that subcore `i` gathers on trip `k`. -/
abbrev bOf (i : grid0.Coords) (k : ℕ) (h : k < 16) : Fin 512 :=
  ⟨blk i k, by have h0 : (i 0).val < 2 := (i 0).isLt; have h1 : (i 1).val < 16 := (i 1).isLt; unfold blk; omega⟩

/-! ## The program's slices are these -/

/-- A window whose offset is that of window `b` is window `b`. -/
theorem win_eq {off : Fin 2 → ℕ} {b : Fin 512} (h : off = ![0, 128 * b.val]) (inb : ∀ a, off a + S1x128.size a ≤ S1x65536.size a) :
    iV.slice (Rect.unit (s := S1x65536) off S1x128.size inb) (fun _ => rfl) = win b := by subst h; rfl
/-- A block whose offset is that of block `b` is block `b`. -/
theorem oblk_eq {off : Fin 3 → ℕ} {b : Fin 512} (h : off = ![128 * b.val, 0, 0]) (inb : ∀ a, off a + S128x2x128.size a ≤ S65536x2x128.size a) :
    oV.slice (Rect.unit (s := S65536x2x128) off S128x2x128.size inb) (fun _ => rfl) = oblk b := by subst h; rfl
/-- A window's slot whose offset is that of slot `p` is slot `p`. -/
theorem inSlot_eq {off : Fin 3 → ℕ} {p : Fin 2} (h : off = ![p.val, 0, 0]) (inb : ∀ a, off a + S1x1x128.size a ≤ S2x1x128.size a) :
    (aV.slice (Rect.unit (s := S2x1x128) off S1x1x128.size inb) (fun _ => rfl)).squeeze S1x128 squeezes_S1x1x128_S1x128 = inSlot p := by subst h; rfl
/-- A block's slot whose offset is that of slot `p` is slot `p`. -/
theorem outSlot_eq {off : Fin 4 → ℕ} {p : Fin 2} (h : off = ![p.val, 0, 0, 0]) (inb : ∀ a, off a + S1x128x2x128.size a ≤ S2x128x2x128.size a) :
    (rV.slice (Rect.unit (s := S2x128x2x128) off S1x128x2x128.size inb) (fun _ => rfl)).squeeze S128x2x128 squeezes_S1x128x2x128_S128x2x128 = outSlot p := by subst h; rfl
/-- An in-semaphore whose offset is `p` is the one of slot `p`. -/
theorem inSem_eq {off : Fin 1 → ℕ} {p : Fin 2} (h : off = ![p.val]) (inb : ∀ a, off a + S1.size a ≤ S2.size a) :
    ((cc0_scoped1.slice (Rect.unit (s := S2) off S1.size inb)).squeeze S_ squeezes_S1_S_).sem = inSem p := by subst h; rfl
/-- An out-semaphore whose offset is `p` is the one of slot `p`. -/
theorem outSem_eq {off : Fin 1 → ℕ} {p : Fin 2} (h : off = ![p.val]) (inb : ∀ a, off a + S1.size a ≤ S2.size a) :
    ((cc0_scoped3.slice (Rect.unit (s := S2) off S1.size inb)).squeeze S_ squeezes_S1_S_).sem = outSem p := by subst h; rfl

/-- The counters are five cells of one pool. -/
theorem inSem_ne : inSem 0 ≠ inSem 1 := by decide
/-- The two out-semaphores differ. -/
theorem outSem_ne : outSem 0 ≠ outSem 1 := by decide
/-- The five semaphores of a subcore, by number. -/
theorem inSem_val : inSem 0 = ⟨0, by decide⟩ ∧ inSem 1 = ⟨1, by decide⟩ ∧ outSem 0 = ⟨2, by decide⟩ ∧ outSem 1 = ⟨3, by decide⟩ ∧ gSem = ⟨4, by decide⟩ := by decide

/-! ## What each window, slot and block holds -/

/-- The places of a window's slot are a rectangle of its buffer. -/
theorem inSlot_set (p : Fin 2) : (inSlot p).view.set = (Rect.unit (s := S2x1x128) ![p.val, 0, 0] S1x1x128.size (inS_inb p)).set :=
  (View.set_reshape _ _).trans (View.set_slice_whole _ _)
/-- The places of a block's slot are a rectangle of its buffer. -/
theorem outSlot_set (p : Fin 2) : (outSlot p).view.set = (Rect.unit (s := S2x128x2x128) ![p.val, 0, 0, 0] S1x128x2x128.size (outS_inb p)).set :=
  (View.set_reshape _ _).trans (View.set_slice_whole _ _)
/-- The places of block `b` are a rectangle of the result. -/
theorem oblk_set (b : Fin 512) : (oblk b).view.set = (Rect.unit (s := S65536x2x128) ![128 * b.val, 0, 0] S128x2x128.size (blk_inb b)).set :=
  View.set_slice_whole _ _
/-- The places of window `b` are a rectangle of the array of row numbers. -/
theorem win_set (b : Fin 512) : (win b).view.set = (Rect.unit (s := S1x65536) ![0, 128 * b.val] S1x128.size (win_inb b)).set :=
  View.set_slice_whole _ _
/-- The view that the gather reads is the whole array of rows. -/
theorem yAll_set : yAll.view.set = Finset.univ := by
  refine (View.set_slice_whole _ _).trans (Finset.eq_univ_iff_forall.mpr fun x => ?_)
  rw [Rect.mem_set_unit]; intro a
  match a with
  | 0 => exact ⟨Nat.zero_le _, (Nat.zero_add _).symm ▸ (x 0).isLt⟩
  | 1 => exact ⟨Nat.zero_le _, (Nat.zero_add _).symm ▸ (x 1).isLt⟩
  | 2 => exact ⟨Nat.zero_le _, (Nat.zero_add _).symm ▸ (x 2).isLt⟩
/-- The list of row numbers that the gather reads fills the window's slot. -/
theorem offSlot_set (p : Fin 2) : (offSlot p).view.set = (inSlot p).view.set := by
  refine (View.set_reshape _ _).trans ((View.set_slice _ _).trans ?_)
  rw [show (Rect.unit (s := S1x128) ![0, 0] S1x128.size inb_S1x128_S1x128_0_0).set = Finset.univ from
    Finset.eq_univ_iff_forall.mpr fun x => by
      rw [Rect.mem_set_unit]; intro a
      match a with
      | 0 => exact ⟨Nat.zero_le _, (Nat.zero_add _).symm ▸ (x 0).isLt⟩
      | 1 => exact ⟨Nat.zero_le _, (Nat.zero_add _).symm ▸ (x 1).isLt⟩]
  rfl

end Cert.Proof.Gather

end
-- ==== Proof.Rows.lean ====
/-
  What one trip of the gather moves: the block's rows of the array, each at the number that the block's window of the row
  numbers holds for it.
-/
module

public import Idealize.ShloMosaic.Lib.ValueLayout
public import proofs.«01_k».proof.Proof.Common

@[expose] public section

noncomputable section

namespace Cert.Proof.Gather

open Cert.KernelIdeal Cert.KernelIdeal.Gen
open Idealize.ShloMosaic Idealize.ShloMosaic.ValueIdx Idealize.SL.Sem
open Cert.Proof.Words

variable {F : FTy → Type} [FloatOps F]

/-- The gathered rows: row `r` of the result is the row of `y` whose number `ix` holds at `r`. -/
def rowsAt (y : S178176x2x128.Idx → Elt F .i32) (ix : S1x65536.Idx → BitVec 32) (hin : ∀ j, (ix j).toNat < 178176) :
    S65536x2x128.Idx → Elt F .i32 :=
  fun j => y (ix3 (⟨(ix (ix2 (0 : Fin 1) (j 0))).toNat, hin _⟩ : Fin 178176) (j 1 : Fin 2) (j 2 : Fin 128))

/-- The number that the list in index slot `p` holds at `e`, once window `b` has landed there: the window's own. -/
theorem offSlot_read (p : Fin 2) (b : Fin 512) (ix : S1x65536.Idx → BitVec 32) (fd : S2x1x128.Idx → BitVec 32) (e : Fin 128) (h : 128 * b.val + e.val < 65536) :
    (offSlot p).view.read (Elt F) ((inSlot p).view.write (Elt F) fd ((win b).view.read (Elt F) ix) Finset.univ) (ix1 e)
      = ix (ix2 (0 : Fin 1) (⟨128 * b.val + e.val, h⟩ : Fin 65536)) := by
  have e1 : (Shape.reshapeEquiv squeezes_S1x128_S128.numel_eq (ix1 e) : S1x128.Idx) = ix2 (0 : Fin 1) e := by
    refine Shape.reshapeEquiv_eq_of_rowMajor _ ?_
    rw [Shape.rowMajor_val_two, Shape.rowMajor_val_one]
    show 0 * 128 + e.val = e.val
    omega
  have e2 : (offSlot p).view.emb (ix1 e) = (inSlot p).view.emb (ix2 (0 : Fin 1) e) := by
    show (inSlot p).view.emb ((Rect.unit (s := S1x128) ![0, 0] S1x128.size inb_S1x128_S1x128_0_0).emb (Shape.reshapeEquiv squeezes_S1x128_S128.numel_eq (ix1 e))) = _
    rw [e1]
    congr 1
    funext a; apply Fin.ext
    match a with
    | 0 => rfl
    | 1 => show 0 + 1 * e.val = e.val; omega
  rw [View.read_apply, e2, ← View.read_apply (v := (inSlot p).view), View.read_write_univ, View.read_apply]
  refine (cast_eq _ _).trans (congrArg ix ?_)
  funext a; apply Fin.ext
  match a with
  | 0 => rfl
  | 1 => show 128 * b.val + 1 * e.val = 128 * b.val + e.val; omega

/-- Every number the gather reads there is a row of `y`. -/
theorem offSlot_inb (p : Fin 2) (b : Fin 512) (ix : S1x65536.Idx → BitVec 32) (hin : ∀ j, (ix j).toNat < 178176) (fd : S2x1x128.Idx → BitVec 32) :
    ∀ x, ((offSlot p).view.read (Elt F) ((inSlot p).view.write (Elt F) fd ((win b).view.read (Elt F) ix) Finset.univ) x).toNat
      < S178176x2x128.size gathers_S178176x2x128_S128x2x128.axis := by
  intro x
  have hb := b.isLt
  have hx : (x 0).val < 128 := (x 0).isLt
  obtain ⟨e, rfl⟩ : ∃ e : Fin 128, x = ix1 e := ⟨x 0, funext fun a => match a with | 0 => rfl⟩
  have he : 128 * b.val + e.val < 65536 := by have := e.isLt; omega
  exact lt_of_eq_of_lt (congrArg BitVec.toNat (offSlot_read (F := F) p b ix fd e he)) (hin _)

/-- Entry `r` of a list of 128 is at place `r`. -/
theorem place_eq (h : 128 = S128.numel) (r : Fin 128) : S128.rowMajor.symm (r.cast h) = ix1 r :=
  S128.rowMajor.injective (Fin.ext (by rw [Equiv.apply_symm_apply, Shape.rowMajor_val_one]; rfl))

/-- The gathered block is the result's block. -/
theorem payload_eq (p : Fin 2) (b : Fin 512) (y : S178176x2x128.Idx → Elt F .i32) (ix : S1x65536.Idx → BitVec 32) (hin : ∀ j, (ix j).toNat < 178176)
    (fd : S2x1x128.Idx → BitVec 32) (x : S128x2x128.Idx) :
    SparseCore.gatherPayload gathers_S178176x2x128_S128x2x128 (yAll.view.read (Elt F) y)
        (SparseCore.rows ((offSlot p).view.read (Elt F) ((inSlot p).view.write (Elt F) fd ((win b).view.read (Elt F) ix) Finset.univ)) rfl
          (offSlot_inb p b ix hin fd)) x
      = rowsAt y ix hin ((oblk b).view.emb x) := by
  have hb := b.isLt
  have hx : (x 0).val < 128 := (x 0).isLt
  unfold SparseCore.gatherPayload
  rw [View.read_apply]
  refine (cast_eq _ _).trans ?_
  unfold rowsAt
  congr 1
  have he : 128 * b.val + (x 0).val < 65536 := by omega
  have hr := (congrArg (fun z => BitVec.toNat ((offSlot p).view.read (Elt F) ((inSlot p).view.write (Elt F) fd ((win b).view.read (Elt F) ix) Finset.univ) z))
    (place_eq rfl (x 0))).trans (congrArg BitVec.toNat (offSlot_read (F := F) p b ix fd (x 0) he))
  funext a; apply Fin.ext
  match a with
  | 0 =>
    refine ((Nat.zero_add _).trans (Nat.one_mul _)).trans (hr.trans (congrArg (fun z => (ix z).toNat) ?_))
    funext a; apply Fin.ext
    match a with
    | 0 => rfl
    | 1 => show 128 * b.val + (x 0).val = 128 * b.val + 1 * (x 0).val; omega
  | 1 => show 0 + 1 * (x 1).val = 0 + 1 * (x 1).val; rfl
  | 2 => show 0 + 1 * (x 2).val = 0 + 1 * (x 2).val; rfl

end Cert.Proof.Gather

end
-- ==== Proof.Tile.lean ====
/-
  One vector subcore's run of the gather call: sixteen trips, the fetch of the next window of row numbers and the
  write-out of the previous block in flight while the current block's rows are gathered.
-/
module

public import proofs.«01_k».proof.Proof.Rows

@[expose] public section

set_option maxRecDepth 16384

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

/-- The SparseCore of a place of the grid. -/
abbrev cV (L : grid0.Coords) : Fin τ.nSC := (L 0).castLE hcore0
/-- The subcore of a place of the grid. -/
abbrev jV (L : grid0.Coords) : Fin τ.nSub := (L 1).castLE hsub0

section Tile

variable (d : Dev nD) (L : grid0.Coords)
variable (y : S178176x2x128.Idx → Elt F .i32) (ix : S1x65536.Idx → BitVec 32) (hin : ∀ j, (ix j).toNat < 178176)
variable (o₀ : S65536x2x128.Idx → Elt F .i32)
variable (qy qi : PosShare TreeShare)

/-- The subcore's thread. -/
abbrev me : Thread nD τ := V d (cV L) (jV L)

/-- The half of the subcore's share of the row numbers that slot `p`'s fetches read through. -/
def half (p : Fin 2) : PosShare TreeShare := if p = 0 then qi.left else qi.right

/-- Index slot `p` at rest. -/
def InFree (p : Fin 2) : sProp 𝕄 :=
  iprop((∃ f, (inSlot p).view.loc (me d L) ↦[(inSlot p).view.set]{fullShare} f) ∗ semVal (me d L, SemLoc.dma (inSem p)) 0
    ∗ (iV.view.loc (me d L) ↦{half qi p} ix))

/-- Window `b` on its way into index slot `p`. -/
def InFly (p : Fin 2) (b : Fin 512) : sProp 𝕄 :=
  iprop((∃ f, Transfers.Flight countersEmb (me d L) (SemLoc.dma (inSem p)) (default : HIx 1) (inSlot p).view.dmaCredit
      iprop(((inSlot p).view.loc (me d L) ↦[(inSlot p).view.set]{fullShare} (inSlot p).view.write (Elt F) f ((win b).view.read (Elt F) ix) Finset.univ)
        ∗ ((win b).view.loc (me d L) ↦[(win b).view.set]{half qi p} ix)))
    ∗ (iV.view.loc (me d L) ↦[Finset.univ \ (win b).view.set]{half qi p} ix))

/-- Row slot `p` at rest. -/
def OutFree (p : Fin 2) : sProp 𝕄 :=
  iprop((∃ f, (outSlot p).view.loc (me d L) ↦[(outSlot p).view.set]{fullShare} f) ∗ semVal (me d L, SemLoc.dma (outSem p)) 0)

/-- Block `b` on its way out of row slot `p`. -/
def OutFly (p : Fin 2) (b : Fin 512) : sProp 𝕄 :=
  iprop(∃ f, ⌜∀ x, (outSlot p).view.read (Elt F) f x = rowsAt y ix hin ((oblk b).view.emb x)⌝
    ∗ Transfers.Flight countersEmb (me d L) (SemLoc.dma (outSem p)) (default : HIx 1) (oblk b).view.dmaCredit
      iprop(((oblk b).view.loc (me d L) ↦[(oblk b).view.set]{fullShare} (oblk b).view.write (Elt F) o₀ ((outSlot p).view.read (Elt F) f) Finset.univ)
        ∗ ((outSlot p).view.loc (me d L) ↦[(outSlot p).view.set]{fullShare} f)))

/-- Block `k` of the subcore's sixteen, holding `f`. -/
def Blk (f : S65536x2x128.Idx → Elt F .i32) (k : Fin 16) : sProp 𝕄 :=
  iprop(oLoc d ↦[(oblk (bOf L k.val k.isLt)).view.set]{fullShare} f)

/-- The fetches before trip `k`. -/
def Ins (k : ℕ) : sProp 𝕄 :=
  iprop((if h : k < 16 then InFly d L ix qi (par k) (bOf L k h) else InFree d L ix qi (par k)) ∗ InFree d L ix qi (par (k + 1)))

/-- The write-outs before trip `k`. -/
def Outs (k : ℕ) : sProp 𝕄 :=
  iprop(OutFree (F := F) d L (par k)
    ∗ (if h : 0 < k ∧ k < 17 then OutFly d L y ix hin o₀ (par (k + 1)) (bOf L (k - 1) (by omega)) else OutFree (F := F) d L (par (k + 1))))

/-- The blocks before trip `k`: those written, those still to be written. -/
def Blks (k : ℕ) : sProp 𝕄 :=
  iprop((bigSep (Finset.univ.filter fun j : Fin 16 => j.val + 1 < k) (Blk d L (rowsAt y ix hin)))
    ∗ bigSep (Finset.univ.filter fun j : Fin 16 => k ≤ j.val) (Blk d L o₀))

omit [FloatOps F] in
/-- The next block to be written taken out of those still to be written. -/
theorem todo_step (f : S65536x2x128.Idx → Elt F .i32) (k : ℕ) (h : k < 16) :
    (bigSep (Finset.univ.filter fun j : Fin 16 => k ≤ j.val) (Blk d L f) : sProp 𝕄)
      = iprop(Blk d L f ⟨k, h⟩ ∗ bigSep (Finset.univ.filter fun j : Fin 16 => k + 1 ≤ j.val) (Blk d L f)) := by
  rw [show (Finset.univ.filter fun j : Fin 16 => k ≤ j.val) = insert (⟨k, h⟩ : Fin 16) (Finset.univ.filter fun j : Fin 16 => k + 1 ≤ j.val) from by
    ext j; simp only [Finset.mem_filter, Finset.mem_univ, true_and, Finset.mem_insert, Fin.ext_iff]; omega]
  exact SparseCore.bigSep_insert' (by simp)

omit [FloatOps F] in
/-- A block just written put with those written. -/
theorem done_step (f : S65536x2x128.Idx → Elt F .i32) (k : ℕ) (h0 : 0 < k) (h : k - 1 < 16) :
    (bigSep (Finset.univ.filter fun j : Fin 16 => j.val + 1 < k + 1) (Blk d L f) : sProp 𝕄)
      = iprop(Blk d L f ⟨k - 1, h⟩ ∗ bigSep (Finset.univ.filter fun j : Fin 16 => j.val + 1 < k) (Blk d L f)) := by
  rw [show (Finset.univ.filter fun j : Fin 16 => j.val + 1 < k + 1) = insert (⟨k - 1, h⟩ : Fin 16) (Finset.univ.filter fun j : Fin 16 => j.val + 1 < k) from by
    ext j; simp only [Finset.mem_filter, Finset.mem_univ, true_and, Finset.mem_insert, Fin.ext_iff]; omega]
  exact SparseCore.bigSep_insert' (by simp; omega)

/-- What the subcore owes: every wait of its own on the call's counters. -/
def Owed (O : CellTallies nD τ sig (HIx 1)) (W : Waits sig (HIx 1)) : sProp 𝕄 :=
  iprop(∃ W', ⌜∀ p ∈ W', p ∈ W ∨ p.2 = none⌝ ∗ owes (me d L) O W')

/-- Everything before trip `k`. -/
def inv (O : CellTallies nD τ sig (HIx 1)) (W : Waits sig (HIx 1)) (k : ℕ) (w : BitVec 32 × BitVec 32 × BitVec 32 × BitVec 32 × BitVec 32) : sProp 𝕄 :=
  iprop(⌜w = words k⌝ ∗ Transfers.MayWaits (me d L) (default : HIx 1) O
    ∗ Ins d L ix qi k ∗ Outs d L y ix hin o₀ k ∗ Blks d L y ix hin o₀ k
    ∗ (yV.view.loc (me d L) ↦{qy} y) ∗ semVal (me d L, SemLoc.dma gSem) 0
    ∗ Owed d L O W)

/-- The trip's program. -/
abbrev trip := k0_t1_body (F := F) L yV (Memref.isWhole_whole _) iV (Memref.isWhole_whole _) oV (Memref.isWhole_whole _)
            aV (Memref.isWhole_whole _) cc0_scoped1 rV (Memref.isWhole_whole _) cc0_scoped3 cc0_scoped4 (base L)

omit [FloatOps F] in
/-- What a subcore still owes does not change when a wait that owes nothing is recorded. -/
theorem owed_insert (O : CellTallies nD τ sig (HIx 1)) (W W' : Waits sig (HIx 1)) (sm : SemLoc sig) (hW : ∀ p ∈ W', p ∈ W ∨ p.2 = none) :
    owes (me d L) O (insert (sm, (default : HIx 1)) W') ⊢ (iprop(∃ W'', ⌜∀ p ∈ W'', p ∈ W ∨ p.2 = none⌝ ∗ owes (me d L) O W'') : sProp 𝕄) := by
  iintro HO
  iexists _; isplitr
  swap; · iexact HO
  ipureintro; intro p hp
  rcases Finset.mem_insert.mp hp with hp | hp
  · exact .inr (hp ▸ rfl)
  · exact hW p hp

/-- Window `b` landed in index slot `p`. -/
def Landed (p : Fin 2) (b : Fin 512) : sProp 𝕄 :=
  iprop((∃ f, (inSlot p).view.loc (me d L) ↦[(inSlot p).view.set]{fullShare} (inSlot p).view.write (Elt F) f ((win b).view.read (Elt F) ix) Finset.univ)
    ∗ semVal (me d L, SemLoc.dma (inSem p)) 0 ∗ (iV.view.loc (me d L) ↦{half qi p} ix))

/-- Row slot `p` holding block `b` of the result. -/
def OutFull (p : Fin 2) (b : Fin 512) : sProp 𝕄 :=
  iprop((∃ f, ⌜∀ x, (outSlot p).view.read (Elt F) f x = rowsAt y ix hin ((oblk b).view.emb x)⌝
    ∗ ((outSlot p).view.loc (me d L) ↦[(outSlot p).view.set]{fullShare} f)) ∗ semVal (me d L, SemLoc.dma (outSem p)) 0)

section Steps

variable {d L y ix hin o₀ qy qi}
variable {α : Type} {Q : α → sProp (MT nD τ sig (HIx 1) (Elt F) ℕ UU ℕ)} {k : PUnit → Prog (TpuEff nD τ sig (Elt F) Λ₀ (me d L).2) α}
variable {O : CellTallies nD τ sig (HIx 1)} {W : Waits sig (HIx 1)}

/-- The fetch of a window begins. -/
theorem fetch_start (p : Fin 2) (b : Fin 512) {hsrc : (win b).view.WordExact} {hdst : (inSlot p).view.WordExact} :
    InFree (F := F) d L ix qi p
      ⊢ iprop((InFly d L ix qi p b -∗ wp frame (wpE (defs₀ (F := F)) 𝒱₀ (me d L) none) Set.univ (k ⟨⟩) Q)
          -∗ wp frame (wpE (defs₀ (F := F)) 𝒱₀ (me d L) none) Set.univ (.op (.enqueueDma (win b) (.here (inSlot p)) (.dma (inSem p)) hsrc hdst ⟨Or.inl rfl, trivial⟩) k) Q) := by
  unfold InFree InFly
  iintro ⟨⟨%f, Hs⟩, Hv, Hi⟩ Hk
  ihave Hi' := (pointsTo_split_subset (ℓ := iV.view.loc (me d L)) (q := half qi p) (f := ix) (S := Finset.univ) (Finset.subset_univ (win b).view.set)).1 $$ Hi
  icases Hi' with ⟨Hw, Hr⟩
  iapply (Transfers.wp_dmaLocal countersEmb 𝒱₀ (me d L) none (default : HIx 1) (inSlot p).view.dmaCredit rfl
    (View.amount_pos (inSlot p).view (SemLoc.dma (inSem p)) (show 0 < S1x128.numel by decide)) (Finset.Subset.refl _)) $$ [Hw Hs Hv]
  · isplitl [Hw]; · iexact Hw
    isplitl [Hs]; · iexact Hs
    iexact Hv
  iintro Hfl
  iapply Hk
  isplitl [Hfl]
  · iexists f; iexact Hfl
  · iexact Hr

/-- The fetch of a window is waited for. -/
theorem fetch_wait (p : Fin 2) (b : Fin 512) {hsrc : (win b).view.WordExact} {hdst : (inSlot p).view.WordExact} :
    iprop(Transfers.MayWaits (me d L) (default : HIx 1) O ∗ InFly (F := F) d L ix qi p b ∗ Owed d L O W)
      ⊢ iprop((iprop(Landed d L ix qi p b ∗ Owed d L O W) -∗ wp frame (wpE (defs₀ (F := F)) 𝒱₀ (me d L) none) Set.univ (k ⟨⟩) Q)
          -∗ wp frame (wpE (defs₀ (F := F)) 𝒱₀ (me d L) none) Set.univ (.op (.waitDma2 (inSem p) (win b) (inSlot p) hsrc hdst) k) Q) := by
  unfold InFly Landed Owed
  iintro ⟨Hmw, ⟨⟨%f, Hfl⟩, Hr⟩, ⟨%W', %hW, HO⟩⟩ Hk
  iapply (Transfers.wp_waitLocalO countersEmb 𝒱₀ (me d L) none (default : HIx 1) (rfl : (inSlot p).view.dmaCredit = _)) $$ [Hfl HO Hmw]
  · isplitl [Hfl]; · iexact Hfl
    isplitl [HO]; · iexact HO
    iapply (Transfers.MayWaits.elim (SemLoc.dma (inSem p))) $$ Hmw
  iintro ⟨⟨Hs, Hw⟩, Hv, HO⟩
  ihave Hi := (pointsTo_split_subset (ℓ := iV.view.loc (me d L)) (q := half qi p) (f := ix) (S := Finset.univ) (Finset.subset_univ (win b).view.set)).2 $$ [Hw Hr]; · isplitl [Hw] <;> iassumption
  iapply Hk
  isplitr [HO]
  · isplitl [Hs]; · iexists f; iexact Hs
    isplitl [Hv] <;> iassumption
  · iapply (owed_insert d L O W W' (SemLoc.dma (inSem p)) hW); iexact HO

/-- The gather of a block's rows, through its window landed in slot `p`, into row slot `q`. -/
def GFly (d : Dev nD) (L : grid0.Coords) (y : S178176x2x128.Idx → Elt F .i32) (ix : S1x65536.Idx → BitVec 32) (hin : ∀ j, (ix j).toNat < 178176)
    (qy qi : PosShare TreeShare) (p q : Fin 2) (b : Fin 512) : sProp 𝕄 :=
  iprop((∃ fd g f, ⌜∀ x, g x = rowsAt y ix hin ((oblk b).view.emb x)⌝
      ∗ Transfers.Flight countersEmb (me d L) (SemLoc.dma gSem) (default : HIx 1) (outSlot q).view.dmaCredit
        iprop(((outSlot q).view.loc (me d L) ↦[(outSlot q).view.set]{fullShare} (outSlot q).view.write (Elt F) fd g Finset.univ)
          ∗ (yAll.view.loc (me d L) ↦[yAll.view.set]{qy} y)
          ∗ ((offSlot p).view.loc (me d L) ↦[(offSlot p).view.set]{fullShare} f)))
    ∗ semVal (me d L, SemLoc.dma (inSem p)) 0 ∗ (iV.view.loc (me d L) ↦{half qi p} ix) ∗ semVal (me d L, SemLoc.dma (outSem q)) 0)

/-- The rows of a row slot, one by one, are credited what the slot is. -/
theorem rows_credit : ∀ (q : Fin 2) (h : S178176x2x128.Gathers 0 S128x2x128),
    ∑ j, ((outSlot q).slice (S128x2x128.rowRect h.axis' j) (S128x2x128.stride_rowRect h.axis' j)).view.dmaCredit = (outSlot q).view.dmaCredit := by decide

/-- The gather begins. -/
theorem gather_start (p q : Fin 2) (b : Fin 512) {hsrc : yAll.view.WordExact} {he : (EltTy.i32).bits = 32} {hn : S128.numel = S128x2x128.size gathers_S178176x2x128_S128x2x128.axis'}
    {hp : (me d L).2.kind = .scVector} {hr : S178176x2x128.StreamRows 0} :
    iprop(Landed (F := F) d L ix qi p b ∗ OutFree d L q ∗ (yV.view.loc (me d L) ↦{qy} y) ∗ semVal (me d L, SemLoc.dma gSem) 0)
      ⊢ iprop((GFly d L y ix hin qy qi p q b -∗ wp frame (wpE (defs₀ (F := F)) 𝒱₀ (me d L) none) Set.univ (k ⟨⟩) Q)
          -∗ wp frame (wpE (defs₀ (F := F)) 𝒱₀ (me d L) none) Set.univ
            (SparseCore.enqueueIndirectGather hp yAll (outSlot q) gathers_S178176x2x128_S128x2x128 (offSlot p) hn gSem hsrc he (.inl rfl) hr >>= k) Q) := by
  unfold Landed OutFree GFly
  iintro ⟨⟨⟨%f, Hs⟩, Hvi, Hi⟩, ⟨⟨%fd, Ho⟩, Hvo⟩, Hy, Hvg⟩ Hk
  ihave Hs' := (Entails.of_eq (show ((inSlot p).view.loc (me d L) ↦[(inSlot p).view.set]{fullShare} (inSlot p).view.write (Elt F) f ((win b).view.read (Elt F) ix) Finset.univ : sProp (MT nD τ sig (HIx 1) (Elt F) ℕ UU ℕ))
      = ((offSlot p).view.loc (me d L) ↦[(offSlot p).view.set]{fullShare} (inSlot p).view.write (Elt F) f ((win b).view.read (Elt F) ix) Finset.univ) by rw [offSlot_set])) $$ Hs
  ihave Hy' := (Entails.of_eq (show (yV.view.loc (me d L) ↦{qy} y : sProp (MT nD τ sig (HIx 1) (Elt F) ℕ UU ℕ))
      = (yAll.view.loc (me d L) ↦[yAll.view.set]{qy} y) by rw [yAll_set])) $$ Hy
  iapply (SparseCore.wp_indirectGatherLocal countersEmb 𝒱₀ (me d L) none (hg := gathers_S178176x2x128_S128x2x128) (default : HIx 1)
      (outSlot q).view.dmaCredit (rows_credit q _) (by decide) (offSlot_inb p b ix hin f)) $$ [Hy' Ho Hs' Hvg]
  · isplitl [Hy']; · iexact Hy'
    isplitl [Ho]; · iexact Ho
    isplitl [Hs']; · iexact Hs'
    iexact Hvg
  iintro Hfl
  iapply Hk
  isplitl [Hfl]
  · iexists fd, _, _
    isplitr
    swap
    · iexact Hfl
    · ipureintro; exact payload_eq p b y ix hin f
  · isplitl [Hvi]; · iexact Hvi
    isplitl [Hi] <;> iassumption

/-- The gather is waited for. -/
theorem gather_wait (p q : Fin 2) (b : Fin 512) {hsrc : yAll.view.WordExact} {hdst : (outSlot q).view.WordExact} :
    iprop(Transfers.MayWaits (me d L) (default : HIx 1) O ∗ GFly (F := F) d L y ix hin qy qi p q b ∗ Owed d L O W)
      ⊢ iprop((iprop(InFree d L ix qi p ∗ OutFull d L y ix hin q b ∗ (yV.view.loc (me d L) ↦{qy} y) ∗ semVal (me d L, SemLoc.dma gSem) 0 ∗ Owed d L O W)
            -∗ wp frame (wpE (defs₀ (F := F)) 𝒱₀ (me d L) none) Set.univ (k ⟨⟩) Q)
          -∗ wp frame (wpE (defs₀ (F := F)) 𝒱₀ (me d L) none) Set.univ (.op (.waitDma2 gSem yAll (outSlot q) hsrc hdst) k) Q) := by
  unfold GFly InFree OutFull Owed
  iintro ⟨Hmw, ⟨⟨%fd, %g, %f, %hg, Hfl⟩, Hvi, Hi, Hvo⟩, ⟨%W', %hW, HO⟩⟩ Hk
  iapply (Transfers.wp_waitLocalO countersEmb 𝒱₀ (me d L) none (default : HIx 1) (rfl : (outSlot q).view.dmaCredit = _)) $$ [Hfl HO Hmw]
  · isplitl [Hfl]; · iexact Hfl
    isplitl [HO]; · iexact HO
    iapply (Transfers.MayWaits.elim (SemLoc.dma gSem)) $$ Hmw
  iintro ⟨⟨Ho, Hy, Hs⟩, Hvg, HO⟩
  ihave Hs' := (Entails.of_eq (show ((offSlot p).view.loc (me d L) ↦[(offSlot p).view.set]{fullShare} f : sProp (MT nD τ sig (HIx 1) (Elt F) ℕ UU ℕ))
      = ((inSlot p).view.loc (me d L) ↦[(inSlot p).view.set]{fullShare} f) by rw [offSlot_set])) $$ Hs
  ihave Hy' := (Entails.of_eq (show (yAll.view.loc (me d L) ↦[yAll.view.set]{qy} y : sProp (MT nD τ sig (HIx 1) (Elt F) ℕ UU ℕ))
      = (yV.view.loc (me d L) ↦{qy} y) by rw [yAll_set])) $$ Hy
  iapply Hk
  isplitl [Hs' Hvi Hi]
  · isplitl [Hs']; · iexists f; iexact Hs'
    isplitl [Hvi] <;> iassumption
  isplitl [Ho Hvo]
  · isplitl [Ho]
    · iexists _; isplitr
      swap; · iexact Ho
      ipureintro; intro x; rw [View.read_write_univ]; exact hg x
    · iexact Hvo
  isplitl [Hy']; · iexact Hy'
  isplitl [Hvg]; · iexact Hvg
  iapply (owed_insert d L O W W' (SemLoc.dma gSem) hW); iexact HO

/-- A block's write-out begins. -/
theorem out_start (q : Fin 2) (b : Fin 512) {hsrc : (outSlot q).view.WordExact} {hdst : (oblk b).view.WordExact} :
    iprop(OutFull (F := F) d L y ix hin q b ∗ (oLoc d ↦[(oblk b).view.set]{fullShare} o₀))
      ⊢ iprop((OutFly d L y ix hin o₀ q b -∗ wp frame (wpE (defs₀ (F := F)) 𝒱₀ (me d L) none) Set.univ (k ⟨⟩) Q)
          -∗ wp frame (wpE (defs₀ (F := F)) 𝒱₀ (me d L) none) Set.univ (.op (.enqueueDma (outSlot q) (.here (oblk b)) (.dma (outSem q)) hsrc hdst ⟨Or.inl rfl, trivial⟩) k) Q) := by
  unfold OutFull OutFly
  iintro ⟨⟨⟨%f, %hf, Hs⟩, Hv⟩, Ho⟩ Hk
  iapply (Transfers.wp_dmaLocal countersEmb 𝒱₀ (me d L) none (default : HIx 1) (oblk b).view.dmaCredit rfl
    (View.amount_pos (oblk b).view (SemLoc.dma (outSem q)) (show 0 < S128x2x128.numel by decide)) (Finset.Subset.refl _)) $$ [Ho Hs Hv]
  · isplitl [Hs]; · iexact Hs
    isplitl [Ho]; · iexact Ho
    iexact Hv
  iintro Hfl
  iapply Hk
  iexists f; isplitr
  · ipureintro; exact hf
  · iexact Hfl

/-- A block's write-out is waited for: the block holds its rows. -/
theorem out_wait (q : Fin 2) (b : Fin 512) {hsrc : (outSlot q).view.WordExact} {hdst : (oblk b).view.WordExact} :
    iprop(Transfers.MayWaits (me d L) (default : HIx 1) O ∗ OutFly (F := F) d L y ix hin o₀ q b ∗ Owed d L O W)
      ⊢ iprop((iprop(OutFree (F := F) d L q ∗ (oLoc d ↦[(oblk b).view.set]{fullShare} rowsAt y ix hin) ∗ Owed d L O W)
            -∗ wp frame (wpE (defs₀ (F := F)) 𝒱₀ (me d L) none) Set.univ (k ⟨⟩) Q)
          -∗ wp frame (wpE (defs₀ (F := F)) 𝒱₀ (me d L) none) Set.univ (.op (.waitDma2 (outSem q) (outSlot q) (oblk b) hsrc hdst) k) Q) := by
  unfold OutFly OutFree Owed
  iintro ⟨Hmw, ⟨%f, %hf, Hfl⟩, ⟨%W', %hW, HO⟩⟩ Hk
  iapply (Transfers.wp_waitLocalO countersEmb 𝒱₀ (me d L) none (default : HIx 1) (rfl : (oblk b).view.dmaCredit = _)) $$ [Hfl HO Hmw]
  · isplitl [Hfl]; · iexact Hfl
    isplitl [HO]; · iexact HO
    iapply (Transfers.MayWaits.elim (SemLoc.dma (outSem q))) $$ Hmw
  iintro ⟨⟨Ho, Hs⟩, Hv, HO⟩
  ihave Ho' := (Entails.of_eq (show ((oblk b).view.loc (me d L) ↦[(oblk b).view.set]{fullShare} (oblk b).view.write (Elt F) o₀ ((outSlot q).view.read (Elt F) f) Finset.univ
        : sProp (MT nD τ sig (HIx 1) (Elt F) ℕ UU ℕ))
      = ((oblk b).view.loc (me d L) ↦[(oblk b).view.set]{fullShare} rowsAt y ix hin) from
    pointsTo_congr (ℓ := (oblk b).view.loc (me d L)) (fun i hi => by
      obtain ⟨x, rfl⟩ := View.exists_emb_of_mem_set (v := (oblk b).view) hi
      rw [View.write_emb_of_mem _ _ (Finset.mem_univ x)]
      exact (cast_eq _ _).trans (hf x)))) $$ Ho
  iapply Hk
  isplitl [Hs Hv]
  · isplitl [Hs]; · iexists f; iexact Hs
    iexact Hv
  isplitl [Ho']; · iexact Ho'
  iapply (owed_insert d L O W W' (SemLoc.dma (outSem q)) hW); iexact HO

end Steps

/-- The trip's guarded step, taken or not. -/
theorem par_pred {k : ℕ} (h : 0 < k) : par (k - 1) = par (k + 1) := Fin.ext (show (k - 1) % 2 = (k + 1) % 2 by omega)

/-- The fetches before a trip that has one to wait for. -/
theorem Ins_lt (k : ℕ) (h : k < 16) :
    Ins (F := F) d L ix qi k = iprop(InFly d L ix qi (par k) (bOf L k h) ∗ InFree d L ix qi (par (k + 1))) := by
  unfold Ins; rw [dif_pos h]

/-- The fetches after the last trip. -/
theorem Ins_last (k : ℕ) (h : k = 15) :
    Ins (F := F) d L ix qi (k + 1) = iprop(InFree d L ix qi (par (k + 1)) ∗ InFree d L ix qi (par k)) := by
  unfold Ins; rw [dif_neg (by omega), par_add_two]

/-- The write-outs before the first trip. -/
theorem Outs_first (k : ℕ) (h : k = 0) :
    Outs (F := F) d L y ix hin o₀ k = iprop(OutFree (F := F) d L (par k) ∗ OutFree (F := F) d L (par (k + 1))) := by
  unfold Outs; rw [dif_neg (by omega)]

/-- The write-outs before a later trip. -/
theorem Outs_pos (k : ℕ) (h : 0 < k) (h' : k < 17) :
    Outs (F := F) d L y ix hin o₀ k
      = iprop(OutFree (F := F) d L (par k) ∗ OutFly d L y ix hin o₀ (par (k - 1)) (bOf L (k - 1) (by omega))) := by
  unfold Outs; rw [dif_pos ⟨h, h'⟩, par_pred h]

/-- The write-outs after a trip. -/
theorem Outs_succ (k : ℕ) (h : k < 16) :
    Outs (F := F) d L y ix hin o₀ (k + 1)
      = iprop(OutFree (F := F) d L (par (k + 1)) ∗ OutFly d L y ix hin o₀ (par k) (bOf L k h)) :=
  Outs_pos d L y ix hin o₀ (k + 1) (by omega) (by omega)

/-- The blocks before a trip: its own is the first of those to be written. -/
theorem Blks_todo (k : ℕ) (h : k < 16) :
    Blks (F := F) d L y ix hin o₀ k
      = iprop((bigSep (Finset.univ.filter fun j : Fin 16 => j.val + 1 < k) (Blk d L (rowsAt y ix hin)))
        ∗ ((oLoc d ↦[(oblk (bOf L k h)).view.set]{fullShare} o₀) ∗ bigSep (Finset.univ.filter fun j : Fin 16 => k + 1 ≤ j.val) (Blk d L o₀))) := by
  unfold Blks; rw [todo_step d L o₀ k h]; rfl

/-- The blocks after the first trip. -/
theorem Blks_first (k : ℕ) (h : k = 0) : Blks (F := F) d L y ix hin o₀ (k + 1)
      = iprop((bigSep (Finset.univ.filter fun j : Fin 16 => j.val + 1 < k) (Blk d L (rowsAt y ix hin)))
        ∗ bigSep (Finset.univ.filter fun j : Fin 16 => k + 1 ≤ j.val) (Blk d L o₀)) := by
  subst h
  unfold Blks
  rw [show (Finset.univ.filter fun j : Fin 16 => j.val + 1 < 0 + 1) = (Finset.univ.filter fun j : Fin 16 => j.val + 1 < 0) from by decide]

/-- The blocks after a later trip: the one before its own is written. -/
theorem Blks_done (k : ℕ) (h0 : 0 < k) (h : k - 1 < 16) :
    Blks (F := F) d L y ix hin o₀ (k + 1)
      = iprop(((oLoc d ↦[(oblk (bOf L (k - 1) h)).view.set]{fullShare} rowsAt y ix hin)
          ∗ bigSep (Finset.univ.filter fun j : Fin 16 => j.val + 1 < k) (Blk d L (rowsAt y ix hin)))
        ∗ bigSep (Finset.univ.filter fun j : Fin 16 => k + 1 ≤ j.val) (Blk d L o₀)) := by
  unfold Blks; rw [done_step d L (rowsAt y ix hin) k h0 h]; rfl

set_option maxHeartbeats 4000000 in
/-- A trip with a window to fetch ahead and a write-out to wait for. -/
theorem trip_mid (O : CellTallies nD τ sig (HIx 1)) (W : Waits sig (HIx 1)) (k : Fin k0_t1_loop.trips) (h1 : k.val < 15) (h7 : 0 < k.val) :
    inv d L y ix hin o₀ qy qi O W k.val (words k.val)
      ⊢ wp frame (wpE (defs₀ (F := F)) 𝒱₀ (me d L) none) Set.univ (trip L k (words k.val)) (inv d L y ix hin o₀ qy qi O W (k.val + 1)) := by
  have hk : k.val < 16 := lt_of_lt_of_eq k.isLt trips_eq
  have hnext := next_words L k
  have hk1 : k.val + 1 < 16 := by omega
  have hkm : k.val - 1 < 16 := by omega
  generalize hQ : inv d L y ix hin o₀ qy qi O W (k.val + 1) = Q
  unfold inv
  rw [Ins_lt d L ix qi k.val hk, Outs_pos d L y ix hin o₀ k.val h7 (by omega), Blks_todo d L y ix hin o₀ k.val hk]
  unfold trip k0_t1_body words
  simp only [k0_part1_eq_skeleton, k0_part2_eq_skeleton]
  unfold k0_part1_skel k0_part2_skel
  simp only [inSlot_eq (p := par k.val) (off7_eq k), inSlot_eq (p := par k.val) (off11_eq k), outSlot_eq (p := par k.val) (off10_eq k), outSlot_eq (p := par k.val) (off12_eq k),
    inSem_eq (p := par k.val) (off9_eq k), outSem_eq (p := par k.val) (off14_eq k), win_eq (b := bOf L k.val hk) (off8_eq L k), oblk_eq (b := bOf L k.val hk) (off13_eq L k),
    dif_pos (cond2_eq L k), dif_pos (cond5_eq L k), ite_self,
    dif_pos ((cond1_iff L k).mpr h1), inSlot_eq (p := par (k.val + 1)) (off4_eq k h1), inSem_eq (p := par (k.val + 1)) (off6_eq k h1), win_eq (b := bOf L (k.val + 1) (by omega)) (off5_eq L k h1),
    dif_pos ((cond7_iff L k).mpr h7), outSlot_eq (p := par (k.val - 1)) (off15_eq k h7), outSem_eq (p := par (k.val - 1)) (off17_eq k h7), oblk_eq (b := bOf L (k.val - 1) (by omega)) (off16_eq L k h7),
    Prog.bind_assoc, Prog.bind_op, Prog.bind_lift, Prog.bind_ret, pure_bind, Prog.pure_eq_ret]
  iintro ⟨-, #Hmw, ⟨Hin, Hin'⟩, ⟨Hout, Hout'⟩, ⟨Hdn, ⟨Hb, Htd⟩⟩, Hy, Hvg, HO⟩
  iapply (wp_assume 𝒱₀ (me d L) none Set.univ (chk3 k))
  iapply (wp_assume 𝒱₀ (me d L) none Set.univ (chk2 k))
  iapply (wp_assume 𝒱₀ (me d L) none Set.univ (chk1 L k))
  iapply (fetch_start (par (k.val + 1)) (bOf L (k.val + 1) hk1)) $$ Hin'
  iintro Hnext
  iapply (fetch_wait (par k.val) (bOf L k.val hk)) $$ [Hin HO]
  · isplitr; · iexact Hmw
    isplitl [Hin] <;> iassumption
  iintro ⟨Hld, HO⟩
  iapply (gather_start (y := y) (hin := hin) (qy := qy) (par k.val) (par k.val) (bOf L k.val hk)) $$ [Hld Hout Hy Hvg]
  · isplitl [Hld]; · iexact Hld
    isplitl [Hout]; · iexact Hout
    isplitl [Hy] <;> iassumption
  iintro Hg
  iapply (gather_wait (y := y) (hin := hin) (par k.val) (par k.val) (bOf L k.val hk)) $$ [Hg HO]
  · isplitr; · iexact Hmw
    isplitl [Hg] <;> iassumption
  iintro ⟨Hin, Hfull, Hy, Hvg, HO⟩
  iapply (out_start (y := y) (hin := hin) (par k.val) (bOf L k.val hk)) $$ [Hfull Hb]
  · isplitl [Hfull] <;> iassumption
  iintro Hfly
  iapply (out_wait (par (k.val - 1)) (bOf L (k.val - 1) hkm)) $$ [Hout' HO]
  · isplitr; · iexact Hmw
    isplitl [Hout'] <;> iassumption
  iintro ⟨Hofree, Hblk, HO⟩
  iapply (le_wp_ret _ _)
  subst hQ
  unfold inv
  rw [Ins_lt d L ix qi (k.val + 1) (by omega), par_add_two, Outs_succ d L y ix hin o₀ k.val hk, Blks_done d L y ix hin o₀ k.val h7 (by omega)]
  isplitr
  · ipureintro; exact hnext
  isplitr; · iexact Hmw
  isplitl [Hnext Hin]
  · isplitl [Hnext]
    · iexact Hnext
    · iexact Hin
  isplitl [Hofree Hfly]
  · isplitl [Hofree]
    · rw [← par_pred h7]; iassumption
    · iassumption
  isplitl [Hblk Hdn Htd]
  · isplitl [Hblk Hdn]
    · isplitl [Hblk] <;> iassumption
    · iexact Htd
  isplitl [Hy]; · iexact Hy
  isplitl [Hvg] <;> iassumption

set_option maxHeartbeats 4000000 in
/-- The first trip: no write-out to wait for. -/
theorem trip_first (O : CellTallies nD τ sig (HIx 1)) (W : Waits sig (HIx 1)) (k : Fin k0_t1_loop.trips) (h0 : k.val = 0) :
    inv d L y ix hin o₀ qy qi O W k.val (words k.val)
      ⊢ wp frame (wpE (defs₀ (F := F)) 𝒱₀ (me d L) none) Set.univ (trip L k (words k.val)) (inv d L y ix hin o₀ qy qi O W (k.val + 1)) := by
  have hk : k.val < 16 := lt_of_lt_of_eq k.isLt trips_eq
  have hnext := next_words L k
  have h1 : k.val < 15 := by omega
  have hk1 : k.val + 1 < 16 := by omega
  have h7 : ¬ 0 < k.val := by omega
  have hkm : k.val - 1 < 16 := by omega
  generalize hQ : inv d L y ix hin o₀ qy qi O W (k.val + 1) = Q
  unfold inv
  rw [Ins_lt d L ix qi k.val hk, Outs_first d L y ix hin o₀ k.val h0, Blks_todo d L y ix hin o₀ k.val hk]
  unfold trip k0_t1_body words
  simp only [k0_part1_eq_skeleton, k0_part2_eq_skeleton]
  unfold k0_part1_skel k0_part2_skel
  simp only [inSlot_eq (p := par k.val) (off7_eq k), inSlot_eq (p := par k.val) (off11_eq k), outSlot_eq (p := par k.val) (off10_eq k), outSlot_eq (p := par k.val) (off12_eq k),
    inSem_eq (p := par k.val) (off9_eq k), outSem_eq (p := par k.val) (off14_eq k), win_eq (b := bOf L k.val hk) (off8_eq L k), oblk_eq (b := bOf L k.val hk) (off13_eq L k),
    dif_pos (cond2_eq L k), dif_pos (cond5_eq L k), ite_self,
    dif_pos ((cond1_iff L k).mpr h1), inSlot_eq (p := par (k.val + 1)) (off4_eq k h1), inSem_eq (p := par (k.val + 1)) (off6_eq k h1), win_eq (b := bOf L (k.val + 1) (by omega)) (off5_eq L k h1),
    dif_neg (mt (cond7_iff L k).mp h7),
    Prog.bind_assoc, Prog.bind_op, Prog.bind_lift, Prog.bind_ret, pure_bind, Prog.pure_eq_ret]
  iintro ⟨-, #Hmw, ⟨Hin, Hin'⟩, ⟨Hout, Hout'⟩, ⟨Hdn, ⟨Hb, Htd⟩⟩, Hy, Hvg, HO⟩
  iapply (wp_assume 𝒱₀ (me d L) none Set.univ (chk3 k))
  iapply (wp_assume 𝒱₀ (me d L) none Set.univ (chk2 k))
  iapply (wp_assume 𝒱₀ (me d L) none Set.univ (chk1 L k))
  iapply (fetch_start (par (k.val + 1)) (bOf L (k.val + 1) hk1)) $$ Hin'
  iintro Hnext
  iapply (fetch_wait (par k.val) (bOf L k.val hk)) $$ [Hin HO]
  · isplitr; · iexact Hmw
    isplitl [Hin] <;> iassumption
  iintro ⟨Hld, HO⟩
  iapply (gather_start (y := y) (hin := hin) (qy := qy) (par k.val) (par k.val) (bOf L k.val hk)) $$ [Hld Hout Hy Hvg]
  · isplitl [Hld]; · iexact Hld
    isplitl [Hout]; · iexact Hout
    isplitl [Hy] <;> iassumption
  iintro Hg
  iapply (gather_wait (y := y) (hin := hin) (par k.val) (par k.val) (bOf L k.val hk)) $$ [Hg HO]
  · isplitr; · iexact Hmw
    isplitl [Hg] <;> iassumption
  iintro ⟨Hin, Hfull, Hy, Hvg, HO⟩
  iapply (out_start (y := y) (hin := hin) (par k.val) (bOf L k.val hk)) $$ [Hfull Hb]
  · isplitl [Hfull] <;> iassumption
  iintro Hfly

  iapply (le_wp_ret _ _)
  subst hQ
  unfold inv
  rw [Ins_lt d L ix qi (k.val + 1) (by omega), par_add_two, Outs_succ d L y ix hin o₀ k.val hk, Blks_first d L y ix hin o₀ k.val h0]
  isplitr
  · ipureintro; exact hnext
  isplitr; · iexact Hmw
  isplitl [Hnext Hin]
  · isplitl [Hnext]
    · iexact Hnext
    · iexact Hin
  isplitl [Hout' Hfly]
  · isplitl [Hout']
    · iassumption
    · iassumption
  isplitl [ Hdn Htd]
  · isplitl [Hdn] <;> iassumption
  isplitl [Hy]; · iexact Hy
  isplitl [Hvg] <;> iassumption

set_option maxHeartbeats 4000000 in
/-- The last trip: no window to fetch ahead. -/
theorem trip_last (O : CellTallies nD τ sig (HIx 1)) (W : Waits sig (HIx 1)) (k : Fin k0_t1_loop.trips) (h15 : k.val = 15) :
    inv d L y ix hin o₀ qy qi O W k.val (words k.val)
      ⊢ wp frame (wpE (defs₀ (F := F)) 𝒱₀ (me d L) none) Set.univ (trip L k (words k.val)) (inv d L y ix hin o₀ qy qi O W (k.val + 1)) := by
  have hk : k.val < 16 := lt_of_lt_of_eq k.isLt trips_eq
  have hnext := next_words L k
  have h1 : ¬ k.val < 15 := by omega
  have h7 : 0 < k.val := by omega
  have hkm : k.val - 1 < 16 := by omega
  generalize hQ : inv d L y ix hin o₀ qy qi O W (k.val + 1) = Q
  unfold inv
  rw [Ins_lt d L ix qi k.val hk, Outs_pos d L y ix hin o₀ k.val h7 (by omega), Blks_todo d L y ix hin o₀ k.val hk]
  unfold trip k0_t1_body words
  simp only [k0_part1_eq_skeleton, k0_part2_eq_skeleton]
  unfold k0_part1_skel k0_part2_skel
  simp only [inSlot_eq (p := par k.val) (off7_eq k), inSlot_eq (p := par k.val) (off11_eq k), outSlot_eq (p := par k.val) (off10_eq k), outSlot_eq (p := par k.val) (off12_eq k),
    inSem_eq (p := par k.val) (off9_eq k), outSem_eq (p := par k.val) (off14_eq k), win_eq (b := bOf L k.val hk) (off8_eq L k), oblk_eq (b := bOf L k.val hk) (off13_eq L k),
    dif_pos (cond2_eq L k), dif_pos (cond5_eq L k), ite_self,
    dif_neg (mt (cond1_iff L k).mp h1),
    dif_pos ((cond7_iff L k).mpr h7), outSlot_eq (p := par (k.val - 1)) (off15_eq k h7), outSem_eq (p := par (k.val - 1)) (off17_eq k h7), oblk_eq (b := bOf L (k.val - 1) (by omega)) (off16_eq L k h7),
    Prog.bind_assoc, Prog.bind_op, Prog.bind_lift, Prog.bind_ret, pure_bind, Prog.pure_eq_ret]
  iintro ⟨-, #Hmw, ⟨Hin, Hin'⟩, ⟨Hout, Hout'⟩, ⟨Hdn, ⟨Hb, Htd⟩⟩, Hy, Hvg, HO⟩
  iapply (wp_assume 𝒱₀ (me d L) none Set.univ (chk3 k))
  iapply (wp_assume 𝒱₀ (me d L) none Set.univ (chk2 k))
  iapply (wp_assume 𝒱₀ (me d L) none Set.univ (chk1 L k))

  iapply (fetch_wait (par k.val) (bOf L k.val hk)) $$ [Hin HO]
  · isplitr; · iexact Hmw
    isplitl [Hin] <;> iassumption
  iintro ⟨Hld, HO⟩
  iapply (gather_start (y := y) (hin := hin) (qy := qy) (par k.val) (par k.val) (bOf L k.val hk)) $$ [Hld Hout Hy Hvg]
  · isplitl [Hld]; · iexact Hld
    isplitl [Hout]; · iexact Hout
    isplitl [Hy] <;> iassumption
  iintro Hg
  iapply (gather_wait (y := y) (hin := hin) (par k.val) (par k.val) (bOf L k.val hk)) $$ [Hg HO]
  · isplitr; · iexact Hmw
    isplitl [Hg] <;> iassumption
  iintro ⟨Hin, Hfull, Hy, Hvg, HO⟩
  iapply (out_start (y := y) (hin := hin) (par k.val) (bOf L k.val hk)) $$ [Hfull Hb]
  · isplitl [Hfull] <;> iassumption
  iintro Hfly
  iapply (out_wait (par (k.val - 1)) (bOf L (k.val - 1) hkm)) $$ [Hout' HO]
  · isplitr; · iexact Hmw
    isplitl [Hout'] <;> iassumption
  iintro ⟨Hofree, Hblk, HO⟩
  iapply (le_wp_ret _ _)
  subst hQ
  unfold inv
  rw [Ins_last d L ix qi k.val h15, Outs_succ d L y ix hin o₀ k.val hk, Blks_done d L y ix hin o₀ k.val h7 (by omega)]
  isplitr
  · ipureintro; exact hnext
  isplitr; · iexact Hmw
  isplitl [Hin' Hin]
  · isplitl [Hin']
    · iexact Hin'
    · iexact Hin
  isplitl [Hofree Hfly]
  · isplitl [Hofree]
    · rw [← par_pred h7]; iassumption
    · iassumption
  isplitl [Hblk Hdn Htd]
  · isplitl [Hblk Hdn]
    · isplitl [Hblk] <;> iassumption
    · iexact Htd
  isplitl [Hy]; · iexact Hy
  isplitl [Hvg] <;> iassumption

/-- One trip. -/
theorem trip_ok (O : CellTallies nD τ sig (HIx 1)) (W : Waits sig (HIx 1)) (k : Fin k0_t1_loop.trips) :
    inv d L y ix hin o₀ qy qi O W k.val (words k.val)
      ⊢ wp frame (wpE (defs₀ (F := F)) 𝒱₀ (me d L) none) Set.univ (trip L k (words k.val)) (inv d L y ix hin o₀ qy qi O W (k.val + 1)) := by
  have hk : k.val < 16 := lt_of_lt_of_eq k.isLt trips_eq
  by_cases h0 : k.val = 0
  · exact trip_first d L y ix hin o₀ qy qi O W k h0
  by_cases h15 : k.val = 15
  · exact trip_last d L y ix hin o₀ qy qi O W k h15
  · exact trip_mid d L y ix hin o₀ qy qi O W k (by omega) (by omega)

end Tile

end Cert.Proof.Gather

end
-- ==== Proof.Body.lean ====
/-
  A vector subcore's whole task in the gather call: its scratch buffers and counters taken apart, the first fetch, the
  sixteen trips, the wait for the last write-out, and the scratch buffers and counters put together again.
-/
module

public import proofs.«01_k».proof.Proof.Tile

@[expose] public section

set_option maxRecDepth 16384

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

/-! ## A scratch buffer is its two slots -/

section Slots

variable (d : Dev nD) (L : grid0.Coords)

/-- The two index slots are apart and are all of their buffer. -/
theorem inSlots : (Finset.univ \ (inSlot 0).view.set : Finset S2x1x128.Idx) = (inSlot 1).view.set := by
  rw [inSlot_set, inSlot_set]
  ext x
  have h0 : (x 0).val < 2 := (x 0).isLt
  have h1 : (x 1).val < 1 := (x 1).isLt
  have h2 : (x 2).val < 128 := (x 2).isLt
  simp only [Finset.mem_sdiff, Finset.mem_univ, true_and, Rect.mem_set_unit]
  constructor
  · intro h a
    match a with
    | 0 =>
      refine ⟨?_, ?_⟩
      · by_contra hc
        refine h fun a => ?_
        match a with
        | 0 => exact ⟨Nat.zero_le _, by show (x 0).val < 0 + 1; have : ¬ 1 ≤ (x 0).val := hc; omega⟩
        | 1 => exact ⟨Nat.zero_le _, by show (x 1).val < 0 + 1; omega⟩
        | 2 => exact ⟨Nat.zero_le _, by show (x 2).val < 0 + 128; omega⟩
      · show (x 0).val < 1 + 1; omega
    | 1 => exact ⟨Nat.zero_le _, by show (x 1).val < 0 + 1; omega⟩
    | 2 => exact ⟨Nat.zero_le _, by show (x 2).val < 0 + 128; omega⟩
  · intro h h'
    have a1 : 1 ≤ (x 0).val := (h 0).1
    have a2 : (x 0).val < 0 + 1 := (h' 0).2
    omega

/-- The two row slots are apart and are all of their buffer. -/
theorem outSlots : (Finset.univ \ (outSlot 0).view.set : Finset S2x128x2x128.Idx) = (outSlot 1).view.set := by
  rw [outSlot_set, outSlot_set]
  ext x
  have h0 : (x 0).val < 2 := (x 0).isLt
  have h1 : (x 1).val < 128 := (x 1).isLt
  have h2 : (x 2).val < 2 := (x 2).isLt
  have h3 : (x 3).val < 128 := (x 3).isLt
  simp only [Finset.mem_sdiff, Finset.mem_univ, true_and, Rect.mem_set_unit]
  constructor
  · intro h a
    match a with
    | 0 =>
      refine ⟨?_, ?_⟩
      · by_contra hc
        refine h fun a => ?_
        match a with
        | 0 => exact ⟨Nat.zero_le _, by show (x 0).val < 0 + 1; have : ¬ 1 ≤ (x 0).val := hc; omega⟩
        | 1 => exact ⟨Nat.zero_le _, by show (x 1).val < 0 + 128; omega⟩
        | 2 => exact ⟨Nat.zero_le _, by show (x 2).val < 0 + 2; omega⟩
        | 3 => exact ⟨Nat.zero_le _, by show (x 3).val < 0 + 128; omega⟩
      · show (x 0).val < 1 + 1; omega
    | 1 => exact ⟨Nat.zero_le _, by show (x 1).val < 0 + 128; omega⟩
    | 2 => exact ⟨Nat.zero_le _, by show (x 2).val < 0 + 2; omega⟩
    | 3 => exact ⟨Nat.zero_le _, by show (x 3).val < 0 + 128; omega⟩
  · intro h h'
    have a1 : 1 ≤ (x 0).val := (h 0).1
    have a2 : (x 0).val < 0 + 1 := (h' 0).2
    omega

omit [FloatOps F] in
/-- A buffer at some contents, cut along a set of its elements. -/
theorem cut_some {ℓ : Loc nD τ sig} (A B : Finset (Idx ℓ)) (h : Finset.univ \ A = B) :
    (iprop(∃ f, ℓ ↦{fullShare} f) : sProp 𝕄) ⊢ iprop((∃ f, ℓ ↦[A]{fullShare} f) ∗ ∃ f, ℓ ↦[B]{fullShare} f) := by
  subst h
  iintro ⟨%f, H⟩
  ihave H' := (pointsTo_split_subset (ℓ := ℓ) (q := fullShare) (f := f) (S := Finset.univ) (Finset.subset_univ A)).1 $$ H
  icases H' with ⟨HA, HB⟩
  isplitl [HA]
  · iexists f; iexact HA
  · iexists f; iexact HB

omit [FloatOps F] in
/-- The two pieces of a buffer, each at some contents, put together. -/
theorem join_some {ℓ : Loc nD τ sig} (A B : Finset (Idx ℓ)) (h : Finset.univ \ A = B) :
    (iprop((∃ f, ℓ ↦[A]{fullShare} f) ∗ ∃ f, ℓ ↦[B]{fullShare} f) : sProp 𝕄) ⊢ iprop(∃ f, ℓ ↦{fullShare} f) := by
  classical
  subst h
  iintro ⟨⟨%f, HA⟩, ⟨%g, HB⟩⟩
  iexists (fun i => if i ∈ A then f i else g i)
  ihave HA' := (Entails.of_eq (show (ℓ ↦[A]{fullShare} f : sProp 𝕄) = (ℓ ↦[A]{fullShare} fun i => if i ∈ A then f i else g i) from
    pointsTo_congr (fun i hi => (if_pos hi).symm))) $$ HA
  ihave HB' := (Entails.of_eq (show (ℓ ↦[Finset.univ \ A]{fullShare} g : sProp 𝕄) = (ℓ ↦[Finset.univ \ A]{fullShare} fun i => if i ∈ A then f i else g i) from
    pointsTo_congr (fun i hi => (if_neg (Finset.mem_sdiff.mp hi).2).symm))) $$ HB
  iapply (pointsTo_split_subset (ℓ := ℓ) (q := fullShare) (f := fun i => if i ∈ A then f i else g i) (S := Finset.univ) (Finset.subset_univ A)).2
  isplitl [HA'] <;> iassumption

/-- A counter of the subcore's. -/
abbrev cell (s : DmaSem sig) : GSem nD τ sig := (me d L, SemLoc.dma s)

omit [FloatOps F] in
/-- Two different semaphores of the core are two different cells. -/
theorem cell_ne {s t : DmaSem sig} (h : s ≠ t) : cell d L s ≠ cell d L t := fun e => h (by
  have e' := congrArg Prod.snd e
  exact SemLoc.dma.inj e')

omit [FloatOps F] in
/-- The cell of a semaphore that the core's own scope holds is among the cells that the core owns. -/
theorem cell_mem (s : DmaSem sig) (h : (SemLoc.dma s : SemLoc sig).isScoped .scVector = true) : cell d L s ∈ ownCells (me d L) :=
  mem_ownCells.mpr ⟨rfl, h⟩

/-- The subcore's counters other than the call's five. -/
abbrev otherCells : Finset (GSem nD τ sig) :=
  (((((ownCells (me d L)).erase (cell d L (inSem 0))).erase (cell d L (inSem 1))).erase (cell d L (outSem 0))).erase (cell d L (outSem 1))).erase (cell d L gSem)

omit [FloatOps F] in
/-- The call's five counters are among the subcore's own. -/
theorem ownSems0_V :
    (ownSems0 (me d L) : sProp 𝕄)
      = iprop(semVal (cell d L (inSem 0)) 0 ∗ semVal (cell d L (inSem 1)) 0 ∗ semVal (cell d L (outSem 0)) 0 ∗ semVal (cell d L (outSem 1)) 0
          ∗ semVal (cell d L gSem) 0 ∗ bigSep (otherCells d L) fun g => semVal g 0) := by
  unfold SparseCore.Cfg.ownSems0
  have n01 := cell_ne d L (show inSem 1 ≠ inSem 0 by decide)
  have n02 := cell_ne d L (show outSem 0 ≠ inSem 0 by decide)
  have n12 := cell_ne d L (show outSem 0 ≠ inSem 1 by decide)
  have n03 := cell_ne d L (show outSem 1 ≠ inSem 0 by decide)
  have n13 := cell_ne d L (show outSem 1 ≠ inSem 1 by decide)
  have n23 := cell_ne d L (show outSem 1 ≠ outSem 0 by decide)
  have n04 := cell_ne d L (show gSem ≠ inSem 0 by decide)
  have n14 := cell_ne d L (show gSem ≠ inSem 1 by decide)
  have n24 := cell_ne d L (show gSem ≠ outSem 0 by decide)
  have n34 := cell_ne d L (show gSem ≠ outSem 1 by decide)
  rw [SparseCore.bigSep_erase' (cell_mem d L (inSem 0) (by decide)),
    SparseCore.bigSep_erase' (Finset.mem_erase.mpr ⟨n01, cell_mem d L (inSem 1) (by decide)⟩),
    SparseCore.bigSep_erase' (Finset.mem_erase.mpr ⟨n12, Finset.mem_erase.mpr ⟨n02, cell_mem d L (outSem 0) (by decide)⟩⟩),
    SparseCore.bigSep_erase' (Finset.mem_erase.mpr ⟨n23, Finset.mem_erase.mpr ⟨n13, Finset.mem_erase.mpr ⟨n03, cell_mem d L (outSem 1) (by decide)⟩⟩⟩),
    SparseCore.bigSep_erase' (Finset.mem_erase.mpr ⟨n34, Finset.mem_erase.mpr ⟨n24, Finset.mem_erase.mpr ⟨n14, Finset.mem_erase.mpr ⟨n04, cell_mem d L gSem (by decide)⟩⟩⟩⟩)]

/-- The subcore's buffers other than the call's two. -/
abbrev otherBufs : Finset (DevRef τ sig) :=
  ((ownRefs (τ := τ) (.scVector (cV L) (jV L))).erase ((Proc.scVector (cV L) (jV L)).devRef cc0_scoped0)).erase ((Proc.scVector (cV L) (jV L)).devRef cc0_scoped2)

omit [FloatOps F] in
/-- The call's two scratch buffers are among the subcore's own. -/
theorem ownBufs_V :
    (ownBufs (me d L) : sProp 𝕄)
      = iprop((∃ f, (me d L).loc cc0_scoped0 ↦{fullShare} f) ∗ (∃ f, (me d L).loc cc0_scoped2 ↦{fullShare} f)
          ∗ bigSep (otherBufs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end Slots

/-! ## The task -/

section Task

variable (d : Dev nD) (L : grid0.Coords)
variable (y : S178176x2x128.Idx → Elt F .i32) (ix : S1x65536.Idx → BitVec 32) (hin : ∀ j, (ix j).toNat < 178176)
variable (o₀ : S65536x2x128.Idx → Elt F .i32)
variable (qy qi : PosShare TreeShare)

/-- What a subcore holds of the call's buffers, its blocks of the result at `f`. -/
def Held (f : S65536x2x128.Idx → Elt F .i32) : sProp 𝕄 :=
  iprop((yLoc d ↦{qy} y) ∗ (iLoc d ↦{qi} ix) ∗ bigSep Finset.univ (Blk (F := F) d L f))

omit [FloatOps F] in
/-- Before the first trip, all the blocks are still to be written. -/
theorem Blks_zero : (bigSep Finset.univ (Blk (F := F) d L o₀) : sProp 𝕄) ⊢ Blks d L y ix hin o₀ 0 := by
  unfold Blks
  rw [show (Finset.univ.filter fun j : Fin 16 => j.val + 1 < 0) = ∅ from by decide,
    show (Finset.univ.filter fun j : Fin 16 => 0 ≤ j.val) = Finset.univ from by decide]
  iintro H
  isplitr
  · rw [bigSep_empty]; iempintro
  · iexact H

omit [FloatOps F] in
/-- After the last write-out, all the blocks are written. -/
theorem Blks_all :
    (iprop(Blk (F := F) d L (rowsAt y ix hin) (⟨16 - 1, by decide⟩ : Fin 16) ∗ Blks d L y ix hin o₀ 16) : sProp 𝕄)
      ⊢ bigSep Finset.univ (Blk (F := F) d L (rowsAt y ix hin)) := by
  have e : (bigSep Finset.univ (Blk (F := F) d L (rowsAt y ix hin)) : sProp 𝕄)
      = iprop(Blk (F := F) d L (rowsAt y ix hin) (⟨16 - 1, by decide⟩ : Fin 16)
        ∗ bigSep (Finset.univ.filter fun j : Fin 16 => j.val + 1 < 16) (Blk d L (rowsAt y ix hin))) := by
    rw [← done_step d L (rowsAt y ix hin) 16 (by decide) (by decide)]
    congr 1
  rw [e]
  unfold Blks
  iintro ⟨Hb, Hd, -⟩
  isplitl [Hb] <;> iassumption

/-- What the loop leaves: the last block on its way out, everything else at rest. -/
theorem inv_end (O : CellTallies nD τ sig (HIx 1)) (W : Waits sig (HIx 1)) (w : BitVec 32 × BitVec 32 × BitVec 32 × BitVec 32 × BitVec 32) :
    inv (F := F) d L y ix hin o₀ qy qi O W 16 w
      ⊢ iprop(⌜w = words 16⌝ ∗ (InFree d L ix qi 0 ∗ InFree d L ix qi 1)
        ∗ (OutFree (F := F) d L 0 ∗ OutFly d L y ix hin o₀ 1 (bOf L 15 (by decide)))
        ∗ Blks d L y ix hin o₀ 16 ∗ (yV.view.loc (me d L) ↦{qy} y) ∗ semVal (me d L, SemLoc.dma gSem) 0 ∗ Owed d L O W) := by
  unfold inv
  rw [show Ins (F := F) d L ix qi 16 = _ from Ins_last d L ix qi 15 rfl, show Outs (F := F) d L y ix hin o₀ 16 = _ from Outs_succ d L y ix hin o₀ 15 (by decide)]
  iintro ⟨%hw, -, ⟨Hi, Hi'⟩, ⟨Ho, Ho'⟩, Hb, Hy, Hg, HO⟩
  isplitr; · ipureintro; exact hw
  isplitl [Hi Hi']
  · isplitl [Hi]
    · iexact Hi
    · iexact Hi'
  isplitl [Ho Ho']
  · isplitl [Ho]
    · iexact Ho
    · iexact Ho'
  isplitl [Hb]; · iexact Hb
  isplitl [Hy]; · iexact Hy
  isplitl [Hg] <;> iassumption

set_option maxHeartbeats 4000000 in
/-- The task of vector subcore `L` of device `d`: from its shares of the rows and of the row numbers and its sixteen
    blocks of the result, at any contents, to the same with the blocks holding the rows that the numbers name. -/
theorem tile_body (hF : (K (F := F)).Facts) (O : CellTallies nD τ sig (HIx 1)) (W : Waits sig (HIx 1)) (hO : ∀ g, O g none = 0) :
    iprop(levAts (K (F := F)).L (K (F := F)).lev ∗ emp ∗ Held d L y ix qy qi o₀
        ∗ scopedBufs (me d L) ∗ scopedSems0 (me d L) ∗ owes (me d L) O W)
      ⊢ wp frame (wpE (defs₀ (F := F)) 𝒱₀ (me d L) none) Set.univ
          (cc0_sc_combine L yV (Memref.isWhole_whole _) iV (Memref.isWhole_whole _) oV (Memref.isWhole_whole _)
            aV (Memref.isWhole_whole _) cc0_scoped1 rV (Memref.isWhole_whole _) cc0_scoped3 cc0_scoped4)
          fun _ => iprop(Held d L y ix qy qi (rowsAt y ix hin)
            ∗ scopedBufs (me d L) ∗ scopedSems0 (me d L)
            ∗ ∃ W', ⌜∀ p ∈ W', p ∈ W ∨ p.2 = none⌝ ∗ owes (me d L) O W') := by
  simp only [cc0_sc_combine_eq_skeleton]; unfold cc0_sc_combine_skel
  simp only [k0_part3_eq_skeleton, k0_part4_eq_skeleton]
  unfold k0_part3_skel k0_part4_skel
  simp only [win_eq (b := bOf L 0 (by omega)) (off2_eq L), inSlot_eq (p := 0) k0_off1_eq, inSem_eq (p := 0) k0_off3_eq,
    Prog.bind_assoc, Prog.bind_op, Prog.bind_lift, Prog.bind_ret, pure_bind, Prog.pure_eq_ret]
  rw [(K (F := F)).scopedBufs_V hF d (cV L) (jV L), SparseCore.Cfg.scopedSems0_V (Val := Elt F) d (cV L) (jV L)]
  have eS := ownSems0_V (F := F) d L
  have eB := ownBufs_V (F := F) d L
  unfold me at eS eB
  rw [eS, eB]
  unfold Held
  iintro ⟨#Hlv, -, ⟨Hy, Hi, Hblk⟩, ⟨Ha, Hr, Hbufs⟩, ⟨Hi0, Hi1, Ho0, Ho1, Hg, Hsems⟩, HO⟩
  ihave #Hmw := (show levAts (K (F := F)).L (K (F := F)).lev ⊢ Transfers.MayWaits (me d L) (default : HIx 1) O from
    (K (F := F)).mayWaits_none (thr := me d L) hO) $$ Hlv
  ihave Ha' := (cut_some (F := F) (ℓ := (me d L).loc cc0_scoped0) (inSlot 0).view.set (inSlot 1).view.set inSlots) $$ Ha
  icases Ha' with ⟨Ha0, Ha1⟩
  ihave Hr' := (cut_some (F := F) (ℓ := (me d L).loc cc0_scoped2) (outSlot 0).view.set (outSlot 1).view.set outSlots) $$ Hr
  icases Hr' with ⟨Hr0, Hr1⟩
  ihave Hi' := (pointsTo_share (ℓ := iLoc d) (I := Finset.univ) (f := ix) (PosShare.mem_left_op_right qi)).1 $$ Hi
  icases Hi' with ⟨Hil, Hir⟩
  have h0 : 0 < 16 := by decide
  iapply (fetch_start (F := F) (d := d) (L := L) (ix := ix) (qi := qi) 0 (bOf L 0 h0)) $$ [Ha0 Hi0 Hil]
  · unfold InFree
    isplitl [Ha0]; · iexact Ha0
    isplitl [Hi0]; · iexact Hi0
    iexact Hil
  iintro Hfly
  sl_for (inv d L y ix hin o₀ qy qi O W) $$ [Hfly Ha1 Hi1 Hir Hr0 Ho0 Hr1 Ho1 Hblk Hy Hg HO]
  case region =>
    intro k w
    by_cases hw : w = words k.val
    · subst hw; exact trip_ok d L y ix hin o₀ qy qi O W k
    · unfold inv; iintro ⟨%h, -⟩; exact absurd h hw
  · unfold inv
    rw [Ins_lt d L ix qi 0 (by decide), Outs_first d L y ix hin o₀ 0 rfl]
    isplitr; · ipureintro; rfl
    isplitr; · iexact Hmw
    isplitl [Hfly Ha1 Hi1 Hir]
    · isplitl [Hfly]; · iexact Hfly
      unfold InFree
      isplitl [Ha1]; · iexact Ha1
      isplitl [Hi1]; · iexact Hi1
      iexact Hir
    isplitl [Hr0 Ho0 Hr1 Ho1]
    · unfold OutFree
      isplitl [Hr0 Ho0]
      · isplitl [Hr0]
        · iexact Hr0
        · iexact Ho0
      · isplitl [Hr1]
        · iexact Hr1
        · iexact Ho1
    isplitl [Hblk]; · iapply (Blks_zero d L y ix hin o₀); iexact Hblk
    isplitl [Hy]; · iexact Hy
    isplitl [Hg]; · iexact Hg
    unfold Owed
    iexists W; isplitr
    · ipureintro; exact fun p hp => .inl hp
    · iexact HO
  iintro %acc HI
  rw [show Scf.trips _ _ _ = 16 from trips_eq]
  ihave HI' := (inv_end d L y ix hin o₀ qy qi O W acc) $$ HI
  icases HI' with ⟨%hacc, ⟨Hin0, Hin1⟩, ⟨Hout0, Hout1⟩, Hblk, Hy, Hg, HO⟩
  subst hacc
  unfold tile_body.sl.prog.cont_1 words
  simp only [Prog.bind_assoc, Prog.bind_op, Prog.bind_lift, Prog.bind_ret, pure_bind, Prog.pure_eq_ret]
  iapply (wp_assume 𝒱₀ (me d L) none Set.univ (chk5 L))
  iapply (wp_assume 𝒱₀ (me d L) none Set.univ chk4)
  simp only [outSem_eq (p := 1) off20_eq, outSlot_eq (p := 1) off21_eq, oblk_eq (b := bOf L 15 (by decide)) (off19_eq L)]
  have h15 : 15 < 16 := by decide
  iapply (out_wait (F := F) (d := d) (L := L) (y := y) (ix := ix) (hin := hin) (o₀ := o₀) (O := O) (W := W) 1 (bOf L 15 h15)) $$ [Hout1 HO]
  · isplitr; · iexact Hmw
    isplitl [Hout1] <;> iassumption
  iintro ⟨Hout1, Hb, HO⟩
  iapply (le_wp_ret _ _)
  unfold InFree OutFree
  icases Hin0 with ⟨Ha0, Hi0, Hil⟩
  icases Hin1 with ⟨Ha1, Hi1, Hir⟩
  icases Hout0 with ⟨Hr0, Ho0⟩
  icases Hout1 with ⟨Hr1, Ho1⟩
  isplitl [Hy Hil Hir Hb Hblk]
  · isplitl [Hy]; · iexact Hy
    isplitl [Hil Hir]
    · iapply (pointsTo_share (ℓ := iLoc d) (I := Finset.univ) (f := ix) (PosShare.mem_left_op_right qi)).2
      isplitl [Hil]
      · iexact Hil
      · iexact Hir
    iapply (Blks_all d L y ix hin o₀)
    isplitl [Hb]
    · iapply (Entails.of_eq (show (oLoc d ↦[(oblk (bOf L 15 h15)).view.set]{fullShare} rowsAt y ix hin : sProp (MT nD τ sig (HIx 1) (Elt F) ℕ UU ℕ))
        = Blk (F := F) d L (rowsAt y ix hin) ⟨16 - 1, of_decide_eq_true rfl⟩ from rfl)) $$ Hb
    · iexact Hblk
  isplitl [Ha0 Ha1 Hr0 Hr1 Hbufs]
  · isplitl [Ha0 Ha1]
    · iapply (join_some (F := F) (ℓ := (me d L).loc cc0_scoped0) (inSlot 0).view.set (inSlot 1).view.set inSlots)
      isplitl [Ha0]
      · iexact Ha0
      · iexact Ha1
    isplitl [Hr0 Hr1]
    · iapply (join_some (F := F) (ℓ := (me d L).loc cc0_scoped2) (outSlot 0).view.set (outSlot 1).view.set outSlots)
      isplitl [Hr0]
      · iexact Hr0
      · iexact Hr1
    iexact Hbufs
  isplitl [Hi0 Hi1 Ho0 Ho1 Hg Hsems]
  · isplitl [Hi0]; · iexact Hi0
    isplitl [Hi1]; · iexact Hi1
    isplitl [Ho0]; · iexact Ho0
    isplitl [Ho1]; · iexact Ho1
    isplitl [Hg]; · iexact Hg
    iexact Hsems
  unfold Owed
  iexact HO

end Task

end Cert.Proof.Gather

end
-- ==== Proof.Split.lean ====
/-
  How the call's buffers are dealt to its thirty-two vector subcores: the rows and the row numbers, which every subcore
  reads, by shares; the result by its 512 blocks.
-/
module

public import proofs.«01_k».proof.Proof.Body

@[expose] public section

set_option maxRecDepth 16384

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.Words

variable {F : FTy → Type} [FloatOps F]

local notation "𝕄" => MT nD τ sig (HIx 1) (Elt F) ℕ UU ℕ

/-! ## Shares -/

/-- One half of a share. -/
def side (q : PosShare TreeShare) (b : Fin 2) : PosShare TreeShare := if b = 0 then q.left else q.right

/-- The share that reader number `k` of `2 ^ n` has of `q`: at each halving, the half that the lowest binary digit names. -/
def piece : ℕ → PosShare TreeShare → ℕ → PosShare TreeShare
  | 0, q, _ => q
  | n + 1, q, k => piece n (side q ⟨k % 2, Nat.mod_lt _ (by decide)⟩) (k / 2)

/-- What is held at a share is what is held at its two halves. -/
theorem pts_side {ℓ : Loc nD τ sig} (I : Finset (Idx ℓ)) (f : Buf (Elt F) ℓ) (q : PosShare TreeShare) :
    (ℓ ↦[I]{q} f : sProp (MT nD τ sig (HIx 1) (Elt F) ℕ UU ℕ)) = iprop((ℓ ↦[I]{side q 0} f) ∗ ℓ ↦[I]{side q 1} f) :=
  BI.Entails.antisymm (pointsTo_share (PosShare.mem_left_op_right q)).1 (pointsTo_share (PosShare.mem_left_op_right q)).2

/-- What is held at a share is what its `2 ^ n` readers hold together. -/
theorem pts_pieces {ℓ : Loc nD τ sig} (I : Finset (Idx ℓ)) (f : Buf (Elt F) ℓ) :
    ∀ (n : ℕ) (q : PosShare TreeShare), (ℓ ↦[I]{q} f : sProp (MT nD τ sig (HIx 1) (Elt F) ℕ UU ℕ))
      = bigSep Finset.univ fun k : Fin (2 ^ n) => ℓ ↦[I]{piece n q k.val} f
  | 0, q => (bigSep_univ_of_subsingleton (0 : Fin 1) (Φ := fun k : Fin (2 ^ 0) => (ℓ ↦[I]{piece 0 q k.val} f : sProp (MT nD τ sig (HIx 1) (Elt F) ℕ UU ℕ)))).symm
  | n + 1, q => by
    refine Eq.trans ?_ (bigSep_univ_equiv (finProdFinEquiv : Fin (2 ^ n) × Fin 2 ≃ Fin (2 ^ n * 2))
      (fun k => (ℓ ↦[I]{piece (n + 1) q k.val} f : sProp (MT nD τ sig (HIx 1) (Elt F) ℕ UU ℕ)))).symm
    rw [bigSep_univ_prod, pts_side, pts_pieces I f n (side q 0), pts_pieces I f n (side q 1), ← bigSep_sep']
    refine bigSep_congr fun k _ => ?_
    rw [show (Finset.univ : Finset (Fin 2)) = {0, 1} from rfl, SparseCore.bigSep_insert' (by decide), bigSep_singleton]
    have e (b : Fin 2) : piece (n + 1) q ((finProdFinEquiv (k, b) : Fin (2 ^ n * 2)).val) = piece n (side q b) k.val := by
      have hb := b.isLt
      have hv : (finProdFinEquiv (k, b) : Fin (2 ^ n * 2)).val = b.val + 2 * k.val := rfl
      have h0 : (b.val + 2 * k.val) % 2 = b.val := by omega
      have h1 : (b.val + 2 * k.val) / 2 = k.val := by omega
      rw [hv]; unfold piece
      have : (⟨(b.val + 2 * k.val) % 2, Nat.mod_lt _ (by decide)⟩ : Fin 2) = b := Fin.ext h0
      rw [this, h1]
      cases n <;> rfl
    rw [e 0, e 1]

/-! ## The subcores -/

/-- Vector subcore `i` of SparseCore `c`, as a point of the call's grid. -/
def at_ (c : Fin 2) (i : Fin 16) : grid0.Coords := fun | 0 => c | 1 => i | ⟨_ + 2, h⟩ => absurd h (Nat.not_lt.2 (Nat.le_add_left _ _))

/-- Its share of what every subcore reads. -/
abbrev shr (c : Fin 2) (i : Fin 16) : PosShare TreeShare := piece 4 (piece 1 fullShare c.val) i.val

/-- A whole buffer is the subcores' shares of it. -/
theorem pts_shares {ℓ : Loc nD τ sig} (f : Buf (Elt F) ℓ) :
    (ℓ ↦{fullShare} f : sProp (MT nD τ sig (HIx 1) (Elt F) ℕ UU ℕ))
      = bigSep Finset.univ fun c : Fin 2 => bigSep Finset.univ fun i : Fin 16 => ℓ ↦{shr c i} f :=
  (pts_pieces Finset.univ f 1 fullShare).trans (bigSep_congr fun c _ => pts_pieces Finset.univ f 4 (piece 1 fullShare c.val))

/-! ## The blocks -/

/-- The block of the result that subcore `t.2.1` of SparseCore `t.1` writes on trip `t.2.2`. -/
abbrev blkSet (t : Fin 2 × Fin 16 × Fin 16) : Finset S65536x2x128.Idx := (oblk (bOf (at_ t.1 t.2.1) t.2.2.val t.2.2.isLt)).view.set

/-- A row is in that block when its number divided by 128 is the block's. -/
theorem mem_blkSet (t : Fin 2 × Fin 16 × Fin 16) (x : S65536x2x128.Idx) :
    x ∈ blkSet t ↔ (x 0).val / 128 = 256 * t.1.val + 16 * t.2.1.val + t.2.2.val := by
  have hb : (bOf (at_ t.1 t.2.1) t.2.2.val t.2.2.isLt).val = 256 * t.1.val + 16 * t.2.1.val + t.2.2.val := rfl
  unfold blkSet
  rw [oblk_set, Rect.mem_set_unit]
  generalize (bOf (at_ t.1 t.2.1) t.2.2.val t.2.2.isLt) = b at hb ⊢
  rw [← hb]
  constructor
  · intro h
    have h0 : 128 * b.val ≤ (x 0).val ∧ (x 0).val < 128 * b.val + 128 := h 0
    omega
  · intro h a
    have h1 : (x 1).val < 2 := (x 1).isLt
    have h2 : (x 2).val < 128 := (x 2).isLt
    match a with
    | 0 => show 128 * b.val ≤ (x 0).val ∧ (x 0).val < 128 * b.val + 128; omega
    | 1 => show 0 ≤ (x 1).val ∧ (x 1).val < 0 + 2; omega
    | 2 => show 0 ≤ (x 2).val ∧ (x 2).val < 0 + 128; omega

/-- Two blocks do not meet. -/
theorem blks_disjoint : ∀ t ∈ (Finset.univ : Finset (Fin 2 × Fin 16 × Fin 16)), ∀ t' ∈ (Finset.univ : Finset (Fin 2 × Fin 16 × Fin 16)),
    t ≠ t' → Disjoint (blkSet t) (blkSet t') := by
  rintro ⟨c, i, k⟩ - ⟨c', i', k'⟩ - h
  refine Finset.disjoint_left.mpr fun x hx hx' => h ?_
  rw [mem_blkSet] at hx hx'
  simp only at hx hx'
  have := c.isLt; have := c'.isLt; have := i.isLt; have := i'.isLt; have := k.isLt; have := k'.isLt
  have e1 : c = c' := Fin.ext (by omega)
  have e2 : i = i' := Fin.ext (by omega)
  have e3 : k = k' := Fin.ext (by omega)
  rw [e1, e2, e3]

/-- The blocks are all of the result. -/
theorem blks_cover : (Finset.univ : Finset (Fin 2 × Fin 16 × Fin 16)).biUnion blkSet = Finset.univ := by
  refine Finset.eq_univ_iff_forall.mpr fun x => Finset.mem_biUnion.mpr ?_
  have hx : (x 0).val < 65536 := (x 0).isLt
  refine ⟨(⟨(x 0).val / 128 / 256, by omega⟩, ⟨(x 0).val / 128 / 16 % 16, by omega⟩, ⟨(x 0).val / 128 % 16, by omega⟩), Finset.mem_univ _, ?_⟩
  rw [mem_blkSet]
  show (x 0).val / 128 = 256 * ((x 0).val / 128 / 256) + 16 * ((x 0).val / 128 / 16 % 16) + (x 0).val / 128 % 16
  omega

/-- The result is the subcores' blocks of it. -/
theorem pts_blks (d : Dev nD) (f : Buf (Elt F) (oLoc d)) :
    (oLoc d ↦{fullShare} f : sProp (MT nD τ sig (HIx 1) (Elt F) ℕ UU ℕ))
      = bigSep Finset.univ fun c : Fin 2 => bigSep Finset.univ fun i : Fin 16 => bigSep Finset.univ (Blk d (at_ c i) f) := by
  have h := pointsTo_biUnion (Ix := HIx 1) (Name := ℕ) (U := UU) (Lvl := ℕ) Finset.univ (ℓ := oLoc d) (q := fullShare) (f := f) blkSet blks_disjoint
  rw [blks_cover, bigSep_univ_prod] at h
  refine h.trans (bigSep_congr fun c _ => ?_)
  rw [bigSep_univ_prod]
  rfl

/-- The three buffers are what the subcores hold of them. -/
theorem held_all (d : Dev nD) (y : S178176x2x128.Idx → Elt F .i32) (ix : S1x65536.Idx → BitVec 32) (f : S65536x2x128.Idx → Elt F .i32) :
    (iprop((yLoc d ↦{fullShare} y) ∗ (iLoc d ↦{fullShare} ix) ∗ oLoc d ↦{fullShare} f) : sProp (MT nD τ sig (HIx 1) (Elt F) ℕ UU ℕ))
      = bigSep Finset.univ fun c : Fin 2 => bigSep Finset.univ fun i : Fin 16 => Held d (at_ c i) y ix (shr c i) (shr c i) f := by
  rw [pts_shares (ℓ := yLoc d), pts_shares (ℓ := iLoc d), pts_blks, ← bigSep_sep', ← bigSep_sep']
  refine bigSep_congr fun c _ => ?_
  rw [← bigSep_sep', ← bigSep_sep']
  rfl

end Cert.Proof.Gather

end
-- ==== Proof.Launch.lean ====
/-
  The program's run: the host operations that lay out the rows and compute the row numbers, the call on the thirty-two
  vector subcores, and the reshape of its result.
-/
module

public import proofs.«01_k».proof.Proof.Split
public import Idealize.ShloMosaic.Lib.Pipeline.Frame

@[expose] public section

set_option maxRecDepth 16384

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.ShloMosaic.StableHlo (held after seq tcRefs nullary unary binary reshape)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

/-! ## The host operations -/

/-- Before the call: the rows laid out as 178176 rows of 2 by 128 words; the row numbers, `44544 p + pos t`. -/
abbrev opsPre : List (HloOp τ sig (Elt F)) :=
  [ reshape main_arg0 main_v0 (rfl : (.i32 : EltTy) = .i32) shapeCasts_S4x44544x256_S178176x2x128,
    nullary main_v1 (iotaInDim S4 32 0),
    unary main_v1 main_v2 (broadcastInDim S4x1 ![0] bcast_S4_S4x1_0 : (⟨S4, .i32⟩ : BufTy).Contents (Elt F) → (⟨S4x1, .i32⟩ : BufTy).Contents (Elt F)),
    nullary main_c (constantI S_ 32 44544#32),
    unary main_c main_v3 (broadcastInDim S4x1 ![] bcast_S_S4x1 : (⟨S_, .i32⟩ : BufTy).Contents (Elt F) → (⟨S4x1, .i32⟩ : BufTy).Contents (Elt F)),
    binary main_v2 main_v3 main_v4 (muli : (⟨S4x1, .i32⟩ : BufTy).Contents (Elt F) → (⟨S4x1, .i32⟩ : BufTy).Contents (Elt F) → (⟨S4x1, .i32⟩ : BufTy).Contents (Elt F)),
    unary main_arg1 main_v5 (broadcastInDim S1x16384 ![1] bcast_S16384_S1x16384_1 : (⟨S16384, .i32⟩ : BufTy).Contents (Elt F) → (⟨S1x16384, .i32⟩ : BufTy).Contents (Elt F)),
    unary main_v4 main_v6 (broadcastInDim S4x16384 ![0, 1] bcast_S4x1_S4x16384_0_1 : (⟨S4x1, .i32⟩ : BufTy).Contents (Elt F) → (⟨S4x16384, .i32⟩ : BufTy).Contents (Elt F)),
    unary main_v5 main_v7 (broadcastInDim S4x16384 ![0, 1] bcast_S1x16384_S4x16384_0_1 : (⟨S1x16384, .i32⟩ : BufTy).Contents (Elt F) → (⟨S4x16384, .i32⟩ : BufTy).Contents (Elt F)),
    binary main_v6 main_v7 main_v8 (addi : (⟨S4x16384, .i32⟩ : BufTy).Contents (Elt F) → (⟨S4x16384, .i32⟩ : BufTy).Contents (Elt F) → (⟨S4x16384, .i32⟩ : BufTy).Contents (Elt F)),
    reshape main_v8 main_v9 (rfl : (.i32 : EltTy) = .i32) shapeCasts_S4x16384_S65536,
    reshape main_v9 main_v10 (rfl : (.i32 : EltTy) = .i32) shapeCasts_S65536_S1x65536 ]

/-- After it: the gathered rows as four planes of 16384 rows of 256 words. -/
abbrev opsPost : List (HloOp τ sig (Elt F)) :=
  [ reshape main_v11 main_v12 (rfl : (.i32 : EltTy) = .i32) shapeCasts_S65536x2x128_S4x16384x256 ]

/-- @main is the first operations, the call, the last operation. -/
theorem main_eq (d : Dev nD) :
    main (F := F) d = (seq opsPre >>= fun _ => (K (F := F)).run d 0 >>= fun _ => seq opsPost >>= fun _ => pure ⟨⟩) := rfl

/-- Every operation touches the TensorCore's buffers only. -/
theorem opsPre_sub : (opsPre : List (HloOp τ sig (Elt F))).Forall fun op => op.bufs ⊆ tcRefs τ sig :=
  ⟨StableHlo.reshape_bufs_sub .., StableHlo.nullary_bufs_sub .., StableHlo.unary_bufs_sub .., StableHlo.nullary_bufs_sub .., StableHlo.unary_bufs_sub ..,
    StableHlo.binary_bufs_sub .., StableHlo.unary_bufs_sub .., StableHlo.unary_bufs_sub .., StableHlo.unary_bufs_sub .., StableHlo.binary_bufs_sub ..,
    StableHlo.reshape_bufs_sub .., StableHlo.reshape_bufs_sub ..⟩
/-- The last one too. -/
theorem opsPost_sub : (opsPost : List (HloOp τ sig (Elt F))).Forall fun op => op.bufs ⊆ tcRefs τ sig :=
  StableHlo.reshape_bufs_sub ..

/-- The call's three arrays among the device's buffers. -/
abbrev y' : DevRef τ sig := Proc.devRef .tc (main_v0 : Ref sig .tc)
/-- The array of row numbers, as a buffer of the device. -/
abbrev i' : DevRef τ sig := Proc.devRef .tc (main_v10 : Ref sig .tc)
/-- The array of gathered rows, as a buffer of the device. -/
abbrev o' : DevRef τ sig := Proc.devRef .tc (main_v11 : Ref sig .tc)

section Run

variable (m : (ℓ : Loc nD τ sig) → Buf (Elt F) ℓ) (ρ : Dev nD → PrngReg)

/-- The buffers at the call: -/
def V1 (d : Dev nD) : Valuation τ sig (Elt F) := after opsPre (StableHlo.launchContents m d)
/-- the rows, -/
abbrev yv (d : Dev nD) : S178176x2x128.Idx → Elt F .i32 := V1 m d y'
/-- the row numbers, -/
abbrev iv (d : Dev nD) : S1x65536.Idx → BitVec 32 := V1 m d i'
/-- and what the result's buffer holds before. -/
abbrev ov (d : Dev nD) : S65536x2x128.Idx → Elt F .i32 := V1 m d o'

/-- What the run needs of the memory: every row number is a row's. -/
def Rows : Prop := ∀ (d : Dev nD) (j : S1x65536.Idx), (iv m d j).toNat < 178176

variable (hm : Rows m)

/-- The gathered rows. -/
abbrev rv (d : Dev nD) : S65536x2x128.Idx → Elt F .i32 := rowsAt (yv m d) (iv m d) (hm d)
/-- The buffers after the call: the result's at the gathered rows. -/
def V2 (d : Dev nD) : Valuation τ sig (Elt F) := Function.update (V1 m d) o' (rv m hm d)
/-- The buffers at the end. -/
def V3 (d : Dev nD) : Valuation τ sig (Elt F) := after opsPost (V2 m hm d)

/-! ## What the handshakes carry -/

/-- What subcore `i` of SparseCore `c` takes, -/
abbrev Take (d : Dev nD) (c : Fin 2) (i : Fin 16) : sProp 𝕄 := Held d (at_ c i) (yv m d) (iv m d) (shr c i) (shr c i) (ov m d)
/-- and what it gives back. -/
abbrev Give (d : Dev nD) (c : Fin 2) (i : Fin 16) : sProp 𝕄 := Held d (at_ c i) (yv m d) (iv m d) (shr c i) (shr c i) (rv m hm d)

/-- A SparseCore takes and gives back what its subcores do. -/
def P : (K (F := F)).Pay (nD := nD) (Val := Elt F) (Name := ℕ) (U := UU) where
  st := fun q d c => match q with | 0 => bigSep Finset.univ fun i : Fin 16 => Take m d (Fin.cast nCore_zero c) i
  dn := fun q d c => match q with | 0 => bigSep Finset.univ fun i : Fin 16 => Give m hm d (Fin.cast nCore_zero c) i
  go := fun q d c i => match q with | 0 => Take m d (Fin.cast nCore_zero c) (Fin.cast nSub_zero i)
  td := fun q d c i => match q with | 0 => Give m hm d (Fin.cast nCore_zero c) (Fin.cast nSub_zero i)
  x := fun _ _ => iprop(emp)

/-- What a subcore holds may be handed over. -/
instance Held_storable (d : Dev nD) (L : grid0.Coords) (y : S178176x2x128.Idx → Elt F .i32) (ix : S1x65536.Idx → BitVec 32)
    (qy qi : PosShare TreeShare) (f : S65536x2x128.Idx → Elt F .i32) : BI.Storable (upEmb : UEmb _ 𝕄) (Held d L y ix qy qi f) := by
  unfold Held Blk; infer_instance

/-- What the launch hands to the subcores and takes back may be handed over. -/
instance P_storable : (P (F := F) m hm).IsStorable where
  st q d c := match q with | 0 => (inferInstance : BI.Storable (upEmb : UEmb _ 𝕄) (bigSep Finset.univ fun i : Fin 16 => Take m d (Fin.cast nCore_zero c) i))
  dn q d c := match q with | 0 => (inferInstance : BI.Storable (upEmb : UEmb _ 𝕄) (bigSep Finset.univ fun i : Fin 16 => Give m hm d (Fin.cast nCore_zero c) i))
  go q d c i := match q with | 0 => Held_storable ..
  td q d c i := match q with | 0 => Held_storable ..

/-- A SparseCore's part is its subcores' parts. -/
theorem vecSplit : (K (F := F)).VecSplit' (P m hm) 0 := by
  intro d c
  show (bigSep Finset.univ fun i : Fin 16 => Take m d (Fin.cast nCore_zero c) i) ⊢ |={Set.univ}=> iprop(
      (bigSep Finset.univ fun i : Fin 16 => Take m d (Fin.cast nCore_zero c) i)
      ∗ ((bigSep Finset.univ fun i : Fin 16 => Give m hm d (Fin.cast nCore_zero c) i) -∗ bigSep Finset.univ fun i : Fin 16 => Give m hm d (Fin.cast nCore_zero c) i))
  iintro H; imodintro
  isplitl [H]; · iexact H
  iintro H; iexact H

/-! ## A subcore's obligation -/

/-- What the call has a vector subcore run. -/
theorem defs₀_vector (c : Fin τ.nSC) (s : Fin τ.nSub) :
    defs₀ (F := F) (.scVector c s) 0 ()
      = SparseCore.onTile hcore0 hsub0 (fun c s => cc0_sc_combine (at_ c s)
          yV (Memref.isWhole_whole _) iV (Memref.isWhole_whole _) oV (Memref.isWhole_whole _)
          aV (Memref.isWhole_whole _) cc0_scoped1 rV (Memref.isWhole_whole _) cc0_scoped3 cc0_scoped4) ⟨⟩ c s := rfl

/-- The waits a subcore leaves, as the launch counts them. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore, from its part, gathers its blocks. -/
theorem tileObl (hF : (K (F := F)).Facts) : (K (F := F)).TileObl (D (F := F)) 𝒱 (P m hm) v₀ 0 := by
  intro d c i O W hO _ _
  simp only [show (P m hm).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (at_ ⟨_, hci.1⟩ ⟨_, hci.2⟩) (yv m d) (iv m d) (hm d) (ov m d) _ _ hF O W hO).trans (wp_mono frame _ _ fun _ => waits_weaken)

/-! ## The launch element of the ghost state -/

/-- The handshakes' tokens and no counter. -/
def u₀ : UU := (initOf (K (F := F)).hsCells (K (F := F)).hsToks, 1)

/-- It gives the launch its tokens. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hm).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · iapply (Entails.of_eq (bigSep_emp_const (Finset.univ : Finset (Dev nD))).symm); iempintro
  rw [show (bigSep Finset.univ fun thr : Thread nD τ => bigSep Finset.univ fun q : Fin 1 => (P (F := F) m hm).x q thr) = bigSep Finset.univ fun _ => iprop(emp) from
    bigSep_congr fun _ _ => bigSep_univ_of_subsingleton (0 : Fin 1)]
  iapply (Entails.of_eq (bigSep_emp_const (Finset.univ : Finset (Thread nD τ))).symm); iempintro

/-! ## @main on the TensorCore -/

/-- Its buffers at the launch, as one valuation. -/
theorem unscoped_held (d : Dev nD) :
    (unscopedBufs d (fun b => m ((SparseCore.T d).loc b)) : sProp 𝕄) = held (T d) (tcRefs τ sig) (StableHlo.launchContents m d) := by
  unfold unscopedBufs held tcRefs
  rw [bigSep_map, show (Finset.univ.filter fun b : Ref sig .tc => ¬ b.isScoped) = Finset.univ by decide]
  rfl

/-- The call's arrays and the rest. -/
abbrev S3 : Finset (DevRef τ sig) := {y', i', o'}

/-- The three arrays of the call are buffers of the host's core. -/
theorem S3_sub : S3 ⊆ tcRefs τ sig := by
  intro b hb
  simp only [S3, Finset.mem_insert, Finset.mem_singleton] at hb
  rcases hb with rfl | rfl | rfl <;> exact StableHlo.devRef_mem_tcRefs _

/-- The rows and the row numbers are two buffers. -/
theorem ne_yi : (y' : DevRef τ sig) ≠ i' := StableHlo.devRef_ne_of_ne (by decide)
/-- The rows and the result are two buffers. -/
theorem ne_yo : (y' : DevRef τ sig) ≠ o' := StableHlo.devRef_ne_of_ne (by decide)
/-- The row numbers and the result are two buffers. -/
theorem ne_io : (i' : DevRef τ sig) ≠ o' := StableHlo.devRef_ne_of_ne (by decide)

/-- The three arrays held. -/
theorem held_S3 (d : Dev nD) (W : Valuation τ sig (Elt F)) :
    (held (T d) S3 W : sProp 𝕄) = iprop((yLoc d ↦{fullShare} W y') ∗ (iLoc d ↦{fullShare} W i') ∗ oLoc d ↦{fullShare} W o') := by
  unfold held S3
  rw [SparseCore.bigSep_insert' (by simp [ne_yi, ne_yo]), SparseCore.bigSep_insert' (by simp [ne_io]), bigSep_singleton]

/-- What the call takes of the buffers, -/
theorem split1 (d : Dev nD) :
    (held (T d) (tcRefs τ sig) (V1 m d) : sProp 𝕄)
      = iprop((bigSep Finset.univ fun c : Fin ((K (F := F)).nCore 0) => (P m hm).st 0 d c) ∗ held (T d) (tcRefs τ sig \ S3) (V1 m d)) := by
  rw [StableHlo.held_sub_split (T d) S3_sub, held_S3, held_all d (yv m d) (iv m d) (ov m d)]
  rfl

/-- and what it leaves them at. -/
theorem split2 (d : Dev nD) :
    (held (T d) (tcRefs τ sig) (V2 m hm d) : sProp 𝕄)
      = iprop((bigSep Finset.univ fun c : Fin ((K (F := F)).nCore 0) => (P m hm).dn 0 d c) ∗ held (T d) (tcRefs τ sig \ S3) (V1 m d)) := by
  have hy : V2 m hm d y' = yv m d := Function.update_of_ne ne_yo _ _
  have hi : V2 m hm d i' = iv m d := Function.update_of_ne ne_io _ _
  have ho : V2 m hm d o' = rv m hm d := Function.update_self _ _ _
  rw [StableHlo.held_sub_split (T d) S3_sub, held_S3, hy, hi, ho, held_all d (yv m d) (iv m d) (rv m hm d),
    StableHlo.held_congr (T d) (S := tcRefs τ sig \ S3) (V := V2 m hm d) (V' := V1 m d) fun b hb =>
      Function.update_of_ne (fun e => (Finset.mem_sdiff.mp hb).2 (by rw [e]; simp [S3])) _ _]
  rfl

/-- What @main leaves: its buffers at their last contents. -/
abbrev FIN (d : Dev nD) : sProp 𝕄 := held (T d) (tcRefs τ sig) (V3 m hm d)

/-- @main: the first operations, the call, the last operation. -/
theorem hmain (κ : GSem nD τ sig → ℕ) (d : Dev nD) :
    iprop((K (F := F)).ctx EH (P m hm) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hm d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d (tcRefs τ sig) (fun _ => (K (F := F)).run d 0 >>= fun _ => seq opsPost >>= fun _ => pure ⟨⟩) opsPre
    (List.forall_iff_forall_mem.1 opsPre_sub) (by intro _ h; (repeat (cases h with | head => rfl | tail _ h => ?_)); exact nomatch h)
    (StableHlo.launchContents m d)) $$ [Hb Hheld]
  · isplitl [Hb]; · iexact Hb
    iexact Hheld
  iintro ⟨Hb, Hheld⟩
  ihave Hh := (Entails.of_eq (show (held (d.tc : Thread nD τ) (tcRefs τ sig) (after opsPre (StableHlo.launchContents m d)) : sProp 𝕄) = _ from split1 m hm d)) $$ Hheld
  icases Hh with ⟨Hcall, Hrest⟩
  rw [wp_bind]
  iapply ((K (F := F)).wp_run (D (F := F)) 𝒱 (EH := EH) (P := P m hm) κ d 0) $$ [Hst Hcall Hrest Hb Hts]
  isplitr; · iexact Hctx
  isplitl [Hst]; · iexact Hst
  isplitl [Hcall]; · iexact Hcall
  iintro ⟨Hst, Hdn⟩
  iapply (StableHlo.wp_seq 𝒱 none Set.univ d (tcRefs τ sig) (fun _ => pure ⟨⟩) opsPost
    (List.forall_iff_forall_mem.1 opsPost_sub) (by intro _ h; (repeat (cases h with | head => rfl | tail _ h => ?_)); exact nomatch h)
    (V2 m hm d)) $$ [Hb Hdn Hrest]
  · isplitl [Hb]; · iexact Hb
    iapply (Entails.of_eq (split2 m hm d).symm)
    isplitl [Hdn]; · iexact Hdn
    iexact Hrest
  iintro ⟨Hb, Hheld⟩
  rw [wp_pure]; imodintro
  isplitl [Hst]; · iexact Hst
  isplitl [Hheld]; · iexact Hheld
  isplitl [Hb]; · iexact Hb
  iexact Hts

/-- What the claims read of a final state: every buffer of @main at its last contents. -/
def fq (d : Dev nD) (s' : Phys nD τ sig (Elt F)) : Prop :=
  ∀ b : Ref sig .tc, s'.mem.mem ((SparseCore.T d).loc b) = V3 m hm d (Proc.devRef .tc b)

/-- They are what @main left. -/
theorem hfin (d : Dev nD) (s' : Phys nD τ sig (Elt F)) : iprop(FIN m hm d ∗ SI s') ⊢ (⌜fq m hm d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (StableHlo.devRef_mem_tcRefs b)

/-- Every weakly fair run of the program terminates, with every buffer of @main at its last contents and every counter
    at zero. -/
theorem run_all [∀ e, Nonempty (Elt F e)] :
    θ_run (Cert.KernelIdeal.defs (F := F)) (Cert.KernelIdeal.threads (F := F)) ⟨m, fun _ => 0, ρ⟩
      fun r => (∀ (d : Dev nD) (b : Ref sig .tc), r.2.mem ((SparseCore.T d).loc b) = V3 m hm d (Proc.devRef .tc b)) ∧ r.2.sem = fun _ => 0 :=
  SparseCore.Cfg.θ_run_sc_quiescent (K := K (F := F)) (D := D (F := F)) (𝒱 := 𝒱) (EH := EH) (P := P m hm) (A := ∅) facts v₀
    (fun q hq => match q with | 0 => nomatch hq)
    (fun q _ => match q with | 0 => tileObl m hm facts)
    (fun q _ => match q with | 0 => SparseCore.Cfg.VecSplit.of_plain (vecSplit m hm))
    m ρ main (fun _ => iprop(emp)) (FIN m hm) (u₀ (F := F)) (sep_elim_left.trans (hu₀ m hm)) (hmain m ρ hm) (fq m hm) (hfin m hm) _ (fun _ h hz => ⟨h, hz⟩)

end Run

end Cert.Proof.Gather

end
-- ==== Proof.Value.lean ====
/-
  What the two programs compute, element by element: plane `p`, row `t`, word `c` of the result is plane `p`, row `pos t`,
  word `c` of the rows.
-/
module

public import proofs.«01_k».proof.Proof.Launch
public import Idealize.ShloMosaic.Lib.Pipeline.Value
public import proofs.«01_k».proof.Proof.Gen.ReferenceIdeal.Run
public import proofs.«01_k».proof.Proof.Gen.Pre_pos_in_rows

@[expose] public section

set_option maxRecDepth 16384

noncomputable section

namespace Cert.Proof.Gather

open Cert.KernelIdeal Cert.KernelIdeal.Gen
open Idealize.ShloMosaic
open Idealize.ShloMosaic.StableHlo (after)
open Idealize.ShloMosaic.ValueIdx
open Idealize.SL.Sem

variable {F : FTy → Type} [FloatOps F]

/-! ## The wanted result -/

/-- Row `pos t` of each plane. -/
def want (a : S4x44544x256.Idx → BitVec 32) (pos : S16384.Idx → BitVec 32) (hpos : ∀ k, (pos k).toNat < 44544) : S4x16384x256.Idx → BitVec 32 :=
  fun j => a (ix3 (j 0) ⟨(pos (ix1 (j 1))).toNat, hpos _⟩ (j 2))

/-! ## The kernel's row numbers -/

/-- The row numbers as the host operations compute them. -/
abbrev rowNums (pos : S16384.Idx → BitVec 32) : S1x65536.Idx → BitVec 32 :=
  shapeCast S1x65536 (shapeCast S65536 (addi
      (broadcastInDim S4x16384 ![0, 1] bcast_S4x1_S4x16384_0_1 (muli (broadcastInDim S4x1 ![0] bcast_S4_S4x1_0 (iotaInDim S4 32 0)) (broadcastInDim S4x1 ![] bcast_S_S4x1 (constantI S_ 32 44544#32))))
      (broadcastInDim S4x16384 ![0, 1] bcast_S1x16384_S4x16384_0_1 (broadcastInDim S1x16384 ![1] bcast_S16384_S1x16384_1 pos)))
    shapeCasts_S4x16384_S65536) shapeCasts_S65536_S1x65536

/-- Number `16384 p + t` is `44544 p + pos t`, as words. -/
theorem rowNums_apply (pos : S16384.Idx → BitVec 32) (p : Fin 4) (t : Fin 16384) :
    rowNums pos (ix2 (0 : Fin 1) (⟨16384 * p.val + t.val, by omega⟩ : Fin 65536)) = BitVec.ofNat 32 p.val * 44544#32 + pos (ix1 t) := by
  unfold rowNums
  rw [shapeCast_apply _ shapeCasts_S65536_S1x65536 _ (ix1 (⟨16384 * p.val + t.val, by omega⟩ : Fin 65536))
      (by rw [Shape.rowMajor_val_one, Shape.rowMajor_val_two]; show 16384 * p.val + t.val = 0 * 65536 + (16384 * p.val + t.val); omega),
    shapeCast_apply _ shapeCasts_S4x16384_S65536 _ (ix2 p t)
      (by rw [Shape.rowMajor_val_one, Shape.rowMajor_val_two]; show p.val * 16384 + t.val = 16384 * p.val + t.val; omega)]
  unfold addi
  rw [broadcastInDim_apply _ bcast_S4x1_S4x16384_0_1 _ _ (ix2 p (0 : Fin 1)) (fun a => match a with | 0 => rfl | 1 => rfl),
    broadcastInDim_apply _ bcast_S1x16384_S4x16384_0_1 _ _ (ix2 (0 : Fin 1) t) (fun a => match a with | 0 => rfl | 1 => rfl),
    broadcastInDim_apply _ bcast_S16384_S1x16384_1 _ _ (ix1 t) (fun a => match a with | 0 => rfl)]
  unfold muli
  rw [broadcastInDim_apply _ bcast_S4_S4x1_0 _ _ (ix1 p) (fun a => match a with | 0 => rfl)]
  rfl

/-- With every `pos t` below 44544 nothing wraps. -/
theorem rowNums_toNat (pos : S16384.Idx → BitVec 32) (hpos : ∀ k, (pos k).toNat < 44544) (p : Fin 4) (t : Fin 16384) :
    (rowNums pos (ix2 (0 : Fin 1) (⟨16384 * p.val + t.val, by omega⟩ : Fin 65536))).toNat = 44544 * p.val + (pos (ix1 t)).toNat := by
  rw [rowNums_apply, BitVec.toNat_add, BitVec.toNat_mul, BitVec.toNat_ofNat, BitVec.toNat_ofNat]
  have := hpos (ix1 t); have := p.isLt
  omega

/-- Every index of the row numbers is of that form. -/
theorem num_split (j : S1x65536.Idx) : ∃ (p : Fin 4) (t : Fin 16384), j = ix2 (0 : Fin 1) (⟨16384 * p.val + t.val, by omega⟩ : Fin 65536) := by
  have h : (j 1).val < 65536 := (j 1).isLt
  have h0 : (j 0).val < 1 := (j 0).isLt
  refine ⟨⟨(j 1).val / 16384, by omega⟩, ⟨(j 1).val % 16384, by omega⟩, ?_⟩
  funext a; apply Fin.ext
  match a with
  | 0 => show (j 0).val = 0; omega
  | 1 => show (j 1).val = 16384 * ((j 1).val / 16384) + (j 1).val % 16384; omega

/-- Every row number is a row's. -/
theorem rowNums_lt (pos : S16384.Idx → BitVec 32) (hpos : ∀ k, (pos k).toNat < 44544) (j : S1x65536.Idx) : (rowNums pos j).toNat < 178176 := by
  obtain ⟨p, t, rfl⟩ := num_split j
  rw [rowNums_toNat pos hpos]
  have := hpos (ix1 t); have := p.isLt
  omega

/-! ## The kernel's result -/

/-- The gathered rows, laid out as the result, are the wanted ones. -/
theorem result_eq (a : S4x44544x256.Idx → Elt F .i32) (pos : S16384.Idx → BitVec 32) (hpos : ∀ k, (pos k).toNat < 44544) (hin : ∀ j, (rowNums pos j).toNat < 178176) :
    shapeCast S4x16384x256 (rowsAt (F := F) (shapeCast S178176x2x128 a shapeCasts_S4x44544x256_S178176x2x128) (rowNums pos) hin) shapeCasts_S65536x2x128_S4x16384x256
      = want a pos hpos := by
  funext j
  have hp : (j 0).val < 4 := (j 0).isLt
  have ht : (j 1).val < 16384 := (j 1).isLt
  have hc : (j 2).val < 256 := (j 2).isLt
  obtain ⟨p, t, c, rfl⟩ : ∃ (p : Fin 4) (t : Fin 16384) (c : Fin 256), j = ix3 p t c := ⟨j 0, j 1, j 2, eq_ix3 j⟩
  have hcc := c.isLt
  have hpt := hpos (ix1 t)
  rw [shapeCast_apply _ shapeCasts_S65536x2x128_S4x16384x256 _
      (ix3 (⟨16384 * p.val + t.val, by omega⟩ : Fin 65536) (⟨c.val / 128, by omega⟩ : Fin 2) (⟨c.val % 128, by omega⟩ : Fin 128))
      (by rw [Shape.rowMajor_val_three, Shape.rowMajor_val_three]
          show ((16384 * p.val + t.val) * 2 + c.val / 128) * 128 + c.val % 128 = (p.val * 16384 + t.val) * 256 + c.val
          omega)]
  have hn := rowNums_toNat pos hpos p t
  unfold rowsAt want
  refine shapeCast_apply a shapeCasts_S4x44544x256_S178176x2x128 _ _ ?_
  rw [Shape.rowMajor_val_three, Shape.rowMajor_val_three]
  show (p.val * 44544 + (pos (ix1 t)).toNat) * 256 + c.val
    = ((rowNums pos (ix2 (0 : Fin 1) (⟨16384 * p.val + t.val, by omega⟩ : Fin 65536))).toNat * 2 + c.val / 128) * 128 + c.val % 128
  rw [hn]
  omega

/-- Equal rows and row numbers gather equal rows. -/
theorem rowsAt_congr {y z : S178176x2x128.Idx → Elt F .i32} {ix jx : S1x65536.Idx → BitVec 32} (hy : y = z) (hx : ix = jx)
    (h : ∀ j, (ix j).toNat < 178176) (h' : ∀ j, (jx j).toNat < 178176) : rowsAt y ix h = rowsAt z jx h' := by
  subst hy; subst hx; rfl

/-! ## The kernel's run -/

section Run

variable (m : (ℓ : Loc nD τ sig) → Buf (Elt F) ℓ) (ρ : Dev nD → PrngReg)

/-- The arguments at the launch. -/
abbrev argA (d : Dev nD) : S4x44544x256.Idx → Elt F .i32 := m ((d.tc : Thread nD τ).loc main_arg0)
/-- The positions argument, as it is at the start. -/
abbrev argP (d : Dev nD) : S16384.Idx → BitVec 32 := m ((d.tc : Thread nD τ).loc main_arg1)

/-- The row numbers at the call. -/
theorem iv_eq (d : Dev nD) : iv m d = rowNums (argP m d) := by
  unfold iv V1
  after_results <;> rfl
/-- The rows at the call. -/
theorem yv_eq (d : Dev nD) : yv m d = shapeCast S178176x2x128 (argA m d) shapeCasts_S4x44544x256_S178176x2x128 := by
  unfold yv V1
  after_results <;> rfl

/-- Rows below 44544 give row numbers below 178176. -/
theorem rows_of_pos (hpos : ∀ d k, (argP m d k).toNat < 44544) : Rows m := fun d j => by
  rw [iv_eq]; exact rowNums_lt _ (hpos d) j

/-- No operation and no part of the call writes an argument. -/
theorem V3_arg0 (hm : Rows m) (d : Dev nD) : V3 m hm d (Proc.devRef .tc main_arg0) = m ((d.tc : Thread nD τ).loc main_arg0) := by
  have h1 : V3 m hm d (Proc.devRef .tc main_arg0) = V2 m hm d (Proc.devRef .tc main_arg0) := by
    unfold V3; after_results <;> rfl
  have h2 : V2 m hm d (Proc.devRef .tc main_arg0) = V1 m d (Proc.devRef .tc main_arg0) :=
    Function.update_of_ne (StableHlo.devRef_ne_of_ne (by decide)) _ _
  rw [h1, h2]; unfold V1
  after_results <;> rfl
/-- Nor the other. -/
theorem V3_arg1 (hm : Rows m) (d : Dev nD) : V3 m hm d (Proc.devRef .tc main_arg1) = m ((d.tc : Thread nD τ).loc main_arg1) := by
  have h1 : V3 m hm d (Proc.devRef .tc main_arg1) = V2 m hm d (Proc.devRef .tc main_arg1) := by
    unfold V3; after_results <;> rfl
  have h2 : V2 m hm d (Proc.devRef .tc main_arg1) = V1 m d (Proc.devRef .tc main_arg1) :=
    Function.update_of_ne (StableHlo.devRef_ne_of_ne (by decide)) _ _
  rw [h1, h2]; unfold V1
  after_results <;> rfl

/-- The result is the wanted one. -/
theorem V3_res (hpos : ∀ d k, (argP m d k).toNat < 44544) (d : Dev nD) :
    V3 m (rows_of_pos m hpos) d (Proc.devRef .tc main_v12) = want (argA m d) (argP m d) (hpos d) := by
  have h1 : V3 m (rows_of_pos m hpos) d (Proc.devRef .tc main_v12)
      = shapeCast S4x16384x256 (V2 m (rows_of_pos m hpos) d o' : S65536x2x128.Idx → Elt F .i32) shapeCasts_S65536x2x128_S4x16384x256 := by
    unfold V3; after_results <;> rfl
  have h2 : V2 m (rows_of_pos m hpos) d o' = rv m (rows_of_pos m hpos) d := Function.update_self _ _ _
  rw [h1, h2, ← result_eq (F := F) (argA m d) (argP m d) (hpos d) (rowNums_lt _ (hpos d))]
  exact congrArg (fun x => shapeCast S4x16384x256 x shapeCasts_S65536x2x128_S4x16384x256) (rowsAt_congr (yv_eq m d) (iv_eq m d) _ _)

/-- Every weakly fair run terminates, with the wanted result, the arguments as they were, every counter at zero. -/
theorem run_main [∀ e, Nonempty (Elt F e)] (hpos : ∀ d k, (argP m d k).toNat < 44544) :
    θ_run (Cert.KernelIdeal.defs (F := F)) (Cert.KernelIdeal.threads (F := F)) ⟨m, fun _ => 0, ρ⟩ fun r =>
      (∀ d : Dev nD, r.2.mem ((d.tc : Thread nD τ).loc main_v12) = want (argA m d) (argP m d) (hpos d)
        ∧ r.2.mem ((d.tc : Thread nD τ).loc main_arg0) = m ((d.tc : Thread nD τ).loc main_arg0)
        ∧ r.2.mem ((d.tc : Thread nD τ).loc main_arg1) = m ((d.tc : Thread nD τ).loc main_arg1))
      ∧ r.2.sem = fun _ => 0 :=
  (θ_run Cert.KernelIdeal.defs _ _).mono
    (fun _ h => ⟨fun d => ⟨(h.1 d main_v12).trans (V3_res m hpos d), (h.1 d main_arg0).trans (V3_arg0 m _ d), (h.1 d main_arg1).trans (V3_arg1 m _ d)⟩, h.2⟩)
    (run_all m ρ (rows_of_pos m hpos))

end Run

/-! ## The precondition -/

/-- A word that is at least 0 and below 44544, both as signed numbers, is below 44544. -/
theorem word_lt (v : BitVec 32) (e : IntOp.andi (IntOp.cmpi .sge v 0#32) (IntOp.cmpi .slt v 44544#32) = 1#1) : v.toNat < 44544 := by
  have one : ∀ p q : Bool, IntOp.andi (BitVec.ofBool p) (BitVec.ofBool q) = 1#1 → p = true ∧ q = true := by decide
  obtain ⟨h0, h1⟩ := one _ _ e
  replace h0 : (0#32).sle v = true := h0
  replace h1 : v.slt 44544#32 = true := h1
  rw [BitVec.sle_eq_decide, decide_eq_true_eq, BitVec.toInt_eq_toNat_cond, BitVec.toInt_eq_toNat_cond] at h0
  rw [BitVec.slt_eq_decide, decide_eq_true_eq, BitVec.toInt_eq_toNat_cond, BitVec.toInt_eq_toNat_cond] at h1
  simp only [BitVec.toNat_ofNat, Nat.reducePow, Nat.reduceMod] at h0 h1
  omega

/-- The precondition says so of every `pos t`. -/
theorem pos_of_pre (a : S4x44544x256.Idx → BitVec 32) (pos : S16384.Idx → BitVec 32)
    (h : Cert.Pre_pos_in_rows.fn (F := F) a pos = fun _ => 1#1) (k : S16384.Idx) : (pos k).toNat < 44544 :=
  word_lt _ (congrFun h k)

/-! ## The reference's result -/

section Ref

open Cert.ReferenceIdeal.Gen

/-- The reference's start indices: `pos` itself, as no number is negative. -/
abbrev starts (pos : S16384.Idx → BitVec 32) : Cert.ReferenceIdeal.S16384x1.Idx → BitVec 32 :=
  broadcastInDim Cert.ReferenceIdeal.S16384x1 ![0] Cert.ReferenceIdeal.Gen.bcast_S16384_S16384x1_0
    (select (cmpi .slt pos (broadcastInDim Cert.ReferenceIdeal.S16384 ![] Cert.ReferenceIdeal.Gen.bcast_S_S16384 (constantI Cert.ReferenceIdeal.S_ 32 0#32)))
      (addi pos (broadcastInDim Cert.ReferenceIdeal.S16384 ![] Cert.ReferenceIdeal.Gen.bcast_S_S16384 (constantI Cert.ReferenceIdeal.S_ 32 44544#32))) pos)

/-- The starts of the reference's gather, entry by entry: the positions themselves. -/
theorem starts_apply (pos : S16384.Idx → BitVec 32) (hpos : ∀ k, (pos k).toNat < 44544) (t : Fin 16384) :
    starts pos (ix2 t (0 : Fin 1)) = pos (ix1 t) := by
  unfold starts
  rw [broadcastInDim_apply _ Cert.ReferenceIdeal.Gen.bcast_S16384_S16384x1_0 _ _ (ix1 t) (fun a => match a with | 0 => rfl)]
  have h := hpos (ix1 t)
  have hs : (pos (ix1 t)).slt 0#32 = false := by
    rw [BitVec.slt_eq_decide, decide_eq_false_iff_not, BitVec.toInt_eq_toNat_cond, BitVec.toInt_eq_toNat_cond]
    simp only [BitVec.toNat_ofNat, Nat.reducePow, Nat.reduceMod]
    omega
  unfold select cmpi
  show (if BitVec.ofBool ((pos (ix1 t)).slt 0#32) = 1#1 then _ else _) = _
  rw [hs]
  rfl

/-- The reference's gather is the wanted result. -/
theorem gather_eq (a : S4x44544x256.Idx → BitVec 32) (pos : S16384.Idx → BitVec 32) (hpos : ∀ k, (pos k).toNat < 44544) :
    Host.gather Cert.ReferenceIdeal.gather_S4x44544x256_S16384x1_S4x16384x256_02_1_n_n_1_1_41256 a (starts pos) = want a pos hpos := by
  funext j
  obtain ⟨p, t, c, rfl⟩ : ∃ (p : Fin 4) (t : Fin 16384) (c : Fin 256), j = ix3 p t c := ⟨j 0, j 1, j 2, eq_ix3 j⟩
  unfold Host.gather want
  congr 1
  generalize hd : Cert.ReferenceIdeal.gather_S4x44544x256_S16384x1_S4x16384x256_02_1_n_n_1_1_41256 = D
  funext b; apply Fin.ext
  show D.start (ix3 p t c) (starts pos) b + D.batchCoord (ix3 p t c) b + D.offCoord (ix3 p t c) b = _
  subst hd
  rw [GatherDims.batchCoord_eq_zero _ _ _ List.not_mem_nil, Nat.add_zero]
  match b with
  | 0 =>
    have h : Cert.ReferenceIdeal.gather_S4x44544x256_S16384x1_S4x16384x256_02_1_n_n_1_1_41256.start (ix3 p t c) (starts pos) 0 = 0 := by
      unfold GatherDims.start; exact dif_neg (by decide)
    have h' : Cert.ReferenceIdeal.gather_S4x44544x256_S16384x1_S4x16384x256_02_1_n_n_1_1_41256.offCoord (ix3 p t c) 0 = p.val := by
      unfold GatherDims.offCoord; rw [dif_pos (show (0 : Fin 3) ∈ Cert.ReferenceIdeal.gather_S4x44544x256_S16384x1_S4x16384x256_02_1_n_n_1_1_41256.sKept by decide)]; rfl
    rw [h, h']; exact Nat.zero_add _
  | 1 =>
    rw [GatherDims.offCoord_eq_zero _ _ _ (fun h => ((GatherDims.mem_sKept _ _).mp h).1 (List.mem_singleton.mpr rfl)), Nat.add_zero]
    unfold GatherDims.start
    rw [dif_pos (show (1 : Fin 3) ∈ Cert.ReferenceIdeal.gather_S4x44544x256_S16384x1_S4x16384x256_02_1_n_n_1_1_41256.startIndexMap from List.mem_singleton.mpr rfl)]
    have hsi : Cert.ReferenceIdeal.gather_S4x44544x256_S16384x1_S4x16384x256_02_1_n_n_1_1_41256.siIdx (ix3 p t c)
        ⟨List.idxOf (1 : Fin 3) Cert.ReferenceIdeal.gather_S4x44544x256_S16384x1_S4x16384x256_02_1_n_n_1_1_41256.startIndexMap,
          List.idxOf_lt_length_iff.2 (List.mem_singleton.mpr rfl)⟩ = ix2 t (0 : Fin 1) := by
      funext e; apply Fin.ext
      match e with
      | 0 => rfl
      | 1 => rfl
    have h := hpos (ix1 t)
    show min (starts pos _).toInt.toNat (44544 - 1) = (pos (ix1 t)).toNat
    rw [hsi, starts_apply pos hpos, BitVec.toInt_eq_toNat_cond]
    omega
  | 2 =>
    have h : Cert.ReferenceIdeal.gather_S4x44544x256_S16384x1_S4x16384x256_02_1_n_n_1_1_41256.start (ix3 p t c) (starts pos) 2 = 0 := by
      unfold GatherDims.start; exact dif_neg (by decide)
    have h' : Cert.ReferenceIdeal.gather_S4x44544x256_S16384x1_S4x16384x256_02_1_n_n_1_1_41256.offCoord (ix3 p t c) 2 = c.val := by
      unfold GatherDims.offCoord; rw [dif_pos (show (2 : Fin 3) ∈ Cert.ReferenceIdeal.gather_S4x44544x256_S16384x1_S4x16384x256_02_1_n_n_1_1_41256.sKept by decide)]; rfl
    rw [h, h']; exact Nat.zero_add _

/-- Every weakly fair run of the reference terminates, with the wanted result and the arguments as they were. -/
theorem run_ref (m : (ℓ : Loc Cert.ReferenceIdeal.nD Cert.ReferenceIdeal.τ Cert.ReferenceIdeal.sig) → Buf (Elt F) ℓ) (ρ : Dev Cert.ReferenceIdeal.nD → PrngReg)
    (a : Dev nD → S4x44544x256.Idx → Elt F .i32) (pos : Dev nD → S16384.Idx → BitVec 32) (hpos : ∀ d k, (pos d k).toNat < 44544)
    (ha : ∀ d : Dev nD, m ((d.tc : Thread Cert.ReferenceIdeal.nD Cert.ReferenceIdeal.τ).loc Cert.ReferenceIdeal.main_arg0) = a d
      ∧ m ((d.tc : Thread Cert.ReferenceIdeal.nD Cert.ReferenceIdeal.τ).loc Cert.ReferenceIdeal.main_arg1) = pos d) :
    θ_run (Cert.ReferenceIdeal.defs (F := F)) (onTc (τ := Cert.ReferenceIdeal.τ) (Cert.ReferenceIdeal.main (F := F))) ⟨m, fun _ => 0, ρ⟩ fun r => ∀ c : Dev Cert.ReferenceIdeal.nD,
      r.2.mem ((c.tc : Thread Cert.ReferenceIdeal.nD Cert.ReferenceIdeal.τ).loc Cert.ReferenceIdeal.main_v6) = want (a c) (pos c) (hpos c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  (θ_run Cert.ReferenceIdeal.defs _ _).mono
    (fun _ h c => ⟨(h c).1.trans (by rw [(ha c).1, (ha c).2]; exact gather_eq (a c) (pos c) (hpos c)), (h c).2⟩)
    (Cert.ReferenceIdeal.Value.run (F := F) m ρ)

end Ref

end Cert.Proof.Gather

end
-- ==== Proof.ExpertsRuns.lean ====
/-
  One grid point of the experts call: what the body leaves in its two scratch buffers and in its output block.

  A point of a used tile is the tile's first (the scratch buffers are filled), one in between, or its last (the output block is
  written); a point of an unused tile does nothing.
-/
module

public import proofs.«01_k».proof.Proof.Gen.ExpertsIdeal.Skeleton
public import proofs.«01_k».proof.Proof.Gen.ExpertsIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Proof.Experts

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of the tiles' experts, of the number of used tiles and of the tiles' numbers of valid rows. -/
abbrev teM : Memref sig .tc .smem S29 .i32 := Memref.whole main_arg1
abbrev nuM : Memref sig .tc .smem S1 .i32 := Memref.whole main_arg2
abbrev tvM : Memref sig .tc .smem S29 .i32 := Memref.whole main_arg3
/-- The accumulator and the tile's masked rows. -/
abbrev accM : Memref sig .tc .vmem S1536x2048 .f32 := Memref.whole cc0_scratch0
abbrev rowM : Memref sig .tc .vmem S1536x2048 .bf16 := Memref.whole cc0_scratch1

/-- The word read from the table of one entry. -/
abbrev nuAt (T1 : S1.Idx → Elt F .i32) : BitVec 32 :=
  View.readAt (Elt F) nuM.view (Rect.unit (s := S1) ![0] S1.size inb_S1_S1_0).toLoadRect T1 (Shape.Idx.first (numel1_S1.symm ▸ Nat.one_pos))

set_option backward.proofsInPublic true in
set_option maxHeartbeats 2000000 in
/-- The first point of a used tile: the scratch buffers are filled from nothing. -/
def runFirst (c : Dev nD) (i : grid0.Coords) (arg5 : Memref sig .tc .vmem S8x1536x256 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S8x1536x256 .bf16) (harg9 : arg9.IsWhole)
    (T0 : S29.Idx → Elt F .i32) (T1 : S1.Idx → Elt F .i32) (T2 : S29.Idx → Elt F .i32)
    (x0 : S8x1536x256.Idx → Elt F .bf16) (x1 x2 : S1x2048x256.Idx → Elt F .f32) (x3 : S1x256x2048.Idx → Elt F .f32)
    (xa0 : Buf (Elt F) ((c : Thread nD τ).loc cc0_scratch0)) (xa1 : Buf (Elt F) ((c : Thread nD τ).loc cc0_scratch1))
    (h1 : k0_cond1 i (nuAt T1) = 1#1) (h2 : k0_cond2 i = 1#1) (h9 : ¬k0_cond9 i = 1#1) :
    Σ' (out0 : Buf (Elt F) ((c : Thread nD τ).loc cc0_scratch0)), { out1 : Buf (Elt F) ((c : Thread nD τ).loc cc0_scratch1) //
      ∀ (y4 : S8x1536x256.Idx → Elt F .bf16)  (K : PUnit → sProp 𝕄),
        iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (teM.view.loc (c : Thread nD τ) ↦{fullShare.right} T0)
      ∗ (nuM.view.loc (c : Thread nD τ) ↦{fullShare.right} T1)
      ∗ (tvM.view.loc (c : Thread nD τ) ↦{fullShare.right} T2)
      ∗ owns (c : Thread nD τ) arg9 fullShare y4
      ∗ (accM.view.loc (c : Thread nD τ) ↦{fullShare} xa0)
      ∗ (rowM.view.loc (c : Thread nD τ) ↦{fullShare} xa1)
      ∗ (iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (teM.view.loc (c : Thread nD τ) ↦{fullShare.right} T0)
      ∗ (nuM.view.loc (c : Thread nD τ) ↦{fullShare.right} T1)
      ∗ (tvM.view.loc (c : Thread nD τ) ↦{fullShare.right} T2)
      ∗ owns (c : Thread nD τ) arg9 fullShare y4
      ∗ (accM.view.loc (c : Thread nD τ) ↦{fullShare} out0)
      ∗ (rowM.view.loc (c : Thread nD τ) ↦{fullShare} out1)) -∗ K ⟨⟩))
      ⊢ wp frame (wpE (defs₀ (F := F)) Variants.none c none) Set.univ (cc0_moe i teM (Memref.isWhole_whole _) nuM (Memref.isWhole_whole _) tvM (Memref.isWhole_whole _) arg5 harg5 arg6 harg6 arg7 harg7 arg8 harg8 arg9 harg9 accM (Memref.isWhole_whole _) rowM (Memref.isWhole_whole _)) K } :=
  ⟨_, _, fun y4  K => by
    unfold owns
    rw [cc0_moe_eq_skeleton]; unfold cc0_moe_skel
    iintro ⟨H0, H1, H2, H3, HT0, HT1, HT2, ⟨%f4, %hf4, HO4⟩, HS0, HS1, Hk⟩
    obtain rfl := harg9.eq_unread hf4
    have hS0 : accM.IsWhole := Memref.isWhole_whole _
    have hS1 : rowM.IsWhole := Memref.isWhole_whole _
    have hT0 : teM.IsWhole := Memref.isWhole_whole _
    have hT1 : nuM.IsWhole := Memref.isWhole_whole _
    have hT2 : tvM.IsWhole := Memref.isWhole_whole _
    sl_exec! (disch := first | (guard_target = k0_cond1 _ _ = _; exact h1) | (guard_target = k0_cond2 _ = _; exact h2) | (guard_target = ¬(k0_cond9 _ = _); exact h9))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]
    · iexists _; isplitr; · ipureintro; exact harg9.read_unread _
      iexact HO4
    isplitl [HS0]; · iexact HS0
    iexact HS1⟩

set_option backward.proofsInPublic true in
set_option maxHeartbeats 2000000 in
/-- A point of a used tile between its first and its last: only the accumulator changes. -/
def runMid (c : Dev nD) (i : grid0.Coords) (arg5 : Memref sig .tc .vmem S8x1536x256 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S8x1536x256 .bf16) (harg9 : arg9.IsWhole)
    (T0 : S29.Idx → Elt F .i32) (T1 : S1.Idx → Elt F .i32) (T2 : S29.Idx → Elt F .i32)
    (x0 : S8x1536x256.Idx → Elt F .bf16) (x1 x2 : S1x2048x256.Idx → Elt F .f32) (x3 : S1x256x2048.Idx → Elt F .f32)
    (xa0 : Buf (Elt F) ((c : Thread nD τ).loc cc0_scratch0)) (xa1 : Buf (Elt F) ((c : Thread nD τ).loc cc0_scratch1))
    (h1 : k0_cond1 i (nuAt T1) = 1#1) (h2 : ¬k0_cond2 i = 1#1) (h9 : ¬k0_cond9 i = 1#1) :
    Σ' (out0 : Buf (Elt F) ((c : Thread nD τ).loc cc0_scratch0)), { out1 : Buf (Elt F) ((c : Thread nD τ).loc cc0_scratch1) //
      ∀ (y4 : S8x1536x256.Idx → Elt F .bf16)  (K : PUnit → sProp 𝕄),
        iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (teM.view.loc (c : Thread nD τ) ↦{fullShare.right} T0)
      ∗ (nuM.view.loc (c : Thread nD τ) ↦{fullShare.right} T1)
      ∗ (tvM.view.loc (c : Thread nD τ) ↦{fullShare.right} T2)
      ∗ owns (c : Thread nD τ) arg9 fullShare y4
      ∗ (accM.view.loc (c : Thread nD τ) ↦{fullShare} xa0)
      ∗ (rowM.view.loc (c : Thread nD τ) ↦{fullShare} xa1)
      ∗ (iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (teM.view.loc (c : Thread nD τ) ↦{fullShare.right} T0)
      ∗ (nuM.view.loc (c : Thread nD τ) ↦{fullShare.right} T1)
      ∗ (tvM.view.loc (c : Thread nD τ) ↦{fullShare.right} T2)
      ∗ owns (c : Thread nD τ) arg9 fullShare y4
      ∗ (accM.view.loc (c : Thread nD τ) ↦{fullShare} out0)
      ∗ (rowM.view.loc (c : Thread nD τ) ↦{fullShare} out1)) -∗ K ⟨⟩))
      ⊢ wp frame (wpE (defs₀ (F := F)) Variants.none c none) Set.univ (cc0_moe i teM (Memref.isWhole_whole _) nuM (Memref.isWhole_whole _) tvM (Memref.isWhole_whole _) arg5 harg5 arg6 harg6 arg7 harg7 arg8 harg8 arg9 harg9 accM (Memref.isWhole_whole _) rowM (Memref.isWhole_whole _)) K } :=
  ⟨_, _, fun y4  K => by
    unfold owns
    rw [cc0_moe_eq_skeleton]; unfold cc0_moe_skel
    iintro ⟨H0, H1, H2, H3, HT0, HT1, HT2, ⟨%f4, %hf4, HO4⟩, HS0, HS1, Hk⟩
    obtain rfl := harg9.eq_unread hf4
    have hS0 : accM.IsWhole := Memref.isWhole_whole _
    have hS1 : rowM.IsWhole := Memref.isWhole_whole _
    have hT0 : teM.IsWhole := Memref.isWhole_whole _
    have hT1 : nuM.IsWhole := Memref.isWhole_whole _
    have hT2 : tvM.IsWhole := Memref.isWhole_whole _
    sl_exec! (disch := first | (guard_target = k0_cond1 _ _ = _; exact h1) | (guard_target = ¬(k0_cond2 _ = _); exact h2) | (guard_target = ¬(k0_cond9 _ = _); exact h9))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]
    · iexists _; isplitr; · ipureintro; exact harg9.read_unread _
      iexact HO4
    isplitl [HS0]; · iexact HS0
    iexact HS1⟩

set_option backward.proofsInPublic true in
set_option maxHeartbeats 2000000 in
/-- The last point of a used tile: the accumulator is updated and written to the output block. -/
def runLast (c : Dev nD) (i : grid0.Coords) (arg5 : Memref sig .tc .vmem S8x1536x256 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S8x1536x256 .bf16) (harg9 : arg9.IsWhole)
    (T0 : S29.Idx → Elt F .i32) (T1 : S1.Idx → Elt F .i32) (T2 : S29.Idx → Elt F .i32)
    (x0 : S8x1536x256.Idx → Elt F .bf16) (x1 x2 : S1x2048x256.Idx → Elt F .f32) (x3 : S1x256x2048.Idx → Elt F .f32)
    (xa0 : Buf (Elt F) ((c : Thread nD τ).loc cc0_scratch0)) (xa1 : Buf (Elt F) ((c : Thread nD τ).loc cc0_scratch1))
    (h1 : k0_cond1 i (nuAt T1) = 1#1) (h2 : ¬k0_cond2 i = 1#1) (h9 : k0_cond9 i = 1#1) :
    Σ' (L : List (View.Piece (Elt F) S8x1536x256 .bf16)) (out0 : Buf (Elt F) ((c : Thread nD τ).loc cc0_scratch0)), { out1 : Buf (Elt F) ((c : Thread nD τ).loc cc0_scratch1) //
      ∀ (y4 : S8x1536x256.Idx → Elt F .bf16)  (K : PUnit → sProp 𝕄),
        iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (teM.view.loc (c : Thread nD τ) ↦{fullShare.right} T0)
      ∗ (nuM.view.loc (c : Thread nD τ) ↦{fullShare.right} T1)
      ∗ (tvM.view.loc (c : Thread nD τ) ↦{fullShare.right} T2)
      ∗ owns (c : Thread nD τ) arg9 fullShare y4
      ∗ (accM.view.loc (c : Thread nD τ) ↦{fullShare} xa0)
      ∗ (rowM.view.loc (c : Thread nD τ) ↦{fullShare} xa1)
      ∗ (iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (teM.view.loc (c : Thread nD τ) ↦{fullShare.right} T0)
      ∗ (nuM.view.loc (c : Thread nD τ) ↦{fullShare.right} T1)
      ∗ (tvM.view.loc (c : Thread nD τ) ↦{fullShare.right} T2)
      ∗ (∃ f, arg9.view.loc (c : Thread nD τ) ↦[arg9.view.set]{fullShare} arg9.view.writes (Elt F) f L)
      ∗ (accM.view.loc (c : Thread nD τ) ↦{fullShare} out0)
      ∗ (rowM.view.loc (c : Thread nD τ) ↦{fullShare} out1)) -∗ K ⟨⟩))
      ⊢ wp frame (wpE (defs₀ (F := F)) Variants.none c none) Set.univ (cc0_moe i teM (Memref.isWhole_whole _) nuM (Memref.isWhole_whole _) tvM (Memref.isWhole_whole _) arg5 harg5 arg6 harg6 arg7 harg7 arg8 harg8 arg9 harg9 accM (Memref.isWhole_whole _) rowM (Memref.isWhole_whole _)) K } :=
  ⟨_, _, _, fun y4  K => by
    unfold owns
    rw [cc0_moe_eq_skeleton]; unfold cc0_moe_skel
    iintro ⟨H0, H1, H2, H3, HT0, HT1, HT2, ⟨%f4, %hf4, HO4⟩, HS0, HS1, Hk⟩
    obtain rfl := harg9.eq_unread hf4
    have hS0 : accM.IsWhole := Memref.isWhole_whole _
    have hS1 : rowM.IsWhole := Memref.isWhole_whole _
    have hT0 : teM.IsWhole := Memref.isWhole_whole _
    have hT1 : nuM.IsWhole := Memref.isWhole_whole _
    have hT2 : tvM.IsWhole := Memref.isWhole_whole _
    sl_exec! (disch := first | (guard_target = k0_cond1 _ _ = _; exact h1) | (guard_target = ¬(k0_cond2 _ = _); exact h2) | (guard_target = k0_cond9 _ = _; exact h9))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    isplitl [HS0]; · iexact HS0
    iexact HS1⟩

set_option backward.proofsInPublic true in
set_option maxHeartbeats 2000000 in
/-- A point of an unused tile: nothing changes. -/
def runIdle (c : Dev nD) (i : grid0.Coords) (arg5 : Memref sig .tc .vmem S8x1536x256 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S8x1536x256 .bf16) (harg9 : arg9.IsWhole)
    (T0 : S29.Idx → Elt F .i32) (T1 : S1.Idx → Elt F .i32) (T2 : S29.Idx → Elt F .i32)
    (x0 : S8x1536x256.Idx → Elt F .bf16) (x1 x2 : S1x2048x256.Idx → Elt F .f32) (x3 : S1x256x2048.Idx → Elt F .f32)
    (xa0 : Buf (Elt F) ((c : Thread nD τ).loc cc0_scratch0)) (xa1 : Buf (Elt F) ((c : Thread nD τ).loc cc0_scratch1))
    (h1 : ¬k0_cond1 i (nuAt T1) = 1#1) :
    Σ' (out0 : Buf (Elt F) ((c : Thread nD τ).loc cc0_scratch0)), { out1 : Buf (Elt F) ((c : Thread nD τ).loc cc0_scratch1) //
      ∀ (y4 : S8x1536x256.Idx → Elt F .bf16)  (K : PUnit → sProp 𝕄),
        iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (teM.view.loc (c : Thread nD τ) ↦{fullShare.right} T0)
      ∗ (nuM.view.loc (c : Thread nD τ) ↦{fullShare.right} T1)
      ∗ (tvM.view.loc (c : Thread nD τ) ↦{fullShare.right} T2)
      ∗ owns (c : Thread nD τ) arg9 fullShare y4
      ∗ (accM.view.loc (c : Thread nD τ) ↦{fullShare} xa0)
      ∗ (rowM.view.loc (c : Thread nD τ) ↦{fullShare} xa1)
      ∗ (iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (teM.view.loc (c : Thread nD τ) ↦{fullShare.right} T0)
      ∗ (nuM.view.loc (c : Thread nD τ) ↦{fullShare.right} T1)
      ∗ (tvM.view.loc (c : Thread nD τ) ↦{fullShare.right} T2)
      ∗ owns (c : Thread nD τ) arg9 fullShare y4
      ∗ (accM.view.loc (c : Thread nD τ) ↦{fullShare} out0)
      ∗ (rowM.view.loc (c : Thread nD τ) ↦{fullShare} out1)) -∗ K ⟨⟩))
      ⊢ wp frame (wpE (defs₀ (F := F)) Variants.none c none) Set.univ (cc0_moe i teM (Memref.isWhole_whole _) nuM (Memref.isWhole_whole _) tvM (Memref.isWhole_whole _) arg5 harg5 arg6 harg6 arg7 harg7 arg8 harg8 arg9 harg9 accM (Memref.isWhole_whole _) rowM (Memref.isWhole_whole _)) K } :=
  ⟨_, _, fun y4  K => by
    unfold owns
    rw [cc0_moe_eq_skeleton]; unfold cc0_moe_skel
    iintro ⟨H0, H1, H2, H3, HT0, HT1, HT2, ⟨%f4, %hf4, HO4⟩, HS0, HS1, Hk⟩
    obtain rfl := harg9.eq_unread hf4
    have hS0 : accM.IsWhole := Memref.isWhole_whole _
    have hS1 : rowM.IsWhole := Memref.isWhole_whole _
    have hT0 : teM.IsWhole := Memref.isWhole_whole _
    have hT1 : nuM.IsWhole := Memref.isWhole_whole _
    have hT2 : tvM.IsWhole := Memref.isWhole_whole _
    sl_exec! (disch := first | (guard_target = ¬(k0_cond1 _ _ = _); exact h1))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]
    · iexists _; isplitr; · ipureintro; exact harg9.read_unread _
      iexact HO4
    isplitl [HS0]; · iexact HS0
    iexact HS1⟩

end Cert.Proof.Experts

end
-- ==== Proof.ExpertsWords.lean ====
/-
  The 32-bit words that the experts call computes from its tables: comparisons with a tile's or a row's number, the block's
  number, and the number of row groups that a count of valid rows asks for.
-/
module

public import proofs.«01_k».proof.Proof.ExpertsRuns

@[expose] public section

namespace Cert.Proof.Experts

open Idealize.ShloMosaic

/-- A comparison's bit, as a condition tests it. -/
theorem bit_ne : ∀ b : BitVec 1, Scalar.cmpi .ne (Scalar.extui b : BitVec 32) 0#32 = 1#1 ↔ b = 1#1 := by decide
/-- The bit of a truth value. -/
theorem bit_bool : ∀ b : Bool, BitVec.ofBool b = 1#1 ↔ b = true := by decide

/-- A small number's word, read as signed. -/
theorem toInt_small (n : ℕ) (h : n < 2147483648) : (BitVec.ofNat 32 n).toInt = n := by
  rw [BitVec.toInt_eq_toNat_cond, BitVec.toNat_ofNat]; split <;> omega
/-- A word below half the range, read as signed. -/
theorem toInt_pos (w : BitVec 32) (h : w.toNat < 2147483648) : w.toInt = w.toNat := by
  rw [BitVec.toInt_eq_toNat_cond]; split <;> omega

/-- A signed comparison of words. -/
theorem slt_iff (v w : BitVec 32) : IntOp.cmpi .slt v w = 1#1 ↔ v.toInt < w.toInt := by
  refine (bit_bool (v.slt w)).trans ?_
  rw [BitVec.slt_eq_decide, decide_eq_true_eq]

/-- The condition that a number is below a word. -/
theorem cond1_word (a : ℕ) (w : BitVec 32) (ha : a < 2147483648) (hw : w.toNat < 2147483648) :
    Scalar.cmpi .ne (Scalar.extui (Scalar.cmpi .slt (BitVec.ofNat 32 a) w) : BitVec 32) 0#32 = 1#1 ↔ a < w.toNat := by
  refine (bit_ne _).trans ((slt_iff _ _).trans ?_)
  rw [toInt_small a ha, toInt_pos w hw]; omega

/-- A word less one. -/
theorem pred_word (w : BitVec 32) (h1 : 1 ≤ w.toNat) : (Scalar.subi w 1#32).toNat = w.toNat - 1 := by
  show (w - 1#32).toNat = _
  rw [BitVec.toNat_sub, BitVec.toNat_ofNat]; have := w.isLt; omega

/-- The smaller of a number and a word less one. -/
theorem min_word (a : ℕ) (w : BitVec 32) (ha : a < 2147483648) (h1 : 1 ≤ w.toNat) (hw : w.toNat < 2147483648) :
    (Scalar.minsi (BitVec.ofNat 32 a) (Scalar.subi w 1#32)).toNat = min a (w.toNat - 1) := by
  have hp := pred_word w h1
  have ea : (BitVec.ofNat 32 a).toNat = a := by rw [BitVec.toNat_ofNat]; omega
  show (if (BitVec.ofNat 32 a).slt (Scalar.subi w 1#32) then BitVec.ofNat 32 a else Scalar.subi w 1#32).toNat = _
  have h : (BitVec.ofNat 32 a).slt (Scalar.subi w 1#32) = true ↔ a < w.toNat - 1 := by
    rw [BitVec.slt_eq_decide, decide_eq_true_eq, toInt_small a ha, toInt_pos _ (by omega), hp]; omega
  by_cases q : a < w.toNat - 1
  · rw [if_pos (h.mpr q), ea]; omega
  · rw [if_neg fun e => q (h.mp e), hp]; omega

/-- A step's number where the tile is used, the last one where it is not. -/
theorem sel_word (a f : ℕ) (w : BitVec 32) (ha : a < 2147483648) (hf : f < 2147483648) (hw : w.toNat < 2147483648) :
    (Scalar.select (Scalar.cmpi .slt (BitVec.ofNat 32 a) w) (BitVec.ofNat 32 f) 27#32).toNat = if a < w.toNat then f else 27 := by
  have h : Scalar.cmpi .slt (BitVec.ofNat 32 a) w = 1#1 ↔ a < w.toNat := by
    refine (slt_iff _ _).trans ?_
    rw [toInt_small a ha, toInt_pos w hw]; omega
  unfold Scalar.select
  by_cases q : a < w.toNat
  · refine (congrArg BitVec.toNat (if_pos (h.mpr q))).trans ?_
    rw [if_pos q, BitVec.toNat_ofNat]; omega
  · refine (congrArg BitVec.toNat (if_neg fun e => q (h.mp e))).trans ?_
    rw [if_neg q]; rfl

/-! ## A tile's count of valid rows -/

/-- The count that a word stands for: none where it is negative. -/
def cnt (w : BitVec 32) : ℕ := w.toInt.toNat

/-- A row's number is below a word exactly where it is below its count. -/
theorem row_lt (r : ℕ) (w : BitVec 32) (hr : r < 1536) : IntOp.cmpi .slt (BitVec.ofNat 32 r) w = 1#1 ↔ r < cnt w := by
  refine (slt_iff _ _).trans ?_
  rw [toInt_small r (by omega)]; unfold cnt; omega

/-- The row groups of 256 rows that hold `w` rows, as the kernel computes their number. -/
def subWord (w : BitVec 32) : BitVec 32 :=
  let v10 : BitVec 32 := Scalar.subi (Scalar.addi w 256#32) 1#32
  let v11 : BitVec 32 := Scalar.divsi v10 256#32
  let v16 : BitVec 32 := Scalar.subi (Scalar.extui (Scalar.cmpi .sgt v10 0#32)) (Scalar.extui (Scalar.cmpi .slt v10 0#32))
  let v21 : BitVec 32 := Scalar.subi (Scalar.extui (Scalar.cmpi .sgt 256#32 0#32)) (Scalar.extui (Scalar.cmpi .slt 256#32 0#32))
  let v25 : BitVec 1 := Scalar.andi (Scalar.cmpi .ne v16 v21) (Scalar.cmpi .ne (Scalar.remsi v10 256#32) 0#32)
  Scalar.select v25 (Scalar.subi v11 1#32) v11

/-- At a count up to 1536 it is the count divided by 256, rounded up. -/
theorem subWord_ofNat : ∀ n : Fin 1537, subWord (BitVec.ofNat 32 n.val) = BitVec.ofNat 32 ((n.val + 255) / 256) := by
  decide +kernel

/-- At a negative word it is not positive. -/
theorem subWord_neg (w : BitVec 32) (h : w.toInt < 0) : (subWord w).toInt ≤ 0 := by
  have hl := BitVec.le_toInt w
  have hd := Int.mul_tdiv_add_tmod (w.toInt + 255) 256
  have hr := Int.tmod_lt_of_pos (w.toInt + 255) (b := 256) (by decide)
  have hr' := Int.lt_tmod_of_pos (w.toInt + 255) (b := 256) (by decide)
  have hq : (w.toInt + 255).tdiv 256 ≤ 0 := by
    by_cases p : 0 ≤ w.toInt + 255
    · have := Int.tmod_nonneg (256 : ℤ) p
      omega
    · omega
  have hb : -8388608 ≤ (w.toInt + 255).tdiv 256 := by omega
  have e10 : (Scalar.subi (Scalar.addi w 256#32) 1#32).toInt = w.toInt + 255 := by
    have e : Scalar.subi (Scalar.addi w 256#32) 1#32 = w + 255#32 := by
      show w + 256#32 - 1#32 = w + 255#32
      rw [BitVec.sub_eq_add_neg, BitVec.add_assoc]; rfl
    rw [e, BitVec.toInt_add, show (255#32 : BitVec 32).toInt = 255 from rfl]
    refine Int.bmod_eq_of_le ?_ ?_ <;> omega
  have e11 : (Scalar.divsi (Scalar.subi (Scalar.addi w 256#32) 1#32) 256#32).toInt = (w.toInt + 255).tdiv 256 := by
    have hc : ¬IntOp.SDivCorner (Scalar.subi (Scalar.addi w 256#32) 1#32) 256#32 := by
      rintro (h | ⟨_, h⟩) <;> exact absurd h (by decide)
    have e : Scalar.divsi (Scalar.subi (Scalar.addi w 256#32) 1#32) 256#32 = (Scalar.subi (Scalar.addi w 256#32) 1#32).sdiv 256#32 := if_neg hc
    rw [e, BitVec.toInt_sdiv, e10, show (256#32 : BitVec 32).toInt = 256 from rfl]
    refine Int.bmod_eq_of_le ?_ ?_ <;> omega
  have e12 : (Scalar.subi (Scalar.divsi (Scalar.subi (Scalar.addi w 256#32) 1#32) 256#32) 1#32).toInt = (w.toInt + 255).tdiv 256 - 1 := by
    show (_ - 1#32 : BitVec 32).toInt = _
    rw [BitVec.toInt_sub, e11, show (1#32 : BitVec 32).toInt = 1 from rfl]
    refine Int.bmod_eq_of_le ?_ ?_ <;> omega
  unfold subWord
  dsimp only
  unfold Scalar.select
  split
  · exact Int.le_trans (Int.le_of_eq e12) (by omega)
  · exact Int.le_trans (Int.le_of_eq e11) hq

/-- The word asks for `k` row groups: it is the word of `k`, or for none it is not positive. -/
def Groups (w : BitVec 32) : ℕ → Prop
  | 0 => w.toInt ≤ 0
  | k + 1 => w = BitVec.ofNat 32 (k + 1)

theorem groups_of_eq (w : BitVec 32) (k : ℕ) (h : w = BitVec.ofNat 32 k) : Groups w k := by
  subst h
  match k with
  | 0 => exact Int.le_refl 0
  | k + 1 => rfl

/-- A count up to 1536 asks for the groups that hold it. -/
theorem groups_cnt (w : BitVec 32) (h : w.toInt < 1537) : Groups (subWord w) ((cnt w + 255) / 256) := by
  by_cases q : w.toInt < 0
  · have e : (cnt w + 255) / 256 = 0 := by unfold cnt; omega
    rw [e]; exact subWord_neg w q
  · have hc : (cnt w : ℤ) = w.toInt := by unfold cnt; omega
    have e : w = BitVec.ofNat 32 (cnt w) := by
      apply BitVec.eq_of_toInt_eq
      rw [toInt_small _ (by omega), hc]
    have h' := subWord_ofNat ⟨cnt w, by omega⟩
    dsimp only at h'
    rw [← e] at h'
    exact groups_of_eq _ _ h'

/-- A word that is not positive fails a condition that it equals a positive one. -/
theorem low_cond (w j : BitVec 32) (h : w.toInt ≤ 0) (hj : 0 < j.toInt) : ¬Scalar.cmpi .ne (Scalar.extui (Scalar.cmpi .eq w j) : BitVec 32) 0#32 = 1#1 := by
  intro e
  have e' : w = j := beq_iff_eq.mp ((bit_bool (w == j)).mp ((bit_ne _).mp e))
  subst e'; omega

end Cert.Proof.Experts

end
-- ==== Proof.ExpertsSteps.lean ====
/-
  What a grid point's run leaves, as functions of the blocks it reads: the number of row groups that the tile's count of valid
  rows asks for, the masked rows, one accumulation, the output block.
-/
module

public import proofs.«01_k».proof.Proof.ExpertsWords
public import Idealize.ShloMosaic.Lib.VecWindow
public import Idealize.ShloMosaic.Lib.Pipeline.Value

@[expose] public section

set_option maxRecDepth 16384
set_option Elab.async false

noncomputable section

namespace Cert.Proof.Experts

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tile's entry in a table of the tiles. -/
def tileIx (i : grid0.Coords) : S29.Idx := fun a => ⟨(i 0).val, by match a with | ⟨0, _⟩ => exact (i 0).isLt⟩

theorem tile_word (i : grid0.Coords) : (Scalar.indexCast (BitVec.ofNat 32 (i 0).val) : Index).toNat = (i 0).val := by
  have h : (i 0).val < 29 := (i 0).isLt
  show (BitVec.ofNat 32 (i 0).val).toNat = (i 0).val
  rw [BitVec.toNat_ofNat]
  omega

/-- The load of the tile's entry reads that entry. -/
theorem load_tile (i : grid0.Coords) (T2 : S29.Idx → Elt F .i32) (off : Fin 1 → ℕ) (ho : off 0 = (i 0).val) (inb) (x : S1.Idx) :
    View.readAt (Elt F) tvM.view (Rect.unit (s := S29) off S1.size inb).toLoadRect T2 x = T2 (tileIx i) := by
  show T2 ((Rect.unit (s := S29) off S1.size inb).idx x) = _
  congr 1
  funext a
  match a with
  | ⟨0, _⟩ =>
    apply Fin.ext
    show off 0 + 1 * (x 0).val = (i 0).val
    have : (x 0).val < 1 := (x 0).isLt
    omega

/-- The accumulator after the products of the first `k` row groups are added to it. -/
def accStep (k : ℕ) (hb : S1536x2048.Idx → Elt F .bf16) (x1 x2 : S1x2048x256.Idx → Elt F .f32) (x3 : S1x256x2048.Idx → Elt F .f32)
    (acc : S1536x2048.Idx → Elt F .f32) : S1536x2048.Idx → Elt F .f32 :=
  match k with
  | 1 => accM.view.writes (Elt F) acc [⟨(Rect.unit (s := S1536x2048) ![0, 0] S256x2048.size inb_S1536x2048_S256x2048_0_0), k0_pay24 (View.readAt (Elt F) rowM.view (Rect.unit (s := S1536x2048) ![0, 0] S256x2048.size inb_S1536x2048_S256x2048_0_0).toLoadRect hb) x1 x2
      (View.readAt (Elt F) accM.view (Rect.unit (s := S1536x2048) ![0, 0] S256x2048.size inb_S1536x2048_S256x2048_0_0).toLoadRect acc) x3⟩]
  | 2 => accM.view.writes (Elt F) acc [⟨(Rect.unit (s := S1536x2048) ![0, 0] S512x2048.size inb_S1536x2048_S512x2048_0_0), k0_pay25 (View.readAt (Elt F) rowM.view (Rect.unit (s := S1536x2048) ![0, 0] S512x2048.size inb_S1536x2048_S512x2048_0_0).toLoadRect hb) x1 x2
      (View.readAt (Elt F) accM.view (Rect.unit (s := S1536x2048) ![0, 0] S512x2048.size inb_S1536x2048_S512x2048_0_0).toLoadRect acc) x3⟩]
  | 3 => accM.view.writes (Elt F) acc [⟨(Rect.unit (s := S1536x2048) ![0, 0] S768x2048.size inb_S1536x2048_S768x2048_0_0), k0_pay26 (View.readAt (Elt F) rowM.view (Rect.unit (s := S1536x2048) ![0, 0] S768x2048.size inb_S1536x2048_S768x2048_0_0).toLoadRect hb) x1 x2
      (View.readAt (Elt F) accM.view (Rect.unit (s := S1536x2048) ![0, 0] S768x2048.size inb_S1536x2048_S768x2048_0_0).toLoadRect acc) x3⟩]
  | 4 => accM.view.writes (Elt F) acc [⟨(Rect.unit (s := S1536x2048) ![0, 0] S1024x2048.size inb_S1536x2048_S1024x2048_0_0), k0_pay27 (View.readAt (Elt F) rowM.view (Rect.unit (s := S1536x2048) ![0, 0] S1024x2048.size inb_S1536x2048_S1024x2048_0_0).toLoadRect hb) x1 x2
      (View.readAt (Elt F) accM.view (Rect.unit (s := S1536x2048) ![0, 0] S1024x2048.size inb_S1536x2048_S1024x2048_0_0).toLoadRect acc) x3⟩]
  | 5 => accM.view.writes (Elt F) acc [⟨(Rect.unit (s := S1536x2048) ![0, 0] S1280x2048.size inb_S1536x2048_S1280x2048_0_0), k0_pay1 (View.readAt (Elt F) rowM.view (Rect.unit (s := S1536x2048) ![0, 0] S1280x2048.size inb_S1536x2048_S1280x2048_0_0).toLoadRect hb) x1 x2
      (View.readAt (Elt F) accM.view (Rect.unit (s := S1536x2048) ![0, 0] S1280x2048.size inb_S1536x2048_S1280x2048_0_0).toLoadRect acc) x3⟩]
  | 6 => accM.view.writes (Elt F) acc [⟨(Rect.unit (s := S1536x2048) ![0, 0] S1536x2048.size inb_S1536x2048_S1536x2048_0_0), k0_pay2 (View.readAt (Elt F) rowM.view (Rect.unit (s := S1536x2048) ![0, 0] S1536x2048.size inb_S1536x2048_S1536x2048_0_0).toLoadRect hb) x1 x2
      (View.readAt (Elt F) accM.view (Rect.unit (s := S1536x2048) ![0, 0] S1536x2048.size inb_S1536x2048_S1536x2048_0_0).toLoadRect acc) x3⟩]
  | _ => acc

/-- The stores that fill the masked rows, the last first. -/
def rowPieces (w : BitVec 32) (x0 : S8x1536x256.Idx → Elt F .bf16) : List (View.Piece (Elt F) S1536x2048 .bf16) :=
  let g (k : Fin 8) (inb : ∀ a, (![k.val, 0, 0] : Fin 3 → ℕ) a + S1x1536x256.size a ≤ S8x1536x256.size a) : Vec F S1x1536x256 .bf16 :=
    fun y => x0 ((Rect.unit (s := S8x1536x256) ![k.val, 0, 0] S1x1536x256.size inb).idx y)
  [⟨Rect.unit (s := S1536x2048) ![0, 1792] S1536x256.size inb_S1536x2048_S1536x256_0_1792, k0_pay23 (k0_pay16 (k0_pay7 (F := F) w) (g 7 inb_S8x1536x256_S1x1536x256_7_0_0))⟩,
    ⟨Rect.unit (s := S1536x2048) ![0, 1536] S1536x256.size inb_S1536x2048_S1536x256_0_1536, k0_pay15 (k0_pay7 (F := F) w) (g 6 inb_S8x1536x256_S1x1536x256_6_0_0)⟩,
    ⟨Rect.unit (s := S1536x2048) ![0, 1280] S1536x256.size inb_S1536x2048_S1536x256_0_1280, k0_pay14 (k0_pay7 (F := F) w) (g 5 inb_S8x1536x256_S1x1536x256_5_0_0)⟩,
    ⟨Rect.unit (s := S1536x2048) ![0, 1024] S1536x256.size inb_S1536x2048_S1536x256_0_1024, k0_pay13 (k0_pay7 (F := F) w) (g 4 inb_S8x1536x256_S1x1536x256_4_0_0)⟩,
    ⟨Rect.unit (s := S1536x2048) ![0, 768] S1536x256.size inb_S1536x2048_S1536x256_0_768, k0_pay12 (k0_pay7 (F := F) w) (k0_pay11 (g 3 inb_S8x1536x256_S1x1536x256_3_0_0))⟩,
    ⟨Rect.unit (s := S1536x2048) ![0, 512] S1536x256.size inb_S1536x2048_S1536x256_0_512, k0_pay10 w (g 2 inb_S8x1536x256_S1x1536x256_2_0_0)⟩,
    ⟨Rect.unit (s := S1536x2048) ![0, 256] S1536x256.size inb_S1536x2048_S1536x256_0_256, k0_pay9 w (g 1 inb_S8x1536x256_S1x1536x256_1_0_0)⟩,
    ⟨Rect.unit (s := S1536x2048) ![0, 0] S1536x256.size inb_S1536x2048_S1536x256_0_0, k0_pay8 w (g 0 inb_S8x1536x256_S1x1536x256_0_0_0)⟩]

/-- The tile's rows, those at or past the count `w` replaced by zeros. -/
def rowsOf (w : BitVec 32) (x0 : S8x1536x256.Idx → Elt F .bf16) : S1536x2048.Idx → Elt F .bf16 :=
  rowM.view.writes (Elt F) rowM.view.junk (rowPieces w x0)

/-- The stores of the output block, the last first. -/
def outPieces (acc : S1536x2048.Idx → Elt F .f32) : List (View.Piece (Elt F) S8x1536x256 .bf16) :=
  let g (k : ℕ) (inb : ∀ a, (![0, k] : Fin 2 → ℕ) a + S1536x256.size a ≤ S1536x2048.size a) : Vec F S1536x256 .f32 :=
    View.readAt (Elt F) accM.view (Rect.unit (s := S1536x2048) ![0, k] S1536x256.size inb).toLoadRect acc
  [⟨Rect.unit (s := S8x1536x256) ![7, 0, 0] S1x1536x256.size inb_S8x1536x256_S1x1536x256_7_0_0, k0_pay5 (g 1792 inb_S1536x2048_S1536x256_0_1792)⟩,
    ⟨Rect.unit (s := S8x1536x256) ![6, 0, 0] S1x1536x256.size inb_S8x1536x256_S1x1536x256_6_0_0, k0_pay4 (g 1536 inb_S1536x2048_S1536x256_0_1536)⟩,
    ⟨Rect.unit (s := S8x1536x256) ![5, 0, 0] S1x1536x256.size inb_S8x1536x256_S1x1536x256_5_0_0, k0_pay3 (k0_pay22 (g 1280 inb_S1536x2048_S1536x256_0_1280))⟩,
    ⟨Rect.unit (s := S8x1536x256) ![4, 0, 0] S1x1536x256.size inb_S8x1536x256_S1x1536x256_4_0_0, k0_pay21 (g 1024 inb_S1536x2048_S1536x256_0_1024)⟩,
    ⟨Rect.unit (s := S8x1536x256) ![3, 0, 0] S1x1536x256.size inb_S8x1536x256_S1x1536x256_3_0_0, k0_pay20 (g 768 inb_S1536x2048_S1536x256_0_768)⟩,
    ⟨Rect.unit (s := S8x1536x256) ![2, 0, 0] S1x1536x256.size inb_S8x1536x256_S1x1536x256_2_0_0, k0_pay19 (g 512 inb_S1536x2048_S1536x256_0_512)⟩,
    ⟨Rect.unit (s := S8x1536x256) ![1, 0, 0] S1x1536x256.size inb_S8x1536x256_S1x1536x256_1_0_0, k0_pay18 (g 256 inb_S1536x2048_S1536x256_0_256)⟩,
    ⟨Rect.unit (s := S8x1536x256) ![0, 0, 0] S1x1536x256.size inb_S8x1536x256_S1x1536x256_0_0_0, k0_pay17 (g 0 inb_S1536x2048_S1536x256_0_0)⟩]

/-- The output block of an accumulator. -/
def outOf (acc : S1536x2048.Idx → Elt F .f32) : S8x1536x256.Idx → Elt F .bf16 := View.canon (outPieces acc)

theorem runFirst_v30 (i : grid0.Coords) (T2 : S29.Idx → Elt F .i32) (w : BitVec 32) (hw : subWord (T2 (tileIx i)) = w) :
    runFirst.sl.v30 i T2 = Scalar.cmpi .ne (Scalar.extui (Scalar.cmpi .eq w 1#32) : BitVec 32) 0#32 := by
  subst hw
  rw [← load_tile i T2 (k0_off3 i) (tile_word i) (k0_off3_inb i) (Shape.Idx.first (numel1_S1.symm ▸ Nat.one_pos))]
  rfl

theorem runFirst_v33 (i : grid0.Coords) (T2 : S29.Idx → Elt F .i32) (w : BitVec 32) (hw : subWord (T2 (tileIx i)) = w) :
    runFirst.sl.v33 i T2 = Scalar.cmpi .ne (Scalar.extui (Scalar.cmpi .eq w 2#32) : BitVec 32) 0#32 := by
  subst hw
  rw [← load_tile i T2 (k0_off3 i) (tile_word i) (k0_off3_inb i) (Shape.Idx.first (numel1_S1.symm ▸ Nat.one_pos))]
  rfl

theorem runFirst_v36 (i : grid0.Coords) (T2 : S29.Idx → Elt F .i32) (w : BitVec 32) (hw : subWord (T2 (tileIx i)) = w) :
    runFirst.sl.v36 i T2 = Scalar.cmpi .ne (Scalar.extui (Scalar.cmpi .eq w 3#32) : BitVec 32) 0#32 := by
  subst hw
  rw [← load_tile i T2 (k0_off3 i) (tile_word i) (k0_off3_inb i) (Shape.Idx.first (numel1_S1.symm ▸ Nat.one_pos))]
  rfl

theorem runFirst_v39 (i : grid0.Coords) (T2 : S29.Idx → Elt F .i32) (w : BitVec 32) (hw : subWord (T2 (tileIx i)) = w) :
    runFirst.sl.v39 i T2 = Scalar.cmpi .ne (Scalar.extui (Scalar.cmpi .eq w 4#32) : BitVec 32) 0#32 := by
  subst hw
  rw [← load_tile i T2 (k0_off3 i) (tile_word i) (k0_off3_inb i) (Shape.Idx.first (numel1_S1.symm ▸ Nat.one_pos))]
  rfl

theorem runFirst_v42 (i : grid0.Coords) (T2 : S29.Idx → Elt F .i32) (w : BitVec 32) (hw : subWord (T2 (tileIx i)) = w) :
    runFirst.sl.v42 i T2 = Scalar.cmpi .ne (Scalar.extui (Scalar.cmpi .eq w 5#32) : BitVec 32) 0#32 := by
  subst hw
  rw [← load_tile i T2 (k0_off3 i) (tile_word i) (k0_off3_inb i) (Shape.Idx.first (numel1_S1.symm ▸ Nat.one_pos))]
  rfl

theorem runFirst_v45 (i : grid0.Coords) (T2 : S29.Idx → Elt F .i32) (w : BitVec 32) (hw : subWord (T2 (tileIx i)) = w) :
    runFirst.sl.v45 i T2 = Scalar.cmpi .ne (Scalar.extui (Scalar.cmpi .eq w 6#32) : BitVec 32) 0#32 := by
  subst hw
  rw [← load_tile i T2 (k0_off3 i) (tile_word i) (k0_off3_inb i) (Shape.Idx.first (numel1_S1.symm ▸ Nat.one_pos))]
  rfl

theorem runMid_v30 (i : grid0.Coords) (T2 : S29.Idx → Elt F .i32) (w : BitVec 32) (hw : subWord (T2 (tileIx i)) = w) :
    runMid.sl.v30 i T2 = Scalar.cmpi .ne (Scalar.extui (Scalar.cmpi .eq w 1#32) : BitVec 32) 0#32 := by
  subst hw
  rw [← load_tile i T2 (k0_off3 i) (tile_word i) (k0_off3_inb i) (Shape.Idx.first (numel1_S1.symm ▸ Nat.one_pos))]
  rfl

theorem runMid_v33 (i : grid0.Coords) (T2 : S29.Idx → Elt F .i32) (w : BitVec 32) (hw : subWord (T2 (tileIx i)) = w) :
    runMid.sl.v33 i T2 = Scalar.cmpi .ne (Scalar.extui (Scalar.cmpi .eq w 2#32) : BitVec 32) 0#32 := by
  subst hw
  rw [← load_tile i T2 (k0_off3 i) (tile_word i) (k0_off3_inb i) (Shape.Idx.first (numel1_S1.symm ▸ Nat.one_pos))]
  rfl

theorem runMid_v36 (i : grid0.Coords) (T2 : S29.Idx → Elt F .i32) (w : BitVec 32) (hw : subWord (T2 (tileIx i)) = w) :
    runMid.sl.v36 i T2 = Scalar.cmpi .ne (Scalar.extui (Scalar.cmpi .eq w 3#32) : BitVec 32) 0#32 := by
  subst hw
  rw [← load_tile i T2 (k0_off3 i) (tile_word i) (k0_off3_inb i) (Shape.Idx.first (numel1_S1.symm ▸ Nat.one_pos))]
  rfl

theorem runMid_v39 (i : grid0.Coords) (T2 : S29.Idx → Elt F .i32) (w : BitVec 32) (hw : subWord (T2 (tileIx i)) = w) :
    runMid.sl.v39 i T2 = Scalar.cmpi .ne (Scalar.extui (Scalar.cmpi .eq w 4#32) : BitVec 32) 0#32 := by
  subst hw
  rw [← load_tile i T2 (k0_off3 i) (tile_word i) (k0_off3_inb i) (Shape.Idx.first (numel1_S1.symm ▸ Nat.one_pos))]
  rfl

theorem runMid_v42 (i : grid0.Coords) (T2 : S29.Idx → Elt F .i32) (w : BitVec 32) (hw : subWord (T2 (tileIx i)) = w) :
    runMid.sl.v42 i T2 = Scalar.cmpi .ne (Scalar.extui (Scalar.cmpi .eq w 5#32) : BitVec 32) 0#32 := by
  subst hw
  rw [← load_tile i T2 (k0_off3 i) (tile_word i) (k0_off3_inb i) (Shape.Idx.first (numel1_S1.symm ▸ Nat.one_pos))]
  rfl

theorem runMid_v45 (i : grid0.Coords) (T2 : S29.Idx → Elt F .i32) (w : BitVec 32) (hw : subWord (T2 (tileIx i)) = w) :
    runMid.sl.v45 i T2 = Scalar.cmpi .ne (Scalar.extui (Scalar.cmpi .eq w 6#32) : BitVec 32) 0#32 := by
  subst hw
  rw [← load_tile i T2 (k0_off3 i) (tile_word i) (k0_off3_inb i) (Shape.Idx.first (numel1_S1.symm ▸ Nat.one_pos))]
  rfl

theorem runLast_v30 (i : grid0.Coords) (T2 : S29.Idx → Elt F .i32) (w : BitVec 32) (hw : subWord (T2 (tileIx i)) = w) :
    runLast.sl.v30 i T2 = Scalar.cmpi .ne (Scalar.extui (Scalar.cmpi .eq w 1#32) : BitVec 32) 0#32 := by
  subst hw
  rw [← load_tile i T2 (k0_off3 i) (tile_word i) (k0_off3_inb i) (Shape.Idx.first (numel1_S1.symm ▸ Nat.one_pos))]
  rfl

theorem runLast_v33 (i : grid0.Coords) (T2 : S29.Idx → Elt F .i32) (w : BitVec 32) (hw : subWord (T2 (tileIx i)) = w) :
    runLast.sl.v33 i T2 = Scalar.cmpi .ne (Scalar.extui (Scalar.cmpi .eq w 2#32) : BitVec 32) 0#32 := by
  subst hw
  rw [← load_tile i T2 (k0_off3 i) (tile_word i) (k0_off3_inb i) (Shape.Idx.first (numel1_S1.symm ▸ Nat.one_pos))]
  rfl

theorem runLast_v36 (i : grid0.Coords) (T2 : S29.Idx → Elt F .i32) (w : BitVec 32) (hw : subWord (T2 (tileIx i)) = w) :
    runLast.sl.v36 i T2 = Scalar.cmpi .ne (Scalar.extui (Scalar.cmpi .eq w 3#32) : BitVec 32) 0#32 := by
  subst hw
  rw [← load_tile i T2 (k0_off3 i) (tile_word i) (k0_off3_inb i) (Shape.Idx.first (numel1_S1.symm ▸ Nat.one_pos))]
  rfl

theorem runLast_v39 (i : grid0.Coords) (T2 : S29.Idx → Elt F .i32) (w : BitVec 32) (hw : subWord (T2 (tileIx i)) = w) :
    runLast.sl.v39 i T2 = Scalar.cmpi .ne (Scalar.extui (Scalar.cmpi .eq w 4#32) : BitVec 32) 0#32 := by
  subst hw
  rw [← load_tile i T2 (k0_off3 i) (tile_word i) (k0_off3_inb i) (Shape.Idx.first (numel1_S1.symm ▸ Nat.one_pos))]
  rfl

theorem runLast_v42 (i : grid0.Coords) (T2 : S29.Idx → Elt F .i32) (w : BitVec 32) (hw : subWord (T2 (tileIx i)) = w) :
    runLast.sl.v42 i T2 = Scalar.cmpi .ne (Scalar.extui (Scalar.cmpi .eq w 5#32) : BitVec 32) 0#32 := by
  subst hw
  rw [← load_tile i T2 (k0_off3 i) (tile_word i) (k0_off3_inb i) (Shape.Idx.first (numel1_S1.symm ▸ Nat.one_pos))]
  rfl

theorem runLast_v45 (i : grid0.Coords) (T2 : S29.Idx → Elt F .i32) (w : BitVec 32) (hw : subWord (T2 (tileIx i)) = w) :
    runLast.sl.v45 i T2 = Scalar.cmpi .ne (Scalar.extui (Scalar.cmpi .eq w 6#32) : BitVec 32) 0#32 := by
  subst hw
  rw [← load_tile i T2 (k0_off3 i) (tile_word i) (k0_off3_inb i) (Shape.Idx.first (numel1_S1.symm ▸ Nat.one_pos))]
  rfl

theorem runMid_acc (c : Dev nD) (i : grid0.Coords) (arg5 : Memref sig .tc .vmem S8x1536x256 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S8x1536x256 .bf16) (harg9 : arg9.IsWhole)
    (T0 : S29.Idx → Elt F .i32) (T1 : S1.Idx → Elt F .i32) (T2 : S29.Idx → Elt F .i32)
    (x0 : S8x1536x256.Idx → Elt F .bf16) (x1 x2 : S1x2048x256.Idx → Elt F .f32) (x3 : S1x256x2048.Idx → Elt F .f32) (xa0 : Buf (Elt F) ((c : Thread nD τ).loc cc0_scratch0)) (xa1 : Buf (Elt F) ((c : Thread nD τ).loc cc0_scratch1)) (h1 : k0_cond1 i (nuAt T1) = 1#1) (h2 : ¬k0_cond2 i = 1#1) (h9 : ¬k0_cond9 i = 1#1) (k : ℕ) (hk : k ≤ 6) (hw : Groups (subWord (T2 (tileIx i))) k) :
    (runMid c i arg5 harg5 arg6 harg6 arg7 harg7 arg8 harg8 arg9 harg9 T0 T1 T2 x0 x1 x2 x3 xa0 xa1 h1 h2 h9).1 = accStep k xa1 x1 x2 x3 xa0 := by
  match k, hk, hw with
  | 0, _, hw =>
    have q0 : ¬runMid.sl.v30 i T2 = 1#1 := fun h => low_cond _ _ hw (by decide) ((runMid_v30 i T2 _ rfl).symm.trans h)
    have q1 : ¬runMid.sl.v33 i T2 = 1#1 := fun h => low_cond _ _ hw (by decide) ((runMid_v33 i T2 _ rfl).symm.trans h)
    have q2 : ¬runMid.sl.v36 i T2 = 1#1 := fun h => low_cond _ _ hw (by decide) ((runMid_v36 i T2 _ rfl).symm.trans h)
    have q3 : ¬runMid.sl.v39 i T2 = 1#1 := fun h => low_cond _ _ hw (by decide) ((runMid_v39 i T2 _ rfl).symm.trans h)
    have q4 : ¬runMid.sl.v42 i T2 = 1#1 := fun h => low_cond _ _ hw (by decide) ((runMid_v42 i T2 _ rfl).symm.trans h)
    have q5 : ¬runMid.sl.v45 i T2 = 1#1 := fun h => low_cond _ _ hw (by decide) ((runMid_v45 i T2 _ rfl).symm.trans h)
    unfold runMid
    dsimp only
    simp only [dif_pos, dif_neg, q0, q1, q2, q3, q4, q5, not_false_eq_true]
    rfl
  | 1, _, hw =>
    have q0 : runMid.sl.v30 i T2 = 1#1 := (runMid_v30 i T2 _ hw).trans (by decide)
    have q1 : ¬runMid.sl.v33 i T2 = 1#1 := fun h => absurd ((runMid_v33 i T2 _ hw).symm.trans h) (by decide)
    have q2 : ¬runMid.sl.v36 i T2 = 1#1 := fun h => absurd ((runMid_v36 i T2 _ hw).symm.trans h) (by decide)
    have q3 : ¬runMid.sl.v39 i T2 = 1#1 := fun h => absurd ((runMid_v39 i T2 _ hw).symm.trans h) (by decide)
    have q4 : ¬runMid.sl.v42 i T2 = 1#1 := fun h => absurd ((runMid_v42 i T2 _ hw).symm.trans h) (by decide)
    have q5 : ¬runMid.sl.v45 i T2 = 1#1 := fun h => absurd ((runMid_v45 i T2 _ hw).symm.trans h) (by decide)
    unfold runMid
    dsimp only
    simp only [dif_pos, dif_neg, q0, q1, q2, q3, q4, q5, not_false_eq_true]
    rw [View.readAt_rep_full, View.readAt_rep_full, View.readAt_rep_full]
    rfl
  | 2, _, hw =>
    have q0 : ¬runMid.sl.v30 i T2 = 1#1 := fun h => absurd ((runMid_v30 i T2 _ hw).symm.trans h) (by decide)
    have q1 : runMid.sl.v33 i T2 = 1#1 := (runMid_v33 i T2 _ hw).trans (by decide)
    have q2 : ¬runMid.sl.v36 i T2 = 1#1 := fun h => absurd ((runMid_v36 i T2 _ hw).symm.trans h) (by decide)
    have q3 : ¬runMid.sl.v39 i T2 = 1#1 := fun h => absurd ((runMid_v39 i T2 _ hw).symm.trans h) (by decide)
    have q4 : ¬runMid.sl.v42 i T2 = 1#1 := fun h => absurd ((runMid_v42 i T2 _ hw).symm.trans h) (by decide)
    have q5 : ¬runMid.sl.v45 i T2 = 1#1 := fun h => absurd ((runMid_v45 i T2 _ hw).symm.trans h) (by decide)
    unfold runMid
    dsimp only
    simp only [dif_pos, dif_neg, q0, q1, q2, q3, q4, q5, not_false_eq_true]
    unfold runMid.sl.v67
    simp only [dif_pos, dif_neg, q0, q1, q2, q3, q4, q5, not_false_eq_true]
    rw [View.readAt_rep_full, View.readAt_rep_full, View.readAt_rep_full]
    rfl
  | 3, _, hw =>
    have q0 : ¬runMid.sl.v30 i T2 = 1#1 := fun h => absurd ((runMid_v30 i T2 _ hw).symm.trans h) (by decide)
    have q1 : ¬runMid.sl.v33 i T2 = 1#1 := fun h => absurd ((runMid_v33 i T2 _ hw).symm.trans h) (by decide)
    have q2 : runMid.sl.v36 i T2 = 1#1 := (runMid_v36 i T2 _ hw).trans (by decide)
    have q3 : ¬runMid.sl.v39 i T2 = 1#1 := fun h => absurd ((runMid_v39 i T2 _ hw).symm.trans h) (by decide)
    have q4 : ¬runMid.sl.v42 i T2 = 1#1 := fun h => absurd ((runMid_v42 i T2 _ hw).symm.trans h) (by decide)
    have q5 : ¬runMid.sl.v45 i T2 = 1#1 := fun h => absurd ((runMid_v45 i T2 _ hw).symm.trans h) (by decide)
    unfold runMid
    dsimp only
    simp only [dif_pos, dif_neg, q0, q1, q2, q3, q4, q5, not_false_eq_true]
    unfold runMid.sl.v67_1
    simp only [dif_pos, dif_neg, q0, q1, q2, q3, q4, q5, not_false_eq_true]
    rw [View.readAt_rep_full, View.readAt_rep_full, View.readAt_rep_full]
    rfl
  | 4, _, hw =>
    have q0 : ¬runMid.sl.v30 i T2 = 1#1 := fun h => absurd ((runMid_v30 i T2 _ hw).symm.trans h) (by decide)
    have q1 : ¬runMid.sl.v33 i T2 = 1#1 := fun h => absurd ((runMid_v33 i T2 _ hw).symm.trans h) (by decide)
    have q2 : ¬runMid.sl.v36 i T2 = 1#1 := fun h => absurd ((runMid_v36 i T2 _ hw).symm.trans h) (by decide)
    have q3 : runMid.sl.v39 i T2 = 1#1 := (runMid_v39 i T2 _ hw).trans (by decide)
    have q4 : ¬runMid.sl.v42 i T2 = 1#1 := fun h => absurd ((runMid_v42 i T2 _ hw).symm.trans h) (by decide)
    have q5 : ¬runMid.sl.v45 i T2 = 1#1 := fun h => absurd ((runMid_v45 i T2 _ hw).symm.trans h) (by decide)
    unfold runMid
    dsimp only
    simp only [dif_pos, dif_neg, q0, q1, q2, q3, q4, q5, not_false_eq_true]
    unfold runMid.sl.v67_2
    simp only [dif_pos, dif_neg, q0, q1, q2, q3, q4, q5, not_false_eq_true]
    rw [View.readAt_rep_full, View.readAt_rep_full, View.readAt_rep_full]
    rfl
  | 5, _, hw =>
    have q0 : ¬runMid.sl.v30 i T2 = 1#1 := fun h => absurd ((runMid_v30 i T2 _ hw).symm.trans h) (by decide)
    have q1 : ¬runMid.sl.v33 i T2 = 1#1 := fun h => absurd ((runMid_v33 i T2 _ hw).symm.trans h) (by decide)
    have q2 : ¬runMid.sl.v36 i T2 = 1#1 := fun h => absurd ((runMid_v36 i T2 _ hw).symm.trans h) (by decide)
    have q3 : ¬runMid.sl.v39 i T2 = 1#1 := fun h => absurd ((runMid_v39 i T2 _ hw).symm.trans h) (by decide)
    have q4 : runMid.sl.v42 i T2 = 1#1 := (runMid_v42 i T2 _ hw).trans (by decide)
    have q5 : ¬runMid.sl.v45 i T2 = 1#1 := fun h => absurd ((runMid_v45 i T2 _ hw).symm.trans h) (by decide)
    unfold runMid
    dsimp only
    simp only [dif_pos, dif_neg, q0, q1, q2, q3, q4, q5, not_false_eq_true]
    unfold runMid.sl.v67_3
    simp only [dif_pos, dif_neg, q0, q1, q2, q3, q4, q5, not_false_eq_true]
    rw [View.readAt_rep_full, View.readAt_rep_full, View.readAt_rep_full]
    rfl
  | 6, _, hw =>
    have q0 : ¬runMid.sl.v30 i T2 = 1#1 := fun h => absurd ((runMid_v30 i T2 _ hw).symm.trans h) (by decide)
    have q1 : ¬runMid.sl.v33 i T2 = 1#1 := fun h => absurd ((runMid_v33 i T2 _ hw).symm.trans h) (by decide)
    have q2 : ¬runMid.sl.v36 i T2 = 1#1 := fun h => absurd ((runMid_v36 i T2 _ hw).symm.trans h) (by decide)
    have q3 : ¬runMid.sl.v39 i T2 = 1#1 := fun h => absurd ((runMid_v39 i T2 _ hw).symm.trans h) (by decide)
    have q4 : ¬runMid.sl.v42 i T2 = 1#1 := fun h => absurd ((runMid_v42 i T2 _ hw).symm.trans h) (by decide)
    have q5 : runMid.sl.v45 i T2 = 1#1 := (runMid_v45 i T2 _ hw).trans (by decide)
    unfold runMid
    dsimp only
    simp only [dif_pos, dif_neg, q0, q1, q2, q3, q4, q5, not_false_eq_true]
    unfold runMid.sl.v67_4
    simp only [dif_pos, dif_neg, q0, q1, q2, q3, q4, q5, not_false_eq_true]
    rw [View.readAt_rep_full, View.readAt_rep_full, View.readAt_rep_full]
    rfl

theorem writes_zero (f : S1536x2048.Idx → Elt F .f32) : accM.view.writes (Elt F) f (runFirst.sl.HS0_1 (F := F)) = k0_pay6 := by
  have ho : (![0, 0] : Fin 2 → ℕ) = fun _ => 0 := by funext a; match a with | ⟨0, _⟩ => rfl | ⟨1, _⟩ => rfl
  refine Eq.trans (b := accM.view.read (Elt F) (accM.view.writes (Elt F) f runFirst.sl.HS0_1)) (View.read_whole cc0_scratch0 _).symm ?_
  have hc : ∀ y, ∃ p ∈ runFirst.sl.HS0_1 (F := F), y ∈ p.1.set := fun y => by
    have hy := Idealize.ShloMosaic.View.mem_set_unit_zero (S := S1536x2048) ho inb_S1536x2048_S1536x2048_0_0 y
    unfold runFirst.sl.HS0_1
    exact ⟨_, List.mem_singleton_self _, hy⟩
  rw [View.read_writes_eq_canon accM.view f _ hc]
  unfold runFirst.sl.HS0_1
  exact View.canon_unit_zero ho _ _

theorem writes_split {sig' : RefSig} {κ' : Kind} {sp : Space} {s : Shape} {e : EltTy} (v : View sig' κ' sp s e) (f : v.ty.Contents (Elt F)) (p : View.Piece (Elt F) s e)
    (L : List (View.Piece (Elt F) s e)) : v.writes (Elt F) f (p :: L) = v.writes (Elt F) (v.writes (Elt F) f L) [p] := rfl

theorem runFirst_pieces (i : grid0.Coords) (arg5 : Memref sig .tc .vmem S8x1536x256 .bf16) (T2 : S29.Idx → Elt F .i32)
    (x0 : S8x1536x256.Idx → Elt F .bf16) (h2 : k0_cond2 i = 1#1) :
    runFirst.sl.HS1_8 i arg5 T2 x0 h2 = rowPieces (T2 (tileIx i)) x0 := by
  rw [← load_tile i T2 (k0_off2 i) (tile_word i) (k0_off2_inb i h2) (Shape.Idx.first (numel1_S1.symm ▸ Nat.one_pos))]
  unfold runFirst.sl.HS1_8 runFirst.sl.r_4 runFirst.sl.r_3
  (try unfold runFirst.sl.HS1_7)
  (try unfold runFirst.sl.HS1_6)
  (try unfold runFirst.sl.HS1_5)
  (try unfold runFirst.sl.HS1_4)
  (try unfold runFirst.sl.HS1_3)
  (try unfold runFirst.sl.HS1_2)
  (try unfold runFirst.sl.HS1_1)
  (try unfold runFirst.sl.r_3)
  rw [View.readAt_rep, View.readAt_rep, View.readAt_rep, View.readAt_rep, View.readAt_rep, View.readAt_rep, View.readAt_rep, View.readAt_rep]
  rfl

theorem runFirst_rows (c : Dev nD) (i : grid0.Coords) (arg5 : Memref sig .tc .vmem S8x1536x256 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S8x1536x256 .bf16) (harg9 : arg9.IsWhole)
    (T0 : S29.Idx → Elt F .i32) (T1 : S1.Idx → Elt F .i32) (T2 : S29.Idx → Elt F .i32)
    (x0 : S8x1536x256.Idx → Elt F .bf16) (x1 x2 : S1x2048x256.Idx → Elt F .f32) (x3 : S1x256x2048.Idx → Elt F .f32) (xa0 : Buf (Elt F) ((c : Thread nD τ).loc cc0_scratch0)) (xa1 : Buf (Elt F) ((c : Thread nD τ).loc cc0_scratch1)) (h1 : k0_cond1 i (nuAt T1) = 1#1) (h2 : k0_cond2 i = 1#1) (h9 : ¬k0_cond9 i = 1#1) :
    (runFirst c i arg5 harg5 arg6 harg6 arg7 harg7 arg8 harg8 arg9 harg9 T0 T1 T2 x0 x1 x2 x3 xa0 xa1 h1 h2 h9).2.1 = rowsOf (T2 (tileIx i)) x0 := by
  unfold runFirst
  dsimp only
  rw [runFirst_pieces]
  rfl

theorem runFirst_acc (c : Dev nD) (i : grid0.Coords) (arg5 : Memref sig .tc .vmem S8x1536x256 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S8x1536x256 .bf16) (harg9 : arg9.IsWhole)
    (T0 : S29.Idx → Elt F .i32) (T1 : S1.Idx → Elt F .i32) (T2 : S29.Idx → Elt F .i32)
    (x0 : S8x1536x256.Idx → Elt F .bf16) (x1 x2 : S1x2048x256.Idx → Elt F .f32) (x3 : S1x256x2048.Idx → Elt F .f32) (xa0 : Buf (Elt F) ((c : Thread nD τ).loc cc0_scratch0)) (xa1 : Buf (Elt F) ((c : Thread nD τ).loc cc0_scratch1)) (h1 : k0_cond1 i (nuAt T1) = 1#1) (h2 : k0_cond2 i = 1#1) (h9 : ¬k0_cond9 i = 1#1) (k : ℕ) (hk : k ≤ 6) (hw : Groups (subWord (T2 (tileIx i))) k) :
    (runFirst c i arg5 harg5 arg6 harg6 arg7 harg7 arg8 harg8 arg9 harg9 T0 T1 T2 x0 x1 x2 x3 xa0 xa1 h1 h2 h9).1 = accStep k (rowsOf (T2 (tileIx i)) x0) x1 x2 x3 k0_pay6 := by
  match k, hk, hw with
  | 0, _, hw =>
    have q0 : ¬runFirst.sl.v30 i T2 = 1#1 := fun h => low_cond _ _ hw (by decide) ((runFirst_v30 i T2 _ rfl).symm.trans h)
    have q1 : ¬runFirst.sl.v33 i T2 = 1#1 := fun h => low_cond _ _ hw (by decide) ((runFirst_v33 i T2 _ rfl).symm.trans h)
    have q2 : ¬runFirst.sl.v36 i T2 = 1#1 := fun h => low_cond _ _ hw (by decide) ((runFirst_v36 i T2 _ rfl).symm.trans h)
    have q3 : ¬runFirst.sl.v39 i T2 = 1#1 := fun h => low_cond _ _ hw (by decide) ((runFirst_v39 i T2 _ rfl).symm.trans h)
    have q4 : ¬runFirst.sl.v42 i T2 = 1#1 := fun h => low_cond _ _ hw (by decide) ((runFirst_v42 i T2 _ rfl).symm.trans h)
    have q5 : ¬runFirst.sl.v45 i T2 = 1#1 := fun h => low_cond _ _ hw (by decide) ((runFirst_v45 i T2 _ rfl).symm.trans h)
    unfold runFirst
    dsimp only
    simp only [dif_pos, dif_neg, q0, q1, q2, q3, q4, q5, not_false_eq_true]
    exact writes_zero xa0
  | 1, _, hw =>
    have q0 : runFirst.sl.v30 i T2 = 1#1 := (runFirst_v30 i T2 _ hw).trans (by decide)
    have q1 : ¬runFirst.sl.v33 i T2 = 1#1 := fun h => absurd ((runFirst_v33 i T2 _ hw).symm.trans h) (by decide)
    have q2 : ¬runFirst.sl.v36 i T2 = 1#1 := fun h => absurd ((runFirst_v36 i T2 _ hw).symm.trans h) (by decide)
    have q3 : ¬runFirst.sl.v39 i T2 = 1#1 := fun h => absurd ((runFirst_v39 i T2 _ hw).symm.trans h) (by decide)
    have q4 : ¬runFirst.sl.v42 i T2 = 1#1 := fun h => absurd ((runFirst_v42 i T2 _ hw).symm.trans h) (by decide)
    have q5 : ¬runFirst.sl.v45 i T2 = 1#1 := fun h => absurd ((runFirst_v45 i T2 _ hw).symm.trans h) (by decide)
    unfold runFirst
    dsimp only
    simp only [dif_pos, dif_neg, q0, q1, q2, q3, q4, q5, not_false_eq_true]
    unfold runFirst.sl.v67 runFirst.sl.v49
    simp only [dif_pos, dif_neg, q0, q1, q2, q3, q4, q5, not_false_eq_true]
    rw [View.readAt_rep_full, View.readAt_rep_full, View.readAt_rep_full, runFirst_pieces, writes_split]
    unfold View.readCov
    rw [writes_zero, writes_zero]
    rfl
  | 2, _, hw =>
    have q0 : ¬runFirst.sl.v30 i T2 = 1#1 := fun h => absurd ((runFirst_v30 i T2 _ hw).symm.trans h) (by decide)
    have q1 : runFirst.sl.v33 i T2 = 1#1 := (runFirst_v33 i T2 _ hw).trans (by decide)
    have q2 : ¬runFirst.sl.v36 i T2 = 1#1 := fun h => absurd ((runFirst_v36 i T2 _ hw).symm.trans h) (by decide)
    have q3 : ¬runFirst.sl.v39 i T2 = 1#1 := fun h => absurd ((runFirst_v39 i T2 _ hw).symm.trans h) (by decide)
    have q4 : ¬runFirst.sl.v42 i T2 = 1#1 := fun h => absurd ((runFirst_v42 i T2 _ hw).symm.trans h) (by decide)
    have q5 : ¬runFirst.sl.v45 i T2 = 1#1 := fun h => absurd ((runFirst_v45 i T2 _ hw).symm.trans h) (by decide)
    unfold runFirst
    dsimp only
    simp only [dif_pos, dif_neg, q0, q1, q2, q3, q4, q5, not_false_eq_true]
    unfold runFirst.sl.v67_1 runFirst.sl.v49_1
    simp only [dif_pos, dif_neg, q0, q1, q2, q3, q4, q5, not_false_eq_true]
    rw [View.readAt_rep_full, View.readAt_rep_full, View.readAt_rep_full, runFirst_pieces, writes_split]
    unfold View.readCov
    rw [writes_zero]
    rfl
  | 3, _, hw =>
    have q0 : ¬runFirst.sl.v30 i T2 = 1#1 := fun h => absurd ((runFirst_v30 i T2 _ hw).symm.trans h) (by decide)
    have q1 : ¬runFirst.sl.v33 i T2 = 1#1 := fun h => absurd ((runFirst_v33 i T2 _ hw).symm.trans h) (by decide)
    have q2 : runFirst.sl.v36 i T2 = 1#1 := (runFirst_v36 i T2 _ hw).trans (by decide)
    have q3 : ¬runFirst.sl.v39 i T2 = 1#1 := fun h => absurd ((runFirst_v39 i T2 _ hw).symm.trans h) (by decide)
    have q4 : ¬runFirst.sl.v42 i T2 = 1#1 := fun h => absurd ((runFirst_v42 i T2 _ hw).symm.trans h) (by decide)
    have q5 : ¬runFirst.sl.v45 i T2 = 1#1 := fun h => absurd ((runFirst_v45 i T2 _ hw).symm.trans h) (by decide)
    unfold runFirst
    dsimp only
    simp only [dif_pos, dif_neg, q0, q1, q2, q3, q4, q5, not_false_eq_true]
    unfold runFirst.sl.v67_2 runFirst.sl.v49_2
    simp only [dif_pos, dif_neg, q0, q1, q2, q3, q4, q5, not_false_eq_true]
    rw [View.readAt_rep_full, View.readAt_rep_full, View.readAt_rep_full, runFirst_pieces, writes_split]
    unfold View.readCov
    rw [writes_zero]
    rfl
  | 4, _, hw =>
    have q0 : ¬runFirst.sl.v30 i T2 = 1#1 := fun h => absurd ((runFirst_v30 i T2 _ hw).symm.trans h) (by decide)
    have q1 : ¬runFirst.sl.v33 i T2 = 1#1 := fun h => absurd ((runFirst_v33 i T2 _ hw).symm.trans h) (by decide)
    have q2 : ¬runFirst.sl.v36 i T2 = 1#1 := fun h => absurd ((runFirst_v36 i T2 _ hw).symm.trans h) (by decide)
    have q3 : runFirst.sl.v39 i T2 = 1#1 := (runFirst_v39 i T2 _ hw).trans (by decide)
    have q4 : ¬runFirst.sl.v42 i T2 = 1#1 := fun h => absurd ((runFirst_v42 i T2 _ hw).symm.trans h) (by decide)
    have q5 : ¬runFirst.sl.v45 i T2 = 1#1 := fun h => absurd ((runFirst_v45 i T2 _ hw).symm.trans h) (by decide)
    unfold runFirst
    dsimp only
    simp only [dif_pos, dif_neg, q0, q1, q2, q3, q4, q5, not_false_eq_true]
    unfold runFirst.sl.v67_3 runFirst.sl.v49_3
    simp only [dif_pos, dif_neg, q0, q1, q2, q3, q4, q5, not_false_eq_true]
    rw [View.readAt_rep_full, View.readAt_rep_full, View.readAt_rep_full, runFirst_pieces, writes_split]
    unfold View.readCov
    rw [writes_zero]
    rfl
  | 5, _, hw =>
    have q0 : ¬runFirst.sl.v30 i T2 = 1#1 := fun h => absurd ((runFirst_v30 i T2 _ hw).symm.trans h) (by decide)
    have q1 : ¬runFirst.sl.v33 i T2 = 1#1 := fun h => absurd ((runFirst_v33 i T2 _ hw).symm.trans h) (by decide)
    have q2 : ¬runFirst.sl.v36 i T2 = 1#1 := fun h => absurd ((runFirst_v36 i T2 _ hw).symm.trans h) (by decide)
    have q3 : ¬runFirst.sl.v39 i T2 = 1#1 := fun h => absurd ((runFirst_v39 i T2 _ hw).symm.trans h) (by decide)
    have q4 : runFirst.sl.v42 i T2 = 1#1 := (runFirst_v42 i T2 _ hw).trans (by decide)
    have q5 : ¬runFirst.sl.v45 i T2 = 1#1 := fun h => absurd ((runFirst_v45 i T2 _ hw).symm.trans h) (by decide)
    unfold runFirst
    dsimp only
    simp only [dif_pos, dif_neg, q0, q1, q2, q3, q4, q5, not_false_eq_true]
    unfold runFirst.sl.v67_4 runFirst.sl.v49_4
    simp only [dif_pos, dif_neg, q0, q1, q2, q3, q4, q5, not_false_eq_true]
    rw [View.readAt_rep_full, View.readAt_rep_full, View.readAt_rep_full, runFirst_pieces, writes_split]
    unfold View.readCov
    rw [writes_zero]
    rfl
  | 6, _, hw =>
    have q0 : ¬runFirst.sl.v30 i T2 = 1#1 := fun h => absurd ((runFirst_v30 i T2 _ hw).symm.trans h) (by decide)
    have q1 : ¬runFirst.sl.v33 i T2 = 1#1 := fun h => absurd ((runFirst_v33 i T2 _ hw).symm.trans h) (by decide)
    have q2 : ¬runFirst.sl.v36 i T2 = 1#1 := fun h => absurd ((runFirst_v36 i T2 _ hw).symm.trans h) (by decide)
    have q3 : ¬runFirst.sl.v39 i T2 = 1#1 := fun h => absurd ((runFirst_v39 i T2 _ hw).symm.trans h) (by decide)
    have q4 : ¬runFirst.sl.v42 i T2 = 1#1 := fun h => absurd ((runFirst_v42 i T2 _ hw).symm.trans h) (by decide)
    have q5 : runFirst.sl.v45 i T2 = 1#1 := (runFirst_v45 i T2 _ hw).trans (by decide)
    unfold runFirst
    dsimp only
    simp only [dif_pos, dif_neg, q0, q1, q2, q3, q4, q5, not_false_eq_true]
    unfold runFirst.sl.v67_5 runFirst.sl.v49_5
    simp only [dif_pos, dif_neg, q0, q1, q2, q3, q4, q5, not_false_eq_true]
    rw [View.readAt_rep_full, View.readAt_rep_full, View.readAt_rep_full, runFirst_pieces, writes_split]
    unfold View.readCov
    rw [writes_zero]
    rfl

theorem runLast_acc (c : Dev nD) (i : grid0.Coords) (arg5 : Memref sig .tc .vmem S8x1536x256 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S8x1536x256 .bf16) (harg9 : arg9.IsWhole)
    (T0 : S29.Idx → Elt F .i32) (T1 : S1.Idx → Elt F .i32) (T2 : S29.Idx → Elt F .i32)
    (x0 : S8x1536x256.Idx → Elt F .bf16) (x1 x2 : S1x2048x256.Idx → Elt F .f32) (x3 : S1x256x2048.Idx → Elt F .f32) (xa0 : Buf (Elt F) ((c : Thread nD τ).loc cc0_scratch0)) (xa1 : Buf (Elt F) ((c : Thread nD τ).loc cc0_scratch1)) (h1 : k0_cond1 i (nuAt T1) = 1#1) (h2 : ¬k0_cond2 i = 1#1) (h9 : k0_cond9 i = 1#1) (k : ℕ) (hk : k ≤ 6) (hw : Groups (subWord (T2 (tileIx i))) k) :
    (runLast c i arg5 harg5 arg6 harg6 arg7 harg7 arg8 harg8 arg9 harg9 T0 T1 T2 x0 x1 x2 x3 xa0 xa1 h1 h2 h9).2.1 = accStep k xa1 x1 x2 x3 xa0 := by
  match k, hk, hw with
  | 0, _, hw =>
    have q0 : ¬runLast.sl.v30 i T2 = 1#1 := fun h => low_cond _ _ hw (by decide) ((runLast_v30 i T2 _ rfl).symm.trans h)
    have q1 : ¬runLast.sl.v33 i T2 = 1#1 := fun h => low_cond _ _ hw (by decide) ((runLast_v33 i T2 _ rfl).symm.trans h)
    have q2 : ¬runLast.sl.v36 i T2 = 1#1 := fun h => low_cond _ _ hw (by decide) ((runLast_v36 i T2 _ rfl).symm.trans h)
    have q3 : ¬runLast.sl.v39 i T2 = 1#1 := fun h => low_cond _ _ hw (by decide) ((runLast_v39 i T2 _ rfl).symm.trans h)
    have q4 : ¬runLast.sl.v42 i T2 = 1#1 := fun h => low_cond _ _ hw (by decide) ((runLast_v42 i T2 _ rfl).symm.trans h)
    have q5 : ¬runLast.sl.v45 i T2 = 1#1 := fun h => low_cond _ _ hw (by decide) ((runLast_v45 i T2 _ rfl).symm.trans h)
    unfold runLast
    dsimp only
    simp only [dif_pos, dif_neg, q0, q1, q2, q3, q4, q5, not_false_eq_true]
    rfl
  | 1, _, hw =>
    have q0 : runLast.sl.v30 i T2 = 1#1 := (runLast_v30 i T2 _ hw).trans (by decide)
    have q1 : ¬runLast.sl.v33 i T2 = 1#1 := fun h => absurd ((runLast_v33 i T2 _ hw).symm.trans h) (by decide)
    have q2 : ¬runLast.sl.v36 i T2 = 1#1 := fun h => absurd ((runLast_v36 i T2 _ hw).symm.trans h) (by decide)
    have q3 : ¬runLast.sl.v39 i T2 = 1#1 := fun h => absurd ((runLast_v39 i T2 _ hw).symm.trans h) (by decide)
    have q4 : ¬runLast.sl.v42 i T2 = 1#1 := fun h => absurd ((runLast_v42 i T2 _ hw).symm.trans h) (by decide)
    have q5 : ¬runLast.sl.v45 i T2 = 1#1 := fun h => absurd ((runLast_v45 i T2 _ hw).symm.trans h) (by decide)
    unfold runLast
    dsimp only
    simp only [dif_pos, dif_neg, q0, q1, q2, q3, q4, q5, not_false_eq_true]
    rw [View.readAt_rep_full, View.readAt_rep_full, View.readAt_rep_full]
    rfl
  | 2, _, hw =>
    have q0 : ¬runLast.sl.v30 i T2 = 1#1 := fun h => absurd ((runLast_v30 i T2 _ hw).symm.trans h) (by decide)
    have q1 : runLast.sl.v33 i T2 = 1#1 := (runLast_v33 i T2 _ hw).trans (by decide)
    have q2 : ¬runLast.sl.v36 i T2 = 1#1 := fun h => absurd ((runLast_v36 i T2 _ hw).symm.trans h) (by decide)
    have q3 : ¬runLast.sl.v39 i T2 = 1#1 := fun h => absurd ((runLast_v39 i T2 _ hw).symm.trans h) (by decide)
    have q4 : ¬runLast.sl.v42 i T2 = 1#1 := fun h => absurd ((runLast_v42 i T2 _ hw).symm.trans h) (by decide)
    have q5 : ¬runLast.sl.v45 i T2 = 1#1 := fun h => absurd ((runLast_v45 i T2 _ hw).symm.trans h) (by decide)
    unfold runLast
    dsimp only
    simp only [dif_pos, dif_neg, q0, q1, q2, q3, q4, q5, not_false_eq_true]
    unfold runLast.sl.v67
    simp only [dif_pos, dif_neg, q0, q1, q2, q3, q4, q5, not_false_eq_true]
    rw [View.readAt_rep_full, View.readAt_rep_full, View.readAt_rep_full]
    rfl
  | 3, _, hw =>
    have q0 : ¬runLast.sl.v30 i T2 = 1#1 := fun h => absurd ((runLast_v30 i T2 _ hw).symm.trans h) (by decide)
    have q1 : ¬runLast.sl.v33 i T2 = 1#1 := fun h => absurd ((runLast_v33 i T2 _ hw).symm.trans h) (by decide)
    have q2 : runLast.sl.v36 i T2 = 1#1 := (runLast_v36 i T2 _ hw).trans (by decide)
    have q3 : ¬runLast.sl.v39 i T2 = 1#1 := fun h => absurd ((runLast_v39 i T2 _ hw).symm.trans h) (by decide)
    have q4 : ¬runLast.sl.v42 i T2 = 1#1 := fun h => absurd ((runLast_v42 i T2 _ hw).symm.trans h) (by decide)
    have q5 : ¬runLast.sl.v45 i T2 = 1#1 := fun h => absurd ((runLast_v45 i T2 _ hw).symm.trans h) (by decide)
    unfold runLast
    dsimp only
    simp only [dif_pos, dif_neg, q0, q1, q2, q3, q4, q5, not_false_eq_true]
    unfold runLast.sl.v67_1
    simp only [dif_pos, dif_neg, q0, q1, q2, q3, q4, q5, not_false_eq_true]
    rw [View.readAt_rep_full, View.readAt_rep_full, View.readAt_rep_full]
    rfl
  | 4, _, hw =>
    have q0 : ¬runLast.sl.v30 i T2 = 1#1 := fun h => absurd ((runLast_v30 i T2 _ hw).symm.trans h) (by decide)
    have q1 : ¬runLast.sl.v33 i T2 = 1#1 := fun h => absurd ((runLast_v33 i T2 _ hw).symm.trans h) (by decide)
    have q2 : ¬runLast.sl.v36 i T2 = 1#1 := fun h => absurd ((runLast_v36 i T2 _ hw).symm.trans h) (by decide)
    have q3 : runLast.sl.v39 i T2 = 1#1 := (runLast_v39 i T2 _ hw).trans (by decide)
    have q4 : ¬runLast.sl.v42 i T2 = 1#1 := fun h => absurd ((runLast_v42 i T2 _ hw).symm.trans h) (by decide)
    have q5 : ¬runLast.sl.v45 i T2 = 1#1 := fun h => absurd ((runLast_v45 i T2 _ hw).symm.trans h) (by decide)
    unfold runLast
    dsimp only
    simp only [dif_pos, dif_neg, q0, q1, q2, q3, q4, q5, not_false_eq_true]
    unfold runLast.sl.v67_2
    simp only [dif_pos, dif_neg, q0, q1, q2, q3, q4, q5, not_false_eq_true]
    rw [View.readAt_rep_full, View.readAt_rep_full, View.readAt_rep_full]
    rfl
  | 5, _, hw =>
    have q0 : ¬runLast.sl.v30 i T2 = 1#1 := fun h => absurd ((runLast_v30 i T2 _ hw).symm.trans h) (by decide)
    have q1 : ¬runLast.sl.v33 i T2 = 1#1 := fun h => absurd ((runLast_v33 i T2 _ hw).symm.trans h) (by decide)
    have q2 : ¬runLast.sl.v36 i T2 = 1#1 := fun h => absurd ((runLast_v36 i T2 _ hw).symm.trans h) (by decide)
    have q3 : ¬runLast.sl.v39 i T2 = 1#1 := fun h => absurd ((runLast_v39 i T2 _ hw).symm.trans h) (by decide)
    have q4 : runLast.sl.v42 i T2 = 1#1 := (runLast_v42 i T2 _ hw).trans (by decide)
    have q5 : ¬runLast.sl.v45 i T2 = 1#1 := fun h => absurd ((runLast_v45 i T2 _ hw).symm.trans h) (by decide)
    unfold runLast
    dsimp only
    simp only [dif_pos, dif_neg, q0, q1, q2, q3, q4, q5, not_false_eq_true]
    unfold runLast.sl.v67_3
    simp only [dif_pos, dif_neg, q0, q1, q2, q3, q4, q5, not_false_eq_true]
    rw [View.readAt_rep_full, View.readAt_rep_full, View.readAt_rep_full]
    rfl
  | 6, _, hw =>
    have q0 : ¬runLast.sl.v30 i T2 = 1#1 := fun h => absurd ((runLast_v30 i T2 _ hw).symm.trans h) (by decide)
    have q1 : ¬runLast.sl.v33 i T2 = 1#1 := fun h => absurd ((runLast_v33 i T2 _ hw).symm.trans h) (by decide)
    have q2 : ¬runLast.sl.v36 i T2 = 1#1 := fun h => absurd ((runLast_v36 i T2 _ hw).symm.trans h) (by decide)
    have q3 : ¬runLast.sl.v39 i T2 = 1#1 := fun h => absurd ((runLast_v39 i T2 _ hw).symm.trans h) (by decide)
    have q4 : ¬runLast.sl.v42 i T2 = 1#1 := fun h => absurd ((runLast_v42 i T2 _ hw).symm.trans h) (by decide)
    have q5 : runLast.sl.v45 i T2 = 1#1 := (runLast_v45 i T2 _ hw).trans (by decide)
    unfold runLast
    dsimp only
    simp only [dif_pos, dif_neg, q0, q1, q2, q3, q4, q5, not_false_eq_true]
    unfold runLast.sl.v67_4
    simp only [dif_pos, dif_neg, q0, q1, q2, q3, q4, q5, not_false_eq_true]
    rw [View.readAt_rep_full, View.readAt_rep_full, View.readAt_rep_full]
    rfl

theorem runLast_rows (c : Dev nD) (i : grid0.Coords) (arg5 : Memref sig .tc .vmem S8x1536x256 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S8x1536x256 .bf16) (harg9 : arg9.IsWhole)
    (T0 : S29.Idx → Elt F .i32) (T1 : S1.Idx → Elt F .i32) (T2 : S29.Idx → Elt F .i32)
    (x0 : S8x1536x256.Idx → Elt F .bf16) (x1 x2 : S1x2048x256.Idx → Elt F .f32) (x3 : S1x256x2048.Idx → Elt F .f32) (xa0 : Buf (Elt F) ((c : Thread nD τ).loc cc0_scratch0)) (xa1 : Buf (Elt F) ((c : Thread nD τ).loc cc0_scratch1)) (h1 : k0_cond1 i (nuAt T1) = 1#1) (h2 : ¬k0_cond2 i = 1#1) (h9 : k0_cond9 i = 1#1) : (runLast c i arg5 harg5 arg6 harg6 arg7 harg7 arg8 harg8 arg9 harg9 T0 T1 T2 x0 x1 x2 x3 xa0 xa1 h1 h2 h9).2.2.1 = xa1 := rfl

theorem runMid_rows (c : Dev nD) (i : grid0.Coords) (arg5 : Memref sig .tc .vmem S8x1536x256 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S8x1536x256 .bf16) (harg9 : arg9.IsWhole)
    (T0 : S29.Idx → Elt F .i32) (T1 : S1.Idx → Elt F .i32) (T2 : S29.Idx → Elt F .i32)
    (x0 : S8x1536x256.Idx → Elt F .bf16) (x1 x2 : S1x2048x256.Idx → Elt F .f32) (x3 : S1x256x2048.Idx → Elt F .f32) (xa0 : Buf (Elt F) ((c : Thread nD τ).loc cc0_scratch0)) (xa1 : Buf (Elt F) ((c : Thread nD τ).loc cc0_scratch1)) (h1 : k0_cond1 i (nuAt T1) = 1#1) (h2 : ¬k0_cond2 i = 1#1) (h9 : ¬k0_cond9 i = 1#1) : (runMid c i arg5 harg5 arg6 harg6 arg7 harg7 arg8 harg8 arg9 harg9 T0 T1 T2 x0 x1 x2 x3 xa0 xa1 h1 h2 h9).2.1 = xa1 := rfl

theorem runLast_pieces (c : Dev nD) (i : grid0.Coords) (arg5 : Memref sig .tc .vmem S8x1536x256 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S8x1536x256 .bf16) (harg9 : arg9.IsWhole)
    (T0 : S29.Idx → Elt F .i32) (T1 : S1.Idx → Elt F .i32) (T2 : S29.Idx → Elt F .i32)
    (x0 : S8x1536x256.Idx → Elt F .bf16) (x1 x2 : S1x2048x256.Idx → Elt F .f32) (x3 : S1x256x2048.Idx → Elt F .f32) (xa0 : Buf (Elt F) ((c : Thread nD τ).loc cc0_scratch0)) (xa1 : Buf (Elt F) ((c : Thread nD τ).loc cc0_scratch1)) (h1 : k0_cond1 i (nuAt T1) = 1#1) (h2 : ¬k0_cond2 i = 1#1) (h9 : k0_cond9 i = 1#1) :
    (runLast c i arg5 harg5 arg6 harg6 arg7 harg7 arg8 harg8 arg9 harg9 T0 T1 T2 x0 x1 x2 x3 xa0 xa1 h1 h2 h9).1 = outPieces (runLast c i arg5 harg5 arg6 harg6 arg7 harg7 arg8 harg8 arg9 harg9 T0 T1 T2 x0 x1 x2 x3 xa0 xa1 h1 h2 h9).2.1 := rfl

theorem outPieces_cover (acc : S1536x2048.Idx → Elt F .f32) : ∀ y, ∃ p ∈ outPieces acc, y ∈ p.1.set :=
  View.cover_of_tiled _ ![1, 1536, 256] (by sl_kernel_rfl)

/-- What the output block holds after the stores. -/
theorem read_out (v : Memref sig .tc .vmem S8x1536x256 .bf16) (f : v.view.ty.Contents (Elt F)) (acc : S1536x2048.Idx → Elt F .f32) :
    v.view.read (Elt F) (v.view.writes (Elt F) f (outPieces acc)) = outOf acc := by
  exact View.read_writes_eq_canon v.view f (outPieces acc) (outPieces_cover acc)
end Cert.Proof.Experts
end
-- ==== Proof.ExpertsGrid.lean ====
/-
  The experts call's grid: 29 tiles of 28 steps. What the three tables must satisfy, the blocks the windows then take, the
  conditions of the body and the points at which the result's block is written back.
-/
module

public import proofs.«01_k».proof.Proof.ExpertsSteps

@[expose] public section

set_option maxRecDepth 16384

noncomputable section

namespace Cert.Proof.Experts

open Cert.ExpertsIdeal Cert.ExpertsIdeal.Gen
open Idealize.ShloMosaic
open Idealize.ShloMosaic.TcCoe
open Idealize.ShloMosaic.Pipeline (Dat Cfg Window)

variable {F : FTy → Type} [FloatOps F]

/-- The one index of the table of one entry. -/
abbrev one1 : S1.Idx := fun a => ⟨0, by match a with | ⟨0, _⟩ => exact Nat.one_pos⟩
/-- The table of one entry has one index. -/
theorem idx1_eq (x y : S1.Idx) : x = y := by
  funext a; apply Fin.ext
  match a with
  | ⟨0, _⟩ =>
    have hx : (x 0).val < 1 := (x 0).isLt
    have hy : (y 0).val < 1 := (y 0).isLt
    show (x 0).val = (y 0).val
    omega

/-- What the tables must satisfy: experts below 8, between 1 and 29 used tiles, at most 1536 valid rows a tile. -/
structure InRange (T0 : S29.Idx → BitVec 32) (T1 : S1.Idx → BitVec 32) (T2 : S29.Idx → BitVec 32) : Prop where
  te : ∀ k, (T0 k).toNat < 8
  nu1 : 1 ≤ (T1 one1).toNat
  nu31 : (T1 one1).toNat < 2147483648
  tv : ∀ k, (T2 k).toInt < 1537

/-- The tables as the call is handed them. -/
def pfOf (T0 : S29.Idx → BitVec 32) (T1 : S1.Idx → BitVec 32) (T2 : S29.Idx → BitVec 32) : pre0.Contents (Elt F) :=
  fun | ⟨0, _⟩ => T0 | ⟨1, _⟩ => T1 | ⟨2, _⟩ => T2 | ⟨_ + 3, h⟩ => absurd h (by simp)

/-! ## Words -/

theorem cond2_word : ∀ (a : Fin 28), Scalar.cmpi .ne (Scalar.extui (Scalar.cmpi .eq (BitVec.ofNat 32 a.val) 0#32) : BitVec 32) 0#32 = 1#1 ↔ a.val = 0 := by decide +kernel
theorem cond9_word : ∀ (a : Fin 28), Scalar.cmpi .ne (Scalar.extui (Scalar.cmpi .eq (BitVec.ofNat 32 a.val) 27#32) : BitVec 32) 0#32 = 1#1 ↔ a.val = 27 := by decide +kernel

/-- A word below a bound is the word of a number below it. -/
theorem word_fin (w : BitVec 32) (n : ℕ) (h : w.toNat < n) : w = BitVec.ofNat 32 (⟨w.toNat, h⟩ : Fin n).val := by
  apply BitVec.eq_of_toNat_eq; show w.toNat = (BitVec.ofNat 32 w.toNat).toNat
  rw [BitVec.toNat_ofNat]; exact (Nat.mod_eq_of_lt w.isLt).symm

section

variable {T0 : S29.Idx → BitVec 32} {T1 : S1.Idx → BitVec 32} {T2 : S29.Idx → BitVec 32} (hT : InRange T0 T1 T2)
include hT

/-- The body's first condition: the tile is used. -/
theorem cond1_iff (i : grid0.Coords) : k0_cond1 i (T1 one1) = 1#1 ↔ (i 0).val < (T1 one1).toNat := by
  have h0 : (i 0).val < 29 := (i 0).isLt
  exact cond1_word (i 0).val (T1 one1) (by omega) hT.nu31
omit hT in
/-- Its second: the step is the tile's first. -/
theorem cond2_iff (i : grid0.Coords) : k0_cond2 i = 1#1 ↔ (i 1).val = 0 := cond2_word (i 1)
omit hT in
/-- Its last: the step is the tile's last. -/
theorem cond9_iff (i : grid0.Coords) : k0_cond9 i = 1#1 ↔ (i 1).val = 27 := cond9_word (i 1)

omit hT in
/-- The word the body reads from the table of one entry. -/
theorem nuAt_eq : nuAt (F := F) T1 = T1 one1 := by
  show T1 _ = _
  exact congrArg T1 (idx1_eq _ _)

/-- The tile that the rows' and the result's windows take. -/
theorem ix_0 (i : grid0.Coords) : cc0_transform_0 inb_S1_S1_0 numel1_S1 (pfOf (F := F) T0 T1 T2) i = ![0, min (i 0).val ((T1 one1).toNat - 1), 0] := by
  have h0 : (i 0).val < 29 := (i 0).isLt
  have h := min_word (i 0).val (T1 one1) (by omega) hT.nu1 hT.nu31
  rw [← h]
  clear h h0 hT
  obtain ⟨w, rfl⟩ : ∃ w, T1 = fun _ => w := ⟨T1 one1, funext fun x => congrArg T1 (idx1_eq x one1)⟩
  rfl
theorem ix_4 (i : grid0.Coords) : cc0_transform_4 inb_S1_S1_0 numel1_S1 (pfOf (F := F) T0 T1 T2) i = ![0, min (i 0).val ((T1 one1).toNat - 1), 0] :=
  ix_0 hT i

omit hT in
/-- A tile's entry, as the windows' maps read it. -/
theorem tile_entry (i : grid0.Coords) (x : S1.Idx) : (Rect.unit (s := S29) (k0_off1 i) S1.size (k0_off1_inb i)).emb x = tileIx i := by
  funext a; apply Fin.ext
  match a with
  | ⟨0, _⟩ =>
    show k0_off1 i 0 + 1 * (x 0).val = (i 0).val
    have hx : (x 0).val < 1 := (x 0).isLt
    have := tile_word i
    have hx : (x 0).val = 0 := by omega
    rw [hx]
    exact this

/-- The step that the weights' windows take. -/
theorem sel_eq (i : grid0.Coords) : (Scalar.select (Scalar.cmpi .slt (BitVec.ofNat 32 (i 0).val) (T1 one1)) (BitVec.ofNat 32 (i 1).val) 27#32).toNat
    = if (i 0).val < (T1 one1).toNat then (i 1).val else 27 := by
  have h0 : (i 0).val < 29 := (i 0).isLt
  have h1 : (i 1).val < 28 := (i 1).isLt
  exact sel_word (i 0).val (i 1).val (T1 one1) (by omega) (by omega) hT.nu31

omit hT in
/-- The expert that they take. -/
theorem te_eq (i : grid0.Coords) : (Scalar.addi 0#32 (T0 ((Rect.unit (s := S29) (k0_off1 i) S1.size (k0_off1_inb i)).emb (Shape.Idx.first (numel1_S1.symm ▸ Nat.one_pos))))).toNat
    = (T0 (tileIx i)).toNat := by
  rw [tile_entry i]
  exact congrArg BitVec.toNat (BitVec.zero_add _)

theorem ix_1 (i : grid0.Coords) : cc0_transform_1 k0_off1_inb numel1_S1 inb_S1_S1_0 (pfOf (F := F) T0 T1 T2) i
    = ![(T0 (tileIx i)).toNat, 0, if (i 0).val < (T1 one1).toNat then (i 1).val else 27] := by
  rw [← sel_eq hT i, ← te_eq i]
  clear hT
  obtain ⟨w, rfl⟩ : ∃ w, T1 = fun _ => w := ⟨T1 one1, funext fun x => congrArg T1 (idx1_eq x one1)⟩
  rfl
theorem ix_2 (i : grid0.Coords) : cc0_transform_2 k0_off1_inb numel1_S1 inb_S1_S1_0 (pfOf (F := F) T0 T1 T2) i
    = ![(T0 (tileIx i)).toNat, 0, if (i 0).val < (T1 one1).toNat then (i 1).val else 27] := ix_1 hT i
theorem ix_3 (i : grid0.Coords) : cc0_transform_3 k0_off1_inb numel1_S1 inb_S1_S1_0 (pfOf (F := F) T0 T1 T2) i
    = ![(T0 (tileIx i)).toNat, if (i 0).val < (T1 one1).toNat then (i 1).val else 27, 0] := by
  rw [← sel_eq hT i, ← te_eq i]
  clear hT
  obtain ⟨w, rfl⟩ : ∃ w, T1 = fun _ => w := ⟨T1 one1, funext fun x => congrArg T1 (idx1_eq x one1)⟩
  rfl

/-- The blocks are inside their arrays and are whole words. -/
theorem ok_of : ok0 (F := F) (pfOf T0 T1 T2) := by
  have h0 : ∀ i : grid0.Coords, (i 0).val < 29 := fun i => (i 0).isLt
  have h1 : ∀ i : grid0.Coords, (i 1).val < 28 := fun i => (i 1).isLt
  have w16 : ∀ (i : grid0.Coords) (ix : Fin 3 → ℕ) (hix : ix = ![0, min (i 0).val ((T1 one1).toNat - 1), 0]),
      ∃ h : (∀ a, (ix a + 1) * S8x1536x256.size a ≤ S8x44544x256.size a), EltTy.bits .bf16 = 32 ∨ (Rect.block (s := S8x44544x256) S8x1536x256.size ix h).WholeWords (EltTy.packing .bf16) := by
    intro i ix hix
    subst hix
    refine ⟨fun a => ?_, Or.inr ?_⟩
    · have := h0 i
      match a with
      | ⟨0, _⟩ => exact Nat.le_refl 8
      | ⟨1, _⟩ =>
        show (min (i 0).val ((T1 one1).toNat - 1) + 1) * 1536 ≤ 44544
        have : min (i 0).val ((T1 one1).toNat - 1) ≤ 28 := by omega
        omega
      | ⟨2, _⟩ => exact Nat.le_refl 256
    · exact Affine.block_words_dvd (s := S8x44544x256) (p := EltTy.packing .bf16) (by decide) (by decide)
  have w32a : ∀ (i : grid0.Coords) (ix : Fin 3 → ℕ) (hix : ix = ![(T0 (tileIx i)).toNat, 0, if (i 0).val < (T1 one1).toNat then (i 1).val else 27]),
      ∀ a, (ix a + 1) * S1x2048x256.size a ≤ S8x2048x7168.size a := by
    intro i ix hix a
    subst hix
    have := hT.te (tileIx i); have := h1 i
    match a with
    | ⟨0, _⟩ => show ((T0 (tileIx i)).toNat + 1) * 1 ≤ 8; omega
    | ⟨1, _⟩ => exact Nat.le_refl 2048
    | ⟨2, _⟩ => show ((if (i 0).val < (T1 one1).toNat then (i 1).val else 27) + 1) * 256 ≤ 7168; split <;> omega
  refine ⟨fun i => w16 i _ (ix_0 hT i), fun i => ⟨w32a i _ (ix_1 hT i), Or.inl rfl⟩, fun i => ⟨w32a i _ (ix_2 hT i), Or.inl rfl⟩, fun i => ⟨?_, Or.inl rfl⟩, fun i => w16 i _ (ix_4 hT i)⟩
  intro a
  rw [ix_3 hT i]
  have := hT.te (tileIx i); have := h1 i
  match a with
  | ⟨0, _⟩ => show ((T0 (tileIx i)).toNat + 1) * 1 ≤ 8; omega
  | ⟨1, _⟩ => show ((if (i 0).val < (T1 one1).toNat then (i 1).val else 27) + 1) * 256 ≤ 7168; split <;> omega
  | ⟨2, _⟩ => exact Nat.le_refl 2048

end

/-! ## The pipeline at such tables -/

section

variable {T0 : S29.Idx → BitVec 32} {T1 : S1.Idx → BitVec 32} {T2 : S29.Idx → BitVec 32} (hT : InRange T0 T1 T2)
include hT

/-- The tables, admissible. -/
def admOf : (pcfg0 (F := F)).Adm := ⟨pfOf T0 T1 T2, ok_of hT⟩
/-- The pipeline at them. -/
abbrev cfgOf : Pipeline.Cfg sig Λ₀ := cfg0 (F := F) (admOf hT)

/-- A point's tile and its step in the tile. -/
theorem crd_0 (t : Fin (cfgOf (F := F) hT).N) : ((cfgOf (F := F) hT).grid.coords t 0).val = t.val / 28 := by
  have ht : t.val < 812 := Nat.lt_of_lt_of_eq t.isLt N_0
  show t.val / grid0.stride 0 % 29 = t.val / 28
  rw [show grid0.stride 0 = 28 by decide]
  omega
theorem crd_1 (t : Fin (cfgOf (F := F) hT).N) : ((cfgOf (F := F) hT).grid.coords t 1).val = t.val % 28 := by
  show t.val / grid0.stride 1 % 28 = t.val % 28
  rw [show grid0.stride 1 = 1 by decide, Nat.div_one]

/-- The result's window is idle but at the last step of a used tile. -/
theorem idle_4 (t : Fin (cfgOf (F := F) hT).N) :
    (cfgOf (F := F) hT).idle (4 : Fin 5) ((cfgOf (F := F) hT).grid.coords t) = !decide (t.val / 28 < (T1 one1).toNat ∧ t.val % 28 = 27) := by
  show (!(k0_cond1 _ _ == 1#1 && k0_cond9 _ == 1#1)) = _
  congr 1
  have e : ((pfOf (F := F) T0 T1 T2).atD 1 ![0] : BitVec 32) = T1 one1 :=
    (dif_pos (fun a => by match a with | ⟨0, _⟩ => exact Nat.le_refl 1)).trans (congrArg T1 (idx1_eq _ _))
  have h1 : k0_cond1 ((cfgOf (F := F) hT).grid.coords t) ((pfOf (F := F) T0 T1 T2).atD 1 ![0] : BitVec 32) = 1#1 ↔ t.val / 28 < (T1 one1).toNat := by
    rw [e]
    exact (cond1_iff hT ((cfgOf (F := F) hT).grid.coords t)).trans (by rw [crd_0 (F := F) hT t])
  have h9 := (cond9_iff ((cfgOf (F := F) hT).grid.coords t)).trans (by rw [crd_1 (F := F) hT t])
  rw [Bool.eq_iff_iff, Bool.and_eq_true, beq_iff_eq, beq_iff_eq, decide_eq_true_iff]
  exact and_congr h1 h9

/-- Where the next point takes the same tile, the result's block is not written back. -/
theorem flush_4_false (t : Fin (cfgOf (F := F) hT).N) (h1 : t.val + 1 < 812)
    (h : min (t.val / 28) ((T1 one1).toNat - 1) = min ((t.val + 1) / 28) ((T1 one1).toNat - 1)) :
    ((cfgOf (F := F) hT).win (4 : Fin 5)).flush t = false := by
  rw [← Bool.not_eq_true]
  intro hf
  rcases (((cfgOf (F := F) hT).win (4 : Fin 5)).flush_out rfl t).mp hf with h' | ⟨h', hne⟩
  · have : t.val + 1 = 812 := h'.trans N_0
    omega
  · apply hne
    show cc0_transform_4 inb_S1_S1_0 numel1_S1 (pfOf (F := F) T0 T1 T2) _ = cc0_transform_4 inb_S1_S1_0 numel1_S1 (pfOf (F := F) T0 T1 T2) _
    rw [ix_4 hT, ix_4 hT]
    have e0 := crd_0 (F := F) hT t
    have e1 := crd_0 (F := F) hT ⟨t.val + 1, h'⟩
    have e : min ((cfgOf (F := F) hT).grid.coords t 0).val ((T1 one1).toNat - 1) = min ((cfgOf (F := F) hT).grid.coords ⟨t.val + 1, h'⟩ 0).val ((T1 one1).toNat - 1) := by
      rw [e0, e1]; exact h
    exact congrArg (fun n : ℕ => (![0, n, 0] : Fin 3 → ℕ)) e.symm

/-- Past the used tiles the result's buffer holds what a point stored. -/
theorem fresh_4 (n : ℕ) (h0 : 28 * (T1 one1).toNat ≤ n) (hn : n < 812) : (cfgOf (F := F) hT).fresh (4 : Fin 5) n = false := by
  have hnu := hT.nu1
  induction n with
  | zero => omega
  | succ n ih =>
    have hN : n < (cfgOf (F := F) hT).N := by rw [show (cfgOf (F := F) hT).N = 812 from N_0]; omega
    rw [(cfgOf (F := F) hT).fresh_succ (4 : Fin 5) n hN, flush_4_false (F := F) hT ⟨n, hN⟩ hn (by show min (n / 28) _ = min ((n + 1) / 28) _; omega), Bool.false_or]
    by_cases hl : 28 * (T1 one1).toNat ≤ n
    · rw [ih hl (by omega), Bool.and_false]
    · rw [idle_4 (F := F) hT ⟨n, hN⟩]
      have : n / 28 < (T1 one1).toNat ∧ n % 28 = 27 := by omega
      rw [decide_eq_true this]; rfl

end

end Cert.Proof.Experts

end
-- ==== Proof.ExpertsLaunch.lean ====
/-
  The experts call as a whole: what the accumulator and the tile's rows hold point by point, the pipeline's proof data, and that
  every execution ends with the arguments unchanged and the result at the blocks its points computed.
-/
module

public import proofs.«01_k».proof.Proof.ExpertsGrid

@[expose] public section

set_option maxRecDepth 16384
set_option Elab.async false

noncomputable section

namespace Cert.Proof.Experts

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Pipeline (Dat Cfg Window BodyObligation BodyObligationLoose cellOf)

variable {F : FTy → Type} [FloatOps F]

local notation "𝕄" => MT nD τ sig Unit (Elt F) ℕ (UR sig nD τ) ℕ

/-- The staging cells' part of the resource algebra. -/
abbrev EP : Emb (UR sig nD τ) 𝕄 := emb₁

variable (m : (ℓ : Loc nD τ sig) → Buf (Elt F) ℓ) (ρ : Dev nD → PrngReg)
variable {T0 : S29.Idx → BitVec 32} {T1 : S1.Idx → BitVec 32} {T2 : S29.Idx → BitVec 32} (hT : InRange T0 T1 T2)

/-! ## A point's coordinates, buffers and blocks -/

abbrev pcs : Fin 1 → Pipeline.Cfg sig Λ₀ := Pipeline.pin (pcfgs (F := F)) fun _ => admOf hT
abbrev crd (t : Fin (cfgOf (F := F) hT).N) : (cfgOf (F := F) hT).grid.Coords := (cfgOf (F := F) hT).grid.coords t
/-- The memory at the start. -/
abbrev st₀ : MemSt nD τ sig (Elt F) := ⟨m, fun _ => 0, ρ⟩
abbrev ms0 (t : Fin (cfgOf (F := F) hT).N) : Memref sig .tc .vmem S8x1536x256 .bf16 := spec0_0.stage ((cfgOf (F := F) hT).slots t (0 : Fin 5))
abbrev hs0 (t : Fin (cfgOf (F := F) hT).N) : (ms0 (F := F) hT t).IsWhole := hstage0_0 (((cfgOf (F := F) hT).slots t (0 : Fin 5)).cast nbuf0_0)
abbrev ms1 (t : Fin (cfgOf (F := F) hT).N) : Memref sig .tc .vmem S1x2048x256 .f32 := spec0_1.stage ((cfgOf (F := F) hT).slots t (1 : Fin 5))
abbrev hs1 (t : Fin (cfgOf (F := F) hT).N) : (ms1 (F := F) hT t).IsWhole := hstage0_1 (((cfgOf (F := F) hT).slots t (1 : Fin 5)).cast nbuf0_1)
abbrev ms2 (t : Fin (cfgOf (F := F) hT).N) : Memref sig .tc .vmem S1x2048x256 .f32 := spec0_2.stage ((cfgOf (F := F) hT).slots t (2 : Fin 5))
abbrev hs2 (t : Fin (cfgOf (F := F) hT).N) : (ms2 (F := F) hT t).IsWhole := hstage0_2 (((cfgOf (F := F) hT).slots t (2 : Fin 5)).cast nbuf0_2)
abbrev ms3 (t : Fin (cfgOf (F := F) hT).N) : Memref sig .tc .vmem S1x256x2048 .f32 := spec0_3.stage ((cfgOf (F := F) hT).slots t (3 : Fin 5))
abbrev hs3 (t : Fin (cfgOf (F := F) hT).N) : (ms3 (F := F) hT t).IsWhole := hstage0_3 (((cfgOf (F := F) hT).slots t (3 : Fin 5)).cast nbuf0_3)
abbrev ms4 (t : Fin (cfgOf (F := F) hT).N) : Memref sig .tc .vmem S8x1536x256 .bf16 := spec0_4.stage ((cfgOf (F := F) hT).slots t (4 : Fin 5))
abbrev hs4 (t : Fin (cfgOf (F := F) hT).N) : (ms4 (F := F) hT t).IsWhole := hstage0_4 (((cfgOf (F := F) hT).slots t (4 : Fin 5)).cast nbuf0_4)

/-- A window's block of its array at the start. -/
def iblk (c : Dev nD) (w : Fin (cfgOf (F := F) hT).W) (t : Fin (cfgOf (F := F) hT).N) : (((cfgOf (F := F) hT).win w).xblock (crd hT t)).Idx → Elt F ((cfgOf (F := F) hT).win w).elt :=
  (((cfgOf (F := F) hT).win w).blk t).view.read (Elt F) ((st₀ m ρ).mem (((cfgOf (F := F) hT).win w).arr.view.loc (c : Thread nD τ)))

/-! ## The two scratch buffers, point by point -/

/-- The point of a number, the last one past the grid. -/
def ptN (n : ℕ) : Fin (cfgOf (F := F) hT).N := ⟨min n 811, by rw [show (cfgOf (F := F) hT).N = 812 from N_0]; omega⟩
theorem ptN_val (t : Fin (cfgOf (F := F) hT).N) : ptN hT t.val = t := by
  have ht : t.val < 812 := Nat.lt_of_lt_of_eq t.isLt N_0
  exact Fin.ext (show min t.val 811 = t.val by omega)

/-- The number of row groups of the point's tile that hold valid rows. -/
def kk (t : Fin (cfgOf (F := F) hT).N) : ℕ := (cnt (T2 (tileIx (crd hT t))) + 255) / 256
theorem kk_le (t : Fin (cfgOf (F := F) hT).N) : kk hT t ≤ 6 := by
  have := hT.tv (tileIx (crd hT t))
  unfold kk cnt; omega
theorem kk_word (t : Fin (cfgOf (F := F) hT).N) : Groups (subWord (T2 (tileIx (crd hT t)))) (kk hT t) :=
  groups_cnt _ (hT.tv (tileIx (crd hT t)))

/-- The tile's rows after a point. -/
@[irreducible] def rowsN (c : Dev nD) (n : ℕ) : S1536x2048.Idx → Elt F .bf16 :=
  rowsOf (T2 (tileIx (crd (F := F) hT (ptN hT (28 * (n / 28)))))) (iblk m ρ hT c (0 : Fin 5) (ptN hT (28 * (n / 28))))
/-- The accumulator after a point. -/
def accN (c : Dev nD) : ℕ → S1536x2048.Idx → Elt F .f32
  | 0 => accStep (kk (F := F) hT (ptN hT 0)) (rowsN m ρ hT c 0) (iblk m ρ hT c (1 : Fin 5) (ptN hT 0)) (iblk m ρ hT c (2 : Fin 5) (ptN hT 0)) (iblk m ρ hT c (3 : Fin 5) (ptN hT 0)) k0_pay6
  | n + 1 => accStep (kk (F := F) hT (ptN hT (n + 1))) (rowsN m ρ hT c (n + 1)) (iblk m ρ hT c (1 : Fin 5) (ptN hT (n + 1))) (iblk m ρ hT c (2 : Fin 5) (ptN hT (n + 1))) (iblk m ρ hT c (3 : Fin 5) (ptN hT (n + 1)))
      (if (n + 1) % 28 = 0 then k0_pay6 else accN c n)

theorem rowsN_first (c : Dev nD) (t : Fin (cfgOf (F := F) hT).N) (h : t.val % 28 = 0) :
    rowsN m ρ hT c t.val = rowsOf (T2 (tileIx (crd hT t))) (iblk m ρ hT c (0 : Fin 5) t) := by
  unfold rowsN
  rw [show 28 * (t.val / 28) = t.val by omega, ptN_val]
theorem rowsN_next (c : Dev nD) (t : Fin (cfgOf (F := F) hT).N) (h : ¬t.val % 28 = 0) :
    rowsN m ρ hT c t.val = rowsN m ρ hT c (t.val - 1) := by
  unfold rowsN
  rw [show (t.val - 1) / 28 = t.val / 28 by omega]
theorem accN_first (c : Dev nD) (t : Fin (cfgOf (F := F) hT).N) (h : t.val % 28 = 0) :
    accN m ρ hT c t.val = accStep (kk hT t) (rowsOf (T2 (tileIx (crd hT t))) (iblk m ρ hT c (0 : Fin 5) t)) (iblk m ρ hT c (1 : Fin 5) t) (iblk m ρ hT c (2 : Fin 5) t) (iblk m ρ hT c (3 : Fin 5) t) k0_pay6 := by
  rw [← rowsN_first m ρ hT c t h]
  have e := ptN_val hT t
  generalize hn : t.val = n at e h
  subst e
  cases n with
  | zero => rfl
  | succ n => rw [accN, if_pos h]
theorem accN_next (c : Dev nD) (t : Fin (cfgOf (F := F) hT).N) (h : ¬t.val % 28 = 0) :
    accN m ρ hT c t.val = accStep (kk hT t) (rowsN m ρ hT c (t.val - 1)) (iblk m ρ hT c (1 : Fin 5) t) (iblk m ρ hT c (2 : Fin 5) t) (iblk m ρ hT c (3 : Fin 5) t) (accN m ρ hT c (t.val - 1)) := by
  rw [← rowsN_next m ρ hT c t h]
  have e := ptN_val hT t
  generalize hn : t.val = n at e h
  subst e
  cases n with
  | zero => exact absurd rfl h
  | succ n => rw [accN, if_neg h]; rfl

/-- The last point up to this one at which the result's block was stored. -/
@[irreducible] def lastN (T1 : S1.Idx → BitVec 32) (n : ℕ) : ℕ := 28 * min ((n + 1) / 28 - 1) ((T1 one1).toNat - 1) + 27
theorem lastN_eq (t : Fin (cfgOf (F := F) hT).N) (q : t.val / 28 < (T1 one1).toNat) (q9 : t.val % 28 = 27) : lastN T1 t.val = t.val := by
  unfold lastN; omega

theorem step_eq (c : Dev nD) (t : Fin (cfgOf (F := F) hT).N) (h : ¬t.val % 28 = 0) {a : S1536x2048.Idx → Elt F .f32} {b : S1536x2048.Idx → Elt F .bf16}
    (ha : a = accN m ρ hT c (t.val - 1)) (hb : b = rowsN m ρ hT c (t.val - 1)) :
    accStep (kk hT t) b (iblk m ρ hT c (1 : Fin 5) t) (iblk m ρ hT c (2 : Fin 5) t) (iblk m ρ hT c (3 : Fin 5) t) a = accN m ρ hT c t.val := by
  rw [ha, hb, accN_next m ρ hT c t h]
attribute [irreducible] accN
/-- The result's block computed at a point. -/
@[irreducible] def outN (c : Dev nD) (n : ℕ) : S8x1536x256.Idx → Elt F .bf16 := outOf (accN m ρ hT c n)

/-! ## The pipeline's proof data -/

/-- Before a point: the scratch buffers at the contents that the point before left, within a used tile; the tables. -/
@[irreducible] def Phi (c : Dev nD) (n : ℕ) : sProp 𝕄 :=
  iprop(∃ (a : Buf (Elt F) ((c : Thread nD τ).loc cc0_scratch0)) (b : Buf (Elt F) ((c : Thread nD τ).loc cc0_scratch1)),
    ⌜(¬n % 28 = 0 ∧ n / 28 < (T1 one1).toNat) → a = accN m ρ hT c (n - 1) ∧ b = rowsN m ρ hT c (n - 1)⌝
      ∗ (accM.view.loc (c : Thread nD τ) ↦{fullShare} a) ∗ (rowM.view.loc (c : Thread nD τ) ↦{fullShare} b)
      ∗ (teM.view.loc (c : Thread nD τ) ↦{fullShare.right} T0) ∗ (nuM.view.loc (c : Thread nD τ) ↦{fullShare.right} T1) ∗ (tvM.view.loc (c : Thread nD τ) ↦{fullShare.right} T2))

/-- The proof data of the pipeline. -/
def dats (_ : Fin 1) (c : Dev nD) : Dat τ (Elt F) Unit ℕ (UR sig nD τ) ℕ (cfgOf (F := F) hT) c where
  A w := (st₀ m ρ).mem (((cfgOf (F := F) hT).win w).arr.view.loc (c : Thread nD τ))
  after w t := match w with
    | ⟨0, _⟩ => iblk m ρ hT c (0 : Fin 5) t
    | ⟨1, _⟩ => iblk m ρ hT c (1 : Fin 5) t
    | ⟨2, _⟩ => iblk m ρ hT c (2 : Fin 5) t
    | ⟨3, _⟩ => iblk m ρ hT c (3 : Fin 5) t
    | ⟨4, _⟩ => outN m ρ hT c (lastN T1 t.val)
  Φ t := Phi m ρ hT c t.val
  q _ := fullShare
  owed _ := 0

theorem phi_at (c : Dev nD) (n : Fin ((cfgOf (F := F) hT).N + 1)) : (dats m ρ hT 0 c).Φ n = Phi m ρ hT c n.val := rfl
theorem phi_cast (c : Dev nD) (t : Fin (cfgOf (F := F) hT).N) : (dats m ρ hT 0 c).Φ t.castSucc = Phi m ρ hT c t.val := by rw [phi_at, Fin.val_castSucc]
theorem phi_succ (c : Dev nD) (t : Fin (cfgOf (F := F) hT).N) : (dats m ρ hT 0 c).Φ t.succ = Phi m ρ hT c (t.val + 1) := by rw [phi_at, Fin.val_succ]
theorem owes_succ (c : Dev nD) (t : Fin (cfgOf (F := F) hT).N) : (dats m ρ hT 0 c).owesAt () t.succ = (dats m ρ hT 0 c).owesAt () t.castSucc := rfl
theorem after_0 (c : Dev nD) (t : Fin (cfgOf (F := F) hT).N) : (dats m ρ hT 0 c).after (0 : Fin 5) t = iblk m ρ hT c (0 : Fin 5) t := rfl
theorem after_1 (c : Dev nD) (t : Fin (cfgOf (F := F) hT).N) : (dats m ρ hT 0 c).after (1 : Fin 5) t = iblk m ρ hT c (1 : Fin 5) t := rfl
theorem after_2 (c : Dev nD) (t : Fin (cfgOf (F := F) hT).N) : (dats m ρ hT 0 c).after (2 : Fin 5) t = iblk m ρ hT c (2 : Fin 5) t := rfl
theorem after_3 (c : Dev nD) (t : Fin (cfgOf (F := F) hT).N) : (dats m ρ hT 0 c).after (3 : Fin 5) t = iblk m ρ hT c (3 : Fin 5) t := rfl
theorem after_4 (c : Dev nD) (t : Fin (cfgOf (F := F) hT).N) : (dats m ρ hT 0 c).after (4 : Fin 5) t = outN m ρ hT c (lastN T1 t.val) := rfl

/-- An input's buffer holds its block when the body runs. -/
theorem before_0 (c : Dev nD) (t : Fin (cfgOf (F := F) hT).N) (d) : (dats m ρ hT 0 c).before (0 : Fin 5) t d = iblk m ρ hT c (0 : Fin 5) t :=
  ((dats m ρ hT 0 c).before_in_eq_fetched (0 : Fin 5) rfl (fun _ => rfl) (fun _ _ _ => rfl) (fun t => by rw [after_0]; unfold Dat.blockOf iblk; rfl) t d).trans
    (by unfold Dat.fetched Dat.blockOf iblk; rfl)
/-- An input's buffer holds its block when the body runs. -/
theorem before_1 (c : Dev nD) (t : Fin (cfgOf (F := F) hT).N) (d) : (dats m ρ hT 0 c).before (1 : Fin 5) t d = iblk m ρ hT c (1 : Fin 5) t :=
  ((dats m ρ hT 0 c).before_in_eq_fetched (1 : Fin 5) rfl (fun _ => rfl) (fun _ _ _ => rfl) (fun t => by rw [after_1]; unfold Dat.blockOf iblk; rfl) t d).trans
    (by unfold Dat.fetched Dat.blockOf iblk; rfl)
/-- An input's buffer holds its block when the body runs. -/
theorem before_2 (c : Dev nD) (t : Fin (cfgOf (F := F) hT).N) (d) : (dats m ρ hT 0 c).before (2 : Fin 5) t d = iblk m ρ hT c (2 : Fin 5) t :=
  ((dats m ρ hT 0 c).before_in_eq_fetched (2 : Fin 5) rfl (fun _ => rfl) (fun _ _ _ => rfl) (fun t => by rw [after_2]; unfold Dat.blockOf iblk; rfl) t d).trans
    (by unfold Dat.fetched Dat.blockOf iblk; rfl)
/-- An input's buffer holds its block when the body runs. -/
theorem before_3 (c : Dev nD) (t : Fin (cfgOf (F := F) hT).N) (d) : (dats m ρ hT 0 c).before (3 : Fin 5) t d = iblk m ρ hT c (3 : Fin 5) t :=
  ((dats m ρ hT 0 c).before_in_eq_fetched (3 : Fin 5) rfl (fun _ => rfl) (fun _ _ _ => rfl) (fun t => by rw [after_3]; unfold Dat.blockOf iblk; rfl) t d).trans
    (by unfold Dat.fetched Dat.blockOf iblk; rfl)

/-- The result's block is carried through the points that leave it idle. -/
theorem carry_4 (c : Dev nD) : ∀ (t : Fin (cfgOf (F := F) hT).N) (ht : t.val ≠ 0), (cfgOf (F := F) hT).idle (4 : Fin 5) ((cfgOf (F := F) hT).grid.coords t) = true → (cfgOf (F := F) hT).fresh (4 : Fin 5) t.val = false →
    (dats m ρ hT 0 c).after (4 : Fin 5) t = (dats m ρ hT 0 c).after (4 : Fin 5) ⟨t.val - 1, by omega⟩ := by
  intro t ht hi _
  rw [after_4, after_4]
  rw [idle_4 (F := F) hT t, Bool.not_eq_true', decide_eq_false_iff_not] at hi
  have : lastN T1 t.val = lastN T1 (t.val - 1) := by unfold lastN; omega
  show outN m ρ hT c (lastN T1 t.val) = outN m ρ hT c (lastN T1 (t.val - 1))
  rw [this]

/-- Past the used tiles the result's buffer holds the last block stored. -/
theorem before_4_unused (c : Dev nD) (t : Fin (cfgOf (F := F) hT).N) (q : ¬t.val / 28 < (T1 one1).toNat) (d) :
    (dats m ρ hT 0 c).before (4 : Fin 5) t d = (dats m ρ hT 0 c).after (4 : Fin 5) t := by
  have ht : t.val < 812 := Nat.lt_of_lt_of_eq t.isLt N_0
  have hnu := hT.nu1
  have hf := fresh_4 (F := F) hT t.val (by omega) ht
  rw [(dats m ρ hT 0 c).before_out_traj (4 : Fin 5) rfl (fun _ _ => rfl) (carry_4 m ρ hT c) t.val t rfl d]
  simp only [hf, Bool.false_eq_true, ↓reduceIte]
  refine (carry_4 m ρ hT c t (by omega) ?_ hf).symm
  rw [idle_4 (F := F) hT t, Bool.not_eq_true', decide_eq_false_iff_not]
  omega

/-! ## The body at a point -/

/-- The body at a point on its buffers, as the pipeline calls it. -/
abbrev bodyAt (t : Fin (cfgOf (F := F) hT).N) : Prog (TpuEff nD τ sig (Elt F) Λ₀ .tc) PUnit :=
  cc0_moe (crd hT t) (Memref.whole main_arg1) (Memref.isWhole_whole _) (Memref.whole main_arg2) (Memref.isWhole_whole _) (Memref.whole main_arg3) (Memref.isWhole_whole _) (ms0 hT t) (hs0 hT t) (ms1 hT t) (hs1 hT t) (ms2 hT t) (hs2 hT t) (ms3 hT t) (hs3 hT t) (ms4 hT t) (hs4 hT t) (Memref.whole cc0_scratch0) (Memref.isWhole_whole _) (Memref.whole cc0_scratch1) (Memref.isWhole_whole _)

set_option maxHeartbeats 6000000 in
/-- The body at a point, from the invariant before it to the invariant after it. -/
theorem sound_body (c : Dev nD) (t : Fin (cfgOf (F := F) hT).N) :
    iprop((dats m ρ hT 0 c).Φ t.castSucc ∗ (dats m ρ hT 0 c).owesAt () t.castSucc
      ∗ (∃ d, owns (c : Thread nD τ) (ms0 hT t) fullShare ((dats m ρ hT 0 c).before (0 : Fin 5) t d))
      ∗ (∃ d, owns (c : Thread nD τ) (ms1 hT t) fullShare ((dats m ρ hT 0 c).before (1 : Fin 5) t d))
      ∗ (∃ d, owns (c : Thread nD τ) (ms2 hT t) fullShare ((dats m ρ hT 0 c).before (2 : Fin 5) t d))
      ∗ (∃ d, owns (c : Thread nD τ) (ms3 hT t) fullShare ((dats m ρ hT 0 c).before (3 : Fin 5) t d))
      ∗ (∃ d, owns (c : Thread nD τ) (ms4 hT t) fullShare ((dats m ρ hT 0 c).before (4 : Fin 5) t d)))
    ⊢ wp frame (wpE (defs₀ (F := F)) Variants.none c none) Set.univ (bodyAt (F := F) hT t) fun _ =>
        iprop((dats m ρ hT 0 c).Φ t.succ ∗ (dats m ρ hT 0 c).owesAt () t.succ
          ∗ bigSep Finset.univ fun w : Fin (cfgOf (F := F) hT).W => match (cfgOf (F := F) hT).idle w ((cfgOf (F := F) hT).grid.coords t) with
            | true => match ((cfgOf (F := F) hT).win w).flush t with
                | false => iprop(∃ d, owns (c : Thread nD τ) (((cfgOf (F := F) hT).win w).stage ((cfgOf (F := F) hT).slots t w)) fullShare ((dats m ρ hT 0 c).before w t d))
                | true => owns (c : Thread nD τ) (((cfgOf (F := F) hT).win w).stage ((cfgOf (F := F) hT).slots t w)) fullShare ((dats m ρ hT 0 c).after w t)
            | false => owns (c : Thread nD τ) (((cfgOf (F := F) hT).win w).stage ((cfgOf (F := F) hT).slots t w)) fullShare ((dats m ρ hT 0 c).after w t)) := by
  have ht : t.val < 812 := Nat.lt_of_lt_of_eq t.isLt N_0
  have c1 : k0_cond1 (crd hT t) (nuAt (F := F) T1) = 1#1 ↔ t.val / 28 < (T1 one1).toNat := by
    rw [nuAt_eq]; exact (cond1_iff hT (crd hT t)).trans (by rw [crd_0 (F := F) hT t])
  have c2 : k0_cond2 (crd hT t) = 1#1 ↔ t.val % 28 = 0 := (cond2_iff (crd hT t)).trans (by rw [crd_1 (F := F) hT t])
  have c9 : k0_cond9 (crd hT t) = 1#1 ↔ t.val % 28 = 27 := (cond9_iff (crd hT t)).trans (by rw [crd_1 (F := F) hT t])
  have i4 := idle_4 (F := F) hT t
  rw [bigSep_W0]
  by_cases q : t.val / 28 < (T1 one1).toNat
  · have h1 := c1.mpr q
    by_cases q0 : t.val % 28 = 0
    · have h2 := c2.mpr q0
      have h9 : ¬k0_cond9 (crd hT t) = 1#1 := fun h => absurd (c9.mp h) (by omega)
      have f4 := flush_4_false (F := F) hT t (by omega) (by rw [show (t.val + 1) / 28 = t.val / 28 by omega])
      rw [decide_eq_false (by omega), Bool.not_false] at i4
      rewrite [i4]
      simp only [before_0, before_1, before_2, before_3, after_0, after_1, after_2, after_3, f4]
      rewrite [phi_succ, phi_cast, owes_succ]
      unfold Phi
      iintro ⟨⟨%a, %b, %hab, HS0, HS1, HT0, HT1, HT2⟩, Ho, ⟨%d0, H0⟩, ⟨%d1, H1⟩, ⟨%d2, H2⟩, ⟨%d3, H3⟩, ⟨%d4, H4⟩⟩
      have e0 := runFirst_acc c (crd hT t) (ms0 hT t) (hs0 hT t) (ms1 hT t) (hs1 hT t) (ms2 hT t) (hs2 hT t) (ms3 hT t) (hs3 hT t) (ms4 hT t) (hs4 hT t) T0 T1 T2 (iblk m ρ hT c (0 : Fin 5) t) (iblk m ρ hT c (1 : Fin 5) t) (iblk m ρ hT c (2 : Fin 5) t) (iblk m ρ hT c (3 : Fin 5) t) a b h1 h2 h9 (kk hT t) (kk_le hT t) (kk_word hT t)
      have e1 := runFirst_rows c (crd hT t) (ms0 hT t) (hs0 hT t) (ms1 hT t) (hs1 hT t) (ms2 hT t) (hs2 hT t) (ms3 hT t) (hs3 hT t) (ms4 hT t) (hs4 hT t) T0 T1 T2 (iblk m ρ hT c (0 : Fin 5) t) (iblk m ρ hT c (1 : Fin 5) t) (iblk m ρ hT c (2 : Fin 5) t) (iblk m ρ hT c (3 : Fin 5) t) a b h1 h2 h9
      iapply ((runFirst c (crd hT t) (ms0 hT t) (hs0 hT t) (ms1 hT t) (hs1 hT t) (ms2 hT t) (hs2 hT t) (ms3 hT t) (hs3 hT t) (ms4 hT t) (hs4 hT t) T0 T1 T2 (iblk m ρ hT c (0 : Fin 5) t) (iblk m ρ hT c (1 : Fin 5) t) (iblk m ρ hT c (2 : Fin 5) t) (iblk m ρ hT c (3 : Fin 5) t) a b h1 h2 h9).2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [HT2]; · iexact HT2
      isplitl [H4]; · iexact H4
      isplitl [HS0]; · iexact HS0
      isplitl [HS1]; · iexact HS1
      iintro ⟨H0, H1, H2, H3, HT0, HT1, HT2, H4, HS0, HS1⟩
      isplitl [HS0 HS1 HT0 HT1 HT2]
      · iexists _; iexists _
        isplitr; swap
        · isplitl [HS0]; · iexact HS0
          isplitl [HS1]; · iexact HS1
          isplitl [HT0]; · iexact HT0
          isplitl [HT1]; · iexact HT1
          iexact HT2
        · ipureintro
          exact fun _ => ⟨e0.trans (accN_first m ρ hT c t q0).symm, e1.trans (rowsN_first m ρ hT c t q0).symm⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists d4; iexact H4
    · have h2 : ¬k0_cond2 (crd hT t) = 1#1 := fun h => q0 (c2.mp h)
      by_cases q9 : t.val % 28 = 27
      · have h9 := c9.mpr q9
        rw [decide_eq_true (by omega), Bool.not_true] at i4
        rewrite [i4]
        simp only [before_0, before_1, before_2, before_3, after_0, after_1, after_2, after_3]
        rewrite [phi_succ, phi_cast, owes_succ]
        unfold Phi
        iintro ⟨⟨%a, %b, %hab, HS0, HS1, HT0, HT1, HT2⟩, Ho, ⟨%d0, H0⟩, ⟨%d1, H1⟩, ⟨%d2, H2⟩, ⟨%d3, H3⟩, ⟨%d4, H4⟩⟩
        have hab' := hab ⟨q0, q⟩
        have e0 := (runLast_acc c (crd hT t) (ms0 hT t) (hs0 hT t) (ms1 hT t) (hs1 hT t) (ms2 hT t) (hs2 hT t) (ms3 hT t) (hs3 hT t) (ms4 hT t) (hs4 hT t) T0 T1 T2 (iblk m ρ hT c (0 : Fin 5) t) (iblk m ρ hT c (1 : Fin 5) t) (iblk m ρ hT c (2 : Fin 5) t) (iblk m ρ hT c (3 : Fin 5) t) a b h1 h2 h9 (kk hT t) (kk_le hT t) (kk_word hT t)).trans (step_eq m ρ hT c t q0 hab'.1 hab'.2)
        have ep := runLast_pieces c (crd hT t) (ms0 hT t) (hs0 hT t) (ms1 hT t) (hs1 hT t) (ms2 hT t) (hs2 hT t) (ms3 hT t) (hs3 hT t) (ms4 hT t) (hs4 hT t) T0 T1 T2 (iblk m ρ hT c (0 : Fin 5) t) (iblk m ρ hT c (1 : Fin 5) t) (iblk m ρ hT c (2 : Fin 5) t) (iblk m ρ hT c (3 : Fin 5) t) a b h1 h2 h9
        iapply ((runLast c (crd hT t) (ms0 hT t) (hs0 hT t) (ms1 hT t) (hs1 hT t) (ms2 hT t) (hs2 hT t) (ms3 hT t) (hs3 hT t) (ms4 hT t) (hs4 hT t) T0 T1 T2 (iblk m ρ hT c (0 : Fin 5) t) (iblk m ρ hT c (1 : Fin 5) t) (iblk m ρ hT c (2 : Fin 5) t) (iblk m ρ hT c (3 : Fin 5) t) a b h1 h2 h9).2.2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HT2]; · iexact HT2
        isplitl [H4]; · iexact H4
        isplitl [HS0]; · iexact HS0
        isplitl [HS1]; · iexact HS1
        iintro ⟨H0, H1, H2, H3, HT0, HT1, HT2, ⟨%e4, H4⟩, HS0, HS1⟩
        isplitl [HS0 HS1 HT0 HT1 HT2]
        · iexists _; iexists _
          isplitr; swap
          · isplitl [HS0]; · iexact HS0
            isplitl [HS1]; · iexact HS1
            isplitl [HT0]; · iexact HT0
            isplitl [HT1]; · iexact HT1
            iexact HT2
          · ipureintro
            intro h; exact absurd (show (t.val + 1) % 28 ≠ 0 from h.1) (by omega)
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        unfold owns; iexists _; isplitr; swap
        · iexact H4
        · ipureintro
          rw [ep, e0, after_4, lastN_eq hT t q q9]
          unfold outN
          exact read_out (ms4 hT t) e4 _
      · have h9 : ¬k0_cond9 (crd hT t) = 1#1 := fun h => q9 (c9.mp h)
        have f4 := flush_4_false (F := F) hT t (by omega) (by rw [show (t.val + 1) / 28 = t.val / 28 by omega])
        rw [decide_eq_false (by omega), Bool.not_false] at i4
        rewrite [i4]
        simp only [before_0, before_1, before_2, before_3, after_0, after_1, after_2, after_3, f4]
        rewrite [phi_succ, phi_cast, owes_succ]
        unfold Phi
        iintro ⟨⟨%a, %b, %hab, HS0, HS1, HT0, HT1, HT2⟩, Ho, ⟨%d0, H0⟩, ⟨%d1, H1⟩, ⟨%d2, H2⟩, ⟨%d3, H3⟩, ⟨%d4, H4⟩⟩
        have hab' := hab ⟨q0, q⟩
        have e0 := (runMid_acc c (crd hT t) (ms0 hT t) (hs0 hT t) (ms1 hT t) (hs1 hT t) (ms2 hT t) (hs2 hT t) (ms3 hT t) (hs3 hT t) (ms4 hT t) (hs4 hT t) T0 T1 T2 (iblk m ρ hT c (0 : Fin 5) t) (iblk m ρ hT c (1 : Fin 5) t) (iblk m ρ hT c (2 : Fin 5) t) (iblk m ρ hT c (3 : Fin 5) t) a b h1 h2 h9 (kk hT t) (kk_le hT t) (kk_word hT t)).trans (step_eq m ρ hT c t q0 hab'.1 hab'.2)
        have e1 := (runMid_rows c (crd hT t) (ms0 hT t) (hs0 hT t) (ms1 hT t) (hs1 hT t) (ms2 hT t) (hs2 hT t) (ms3 hT t) (hs3 hT t) (ms4 hT t) (hs4 hT t) T0 T1 T2 (iblk m ρ hT c (0 : Fin 5) t) (iblk m ρ hT c (1 : Fin 5) t) (iblk m ρ hT c (2 : Fin 5) t) (iblk m ρ hT c (3 : Fin 5) t) a b h1 h2 h9).trans (hab'.2.trans (rowsN_next m ρ hT c t q0).symm)
        iapply ((runMid c (crd hT t) (ms0 hT t) (hs0 hT t) (ms1 hT t) (hs1 hT t) (ms2 hT t) (hs2 hT t) (ms3 hT t) (hs3 hT t) (ms4 hT t) (hs4 hT t) T0 T1 T2 (iblk m ρ hT c (0 : Fin 5) t) (iblk m ρ hT c (1 : Fin 5) t) (iblk m ρ hT c (2 : Fin 5) t) (iblk m ρ hT c (3 : Fin 5) t) a b h1 h2 h9).2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HT2]; · iexact HT2
        isplitl [H4]; · iexact H4
        isplitl [HS0]; · iexact HS0
        isplitl [HS1]; · iexact HS1
        iintro ⟨H0, H1, H2, H3, HT0, HT1, HT2, H4, HS0, HS1⟩
        isplitl [HS0 HS1 HT0 HT1 HT2]
        · iexists _; iexists _
          isplitr; swap
          · isplitl [HS0]; · iexact HS0
            isplitl [HS1]; · iexact HS1
            isplitl [HT0]; · iexact HT0
            isplitl [HT1]; · iexact HT1
            iexact HT2
          · ipureintro
            exact fun _ => ⟨e0, e1⟩
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        iexists d4; iexact H4
  · have h1 : ¬k0_cond1 (crd hT t) (nuAt (F := F) T1) = 1#1 := fun h => q (c1.mp h)
    rw [decide_eq_false (by omega), Bool.not_false] at i4
    rewrite [i4]
    simp only [before_0, before_1, before_2, before_3, after_0, after_1, after_2, after_3]
    rewrite [phi_succ, phi_cast, owes_succ]
    unfold Phi
    iintro ⟨⟨%a, %b, %hab, HS0, HS1, HT0, HT1, HT2⟩, Ho, ⟨%d0, H0⟩, ⟨%d1, H1⟩, ⟨%d2, H2⟩, ⟨%d3, H3⟩, ⟨%d4, H4⟩⟩
    skip
    iapply ((runIdle c (crd hT t) (ms0 hT t) (hs0 hT t) (ms1 hT t) (hs1 hT t) (ms2 hT t) (hs2 hT t) (ms3 hT t) (hs3 hT t) (ms4 hT t) (hs4 hT t) T0 T1 T2 (iblk m ρ hT c (0 : Fin 5) t) (iblk m ρ hT c (1 : Fin 5) t) (iblk m ρ hT c (2 : Fin 5) t) (iblk m ρ hT c (3 : Fin 5) t) a b h1).2.2 _ _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [HT2]; · iexact HT2
    isplitl [H4]; · iexact H4
    isplitl [HS0]; · iexact HS0
    isplitl [HS1]; · iexact HS1
    iintro ⟨H0, H1, H2, H3, HT0, HT1, HT2, H4, HS0, HS1⟩
    isplitl [HS0 HS1 HT0 HT1 HT2]
    · iexists _; iexists _
      isplitr; swap
      · isplitl [HS0]; · iexact HS0
        isplitl [HS1]; · iexact HS1
        isplitl [HT0]; · iexact HT0
        isplitl [HT1]; · iexact HT1
        iexact HT2
      · ipureintro
        intro h; exact absurd (show (t.val + 1) / 28 < (T1 one1).toNat from h.2) (by omega)
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    cases hfl : ((cfgOf (F := F) hT).win (4 : Fin 5)).flush t with
    | false => iexists d4; iexact H4
    | true =>
      rw [before_4_unused m ρ hT c t q]
      iexact H4

/-- The pipeline's obligation, at every point. -/
theorem body_obligation (c : Dev nD) : BodyObligation (dats m ρ hT 0 c) (defs₀ (F := F)) Variants.none () Set.univ := fun t => by
  rw [bigSep_W0]
  exact sound_body m ρ hT c t

/-! ## The launch -/

/-- The launch's element. -/
def u₀ : UR sig nD τ :=
  initOf (Pipeline.cells (pcs (F := F) hT) ((launch0 (F := F)).cellOf_inj fun _ => admOf hT))
    (Pipeline.launchToks (pcs (F := F) hT) ((launch0 (F := F)).cellOf_inj fun _ => admOf hT))

theorem share_full (c : Dev nD) (w : Fin (cfgOf (F := F) hT).W) : (dats m ρ hT 0 c).share w = fullShare := by unfold Dat.share; split <;> rfl

theorem tables_held (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point; -/
theorem phi_intro (c : Dev nD) :
    iprop(BI.emp ∗ Pipeline.prefHeld pre0 c (fun _ => fullShare.right) (admOf (F := F) hT).1 ∗ Pipeline.scopedRest spec0 c) ⊢ (dats m ρ hT 0 c).Φ 0 := by
  rw [tables_held, scopedRest0_eq, show (dats m ρ hT 0 c).Φ 0 = Phi m ρ hT c 0 from rfl]
  unfold Phi
  iintro ⟨-, ⟨HT0, HT1, HT2⟩, ⟨%a0, HS0⟩, ⟨%a1, HS1⟩⟩
  iexists a0; iexists a1
  isplitr; swap
  · isplitl [HS0]; · iexact HS0
    isplitl [HS1]; · iexact HS1
    isplitl [HT0]; · iexact HT0
    isplitl [HT1]; · iexact HT1
    iexact HT2
  · ipureintro; intro h; exact absurd rfl h.1

/-- and what it gives back at the end. -/
theorem phi_exit (c : Dev nD) : (dats m ρ hT 0 c).Φ (Fin.last (cfgOf (F := F) hT).N) ⊢ iprop(BI.emp ∗ Pipeline.scopedRest spec0 c) := by
  rw [scopedRest0_eq, show (dats m ρ hT 0 c).Φ (Fin.last (cfgOf (F := F) hT).N) = Phi m ρ hT c (cfgOf (F := F) hT).N from rfl]
  unfold Phi
  iintro ⟨%a0, %a1, -, HS0, HS1, -, -, -⟩
  isplitr; · iempintro
  isplitl [HS0]
  · iexists a0; iexact HS0
  iexists a1; iexact HS1

/-- What holds at the end: every array at the computed contents, every table as it was. -/
def QC : PUnit × MemSt nD τ sig (Elt F) → Prop := fun r =>
  ∀ c : Dev nD, (∀ w : Fin (cfgOf (F := F) hT).W, r.2.mem (((cfgOf (F := F) hT).win w).arr.view.loc (c : Thread nD τ)) = (dats m ρ hT 0 c).arrAt w (cfgOf (F := F) hT).N)
    ∧ ∀ j, r.2.mem ((c : Thread nD τ).loc (pre0.ref j)) = (admOf (F := F) hT).1 j

/-- The tables of a memory. -/
def Holds (T0 : S29.Idx → BitVec 32) (T1 : S1.Idx → BitVec 32) (T2 : S29.Idx → BitVec 32) : Prop :=
  (∀ c : Dev nD, m ((c : Thread nD τ).loc main_arg1) = T0) ∧ (∀ c : Dev nD, m ((c : Thread nD τ).loc main_arg2) = T1) ∧ (∀ c : Dev nD, m ((c : Thread nD τ).loc main_arg3) = T2)

theorem tables_pre (hp : Holds m T0 T1 T2) (c : Dev nD) (j : Fin 3) : m ((c : Thread nD τ).loc (pre0.ref j)) = (admOf (F := F) hT).1 j := by
  fin_cases j
  · exact hp.1 c
  · exact hp.2.1 c
  · exact hp.2.2 c

set_option backward.isDefEq.respectTransparency.types false in
set_option maxHeartbeats 4000000 in
/-- Every execution ends, with each array at the computed contents and every counter at zero. -/
theorem run_main_quiescent (hp : Holds m T0 T1 T2) : θ_run (defs (F := F)) (onTc (τ := τ) (main (F := F))) (st₀ m ρ) (fun r => QC m ρ hT r ∧ r.2.sem = fun _ => 0) :=
  Pipeline.θ_run_region_noSem_pf_quiescent pcfgs (fun _ => admOf hT) (dats m ρ hT) () ((launch0 (F := F)).cellOf_inj fun _ => admOf hT) (0 : Fin 1)
    (launch0 (F := F)).win.to₀ (launch0 (F := F)).pre EP defs₀ Variants.none m ρ main
    (hbody := fun c => (body_obligation m ρ hT c).loose) (hne := (launch0 (F := F)).block_pos)
    (harr := (launch0 (F := F)).arr_whole) (hstage := (launch0 (F := F)).stage_whole) (howed := fun _ _ => rfl)
    (u₀ := u₀ (F := F) hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hT) (dats m ρ hT) 0 (launch0 (F := F)).win.arr_inj c (launch0 (F := F)).arr_whole
      (share_full m ρ hT c) _ _ fun _ => rfl)
    (hpf := tables_pre m hT hp)
    (X := fun _ => iprop(emp)) (Y := fun _ => iprop(emp)) (Z := fun _ => iprop(emp))
    (hX := fun c => by rw [unscopedRestP0_eq]; iintro -; isplitr <;> iempintro)
    (hin := phi_intro m ρ hT)
    (hout := phi_exit m ρ hT)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hT in
/-- The same, read at the arguments. -/
theorem run_main (hp : Holds m T0 T1 T2) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 (0 : Fin 5)).trans ((dats m ρ hT 0 c).arrAt_in (0 : Fin 5) rfl _), ((h.1 c).2 0).trans (hp.1 c).symm, ((h.1 c).2 1).trans (hp.2.1 c).symm, ((h.1 c).2 2).trans (hp.2.2 c).symm,
    ((h.1 c).1 (1 : Fin 5)).trans ((dats m ρ hT 0 c).arrAt_in (1 : Fin 5) rfl _), ((h.1 c).1 (2 : Fin 5)).trans ((dats m ρ hT 0 c).arrAt_in (2 : Fin 5) rfl _), ((h.1 c).1 (3 : Fin 5)).trans ((dats m ρ hT 0 c).arrAt_in (3 : Fin 5) rfl _)⟩, h.2⟩) (run_main_quiescent m ρ hT hp)

end Cert.Proof.Experts

end
-- ==== Proof.ExpertsMath.lean ====
/-
  What an expert computes, over the extended reals: a row of hidden values, its two projections, the gated product and the
  projection back; with the sums cut in pieces of 256.
-/
module

public import Idealize.ShloMosaic.Lib.ValueIdx
public import Idealize.ShloMosaic.Lib.MatmulPlain
public import Idealize.ShloMosaic.Lib.Pipeline.Value
public import Idealize.ShloMosaic.PureOps.Ideal.Laws

@[expose] public section

set_option maxRecDepth 16384

noncomputable section

namespace Cert.Proof.Experts

open Idealize.ShloMosaic
open Idealize.ShloMosaic.ValueIdx
open scoped BigOperators

/-- The gate: `g` times its logistic value, times `u`. -/
def act (g u : EReal) : EReal := g * Ideal.div (Ideal.ofBits .f32 0x3F800000#32) (Ideal.ofBits .f32 0x3F800000#32 + Ideal.exp (-g)) * u

/-- A zero gate gives zero. -/
theorem act_zero (u : EReal) : act 0 u = 0 := by unfold act; rw [zero_mul, zero_mul]

/-- An array of extended reals with three axes. -/
abbrev A3 (a b c : ℕ) := (⟨3, ![a, b, c]⟩ : Shape).Idx → EReal

/-- Hidden value `k` of row `R`: the planes side by side. -/
def hrow (X : A3 8 44544 256) (R : Fin 44544) (k : Fin 2048) : EReal :=
  X (ix3 (⟨k.val / 256, by omega⟩ : Fin 8) R (⟨k.val % 256, by omega⟩ : Fin 256))
/-- Row `R` through column `n` of expert `e`'s weights. -/
def proj (X : A3 8 44544 256) (W : A3 8 2048 7168) (e : Fin 8) (R : Fin 44544) (n : Fin 7168) : EReal :=
  ∑ k : Fin 2048, hrow X R k * W (ix3 e k n)
/-- One term of expert `e`'s output. -/
def term (X : A3 8 44544 256) (Wg Wu : A3 8 2048 7168) (Wd : A3 8 7168 2048) (e : Fin 8) (R : Fin 44544) (j : Fin 2048) (n : Fin 7168) : EReal :=
  act (proj X Wg e R n) (proj X Wu e R n) * Wd (ix3 e n j)
/-- Expert `e`'s output for row `R`. -/
def expert (X : A3 8 44544 256) (Wg Wu : A3 8 2048 7168) (Wd : A3 8 7168 2048) (e : Fin 8) (R : Fin 44544) (j : Fin 2048) : EReal :=
  ∑ n : Fin 7168, term X Wg Wu Wd e R j n
/-- The terms at every number, zero past the last. -/
def termN (X : A3 8 44544 256) (Wg Wu : A3 8 2048 7168) (Wd : A3 8 7168 2048) (e : Fin 8) (R : Fin 44544) (j : Fin 2048) (n : ℕ) : EReal :=
  if h : n < 7168 then term X Wg Wu Wd e R j ⟨n, h⟩ else 0

/-- The output as a sum over numbers. -/
theorem expert_eq (X : A3 8 44544 256) (Wg Wu : A3 8 2048 7168) (Wd : A3 8 7168 2048) (e : Fin 8) (R : Fin 44544) (j : Fin 2048) :
    ∑ n ∈ Finset.range 7168, termN X Wg Wu Wd e R j n = expert X Wg Wu Wd e R j := by
  rw [Finset.sum_range]
  exact Finset.sum_congr rfl fun n _ => dif_pos n.isLt

/-- One more piece of 256 terms. -/
theorem sum_piece (g : ℕ → EReal) (f : ℕ) :
    ∑ n ∈ Finset.range (256 * f), g n + ∑ n : Fin 256, g (256 * f + n.val) = ∑ n ∈ Finset.range (256 * (f + 1)), g n := by
  rw [show 256 * (f + 1) = 256 * f + 256 by omega, Finset.sum_range_add, Finset.sum_range (fun x => g (256 * f + x)) (n := 256)]

/-- What one step adds: 256 columns of the weights, from blocks. -/
def part (hb : Fin 2048 → EReal) (x1 x2 : A3 1 2048 256) (x3 : A3 1 256 2048) (j : Fin 2048) : EReal :=
  ∑ n : Fin 256, act (∑ k : Fin 2048, hb k * x1 (ix3 (0 : Fin 1) k n)) (∑ k : Fin 2048, hb k * x2 (ix3 (0 : Fin 1) k n)) * x3 (ix3 (0 : Fin 1) n j)

/-- A row of zeros adds nothing. -/
theorem part_zero (x1 x2 : A3 1 2048 256) (x3 : A3 1 256 2048) (j : Fin 2048) : part (fun _ => 0) x1 x2 x3 j = 0 := by
  unfold part
  refine Finset.sum_eq_zero fun n _ => ?_
  simp only [zero_mul, Finset.sum_const_zero, act_zero]

/-- The bf16 zero. -/
theorem bf16_zero : Ideal.ofBits .bf16 0x0000#16 = 0 := by simp [Ideal.ofBits, Ideal.ieee]

/-- The step's operations on `M` rows, element by element. -/
theorem step_value (M : ℕ) (hb : FVec Ideal ⟨2, ![M, 2048]⟩ .bf16) (x1 x2 : FVec Ideal ⟨3, ![1, 2048, 256]⟩ .f32) (x3 : FVec Ideal ⟨3, ![1, 256, 2048]⟩ .f32)
    (acc : FVec Ideal ⟨2, ![M, 2048]⟩ .f32) (h12 : (⟨3, ![1, 2048, 256]⟩ : Shape).ShapeCasts ⟨2, ![2048, 256]⟩) (h3 : (⟨3, ![1, 256, 2048]⟩ : Shape).ShapeCasts ⟨2, ![256, 2048]⟩)
    (hs : (⟨2, ![M, 2048]⟩ : Shape).ShapeCasts ⟨2, ![M, 2048]⟩) (hbit : FTy.bf16.bits < FTy.f32.bits) (r : Fin M) (j : Fin 2048)
    (g u : FVec Ideal ⟨2, ![M, 256]⟩ .f32)
    (hg : g = FloatOps.matmul (DotDims.plain M 2048 256) none hb (truncf .bf16 (shapeCast ⟨2, ![2048, 256]⟩ x1 h12 : FVec Ideal ⟨2, ![2048, 256]⟩ .f32) hbit : FVec Ideal ⟨2, ![2048, 256]⟩ .bf16) (constant ⟨2, ![M, 256]⟩ .f32 0x00000000#32))
    (hu : u = FloatOps.matmul (DotDims.plain M 2048 256) none hb (truncf .bf16 (shapeCast ⟨2, ![2048, 256]⟩ x2 h12 : FVec Ideal ⟨2, ![2048, 256]⟩ .f32) hbit : FVec Ideal ⟨2, ![2048, 256]⟩ .bf16) (constant ⟨2, ![M, 256]⟩ .f32 0x00000000#32)) :
    (shapeCast ⟨2, ![M, 2048]⟩ (addf acc (FloatOps.matmul (DotDims.plain M 256 2048) none
        (truncf .bf16 (mulf (mulf g (divf (broadcast ⟨2, ![M, 256]⟩ (Scalar.ofBits .f32 0x3F800000#32 : Ideal .f32)) (addf (broadcast ⟨2, ![M, 256]⟩ (Scalar.ofBits .f32 0x3F800000#32 : Ideal .f32))
          (exp (subf (broadcast ⟨2, ![M, 256]⟩ (Scalar.ofBits .f32 0x00000000#32 : Ideal .f32)) g))))) u) hbit : FVec Ideal ⟨2, ![M, 256]⟩ .bf16)
        (truncf .bf16 (shapeCast ⟨2, ![256, 2048]⟩ x3 h3 : FVec Ideal ⟨2, ![256, 2048]⟩ .f32) hbit : FVec Ideal ⟨2, ![256, 2048]⟩ .bf16) (constant ⟨2, ![M, 2048]⟩ .f32 0x00000000#32))) hs : FVec Ideal ⟨2, ![M, 2048]⟩ .f32) (ix2 r j)
      = acc (ix2 r j) + part (fun k => hb (ix2 r k)) x1 x2 x3 j := by
  have hz : Ideal.ofBits .f32 0x00000000#32 = 0 := Ideal.ofBits_zero_f32
  have e12 : ∀ (x : FVec Ideal ⟨3, ![1, 2048, 256]⟩ .f32) (k : Fin 2048) (n : Fin 256),
      (shapeCast ⟨2, ![2048, 256]⟩ x h12 : FVec Ideal ⟨2, ![2048, 256]⟩ .f32) (ix2 k n) = x (ix3 (0 : Fin 1) k n) := fun x k n =>
    shapeCast_apply x h12 _ _ (by rw [Shape.rowMajor_val_three, Shape.rowMajor_val_two]; show (0 * 2048 + k.val) * 256 + n.val = k.val * 256 + n.val; omega)
  have e3 : ∀ (n : Fin 256) (j : Fin 2048),
      (shapeCast ⟨2, ![256, 2048]⟩ x3 h3 : FVec Ideal ⟨2, ![256, 2048]⟩ .f32) (ix2 n j) = x3 (ix3 (0 : Fin 1) n j) := fun n j =>
    shapeCast_apply x3 h3 _ _ (by rw [Shape.rowMajor_val_three, Shape.rowMajor_val_two]; show (0 * 256 + n.val) * 2048 + j.val = n.val * 2048 + j.val; omega)
  have eg : ∀ (x : FVec Ideal ⟨3, ![1, 2048, 256]⟩ .f32) (n : Fin 256),
      FloatOps.matmul (DotDims.plain M 2048 256) none hb (truncf .bf16 (shapeCast ⟨2, ![2048, 256]⟩ x h12 : FVec Ideal ⟨2, ![2048, 256]⟩ .f32) hbit : FVec Ideal ⟨2, ![2048, 256]⟩ .bf16) (constant ⟨2, ![M, 256]⟩ .f32 0x00000000#32) (ix2 r n)
        = ∑ k : Fin 2048, hb (ix2 r k) * x (ix3 (0 : Fin 1) k n) := fun x n => by
    rw [Ideal.matmul_plain_apply, constant_apply, hz, zero_add]
    exact Finset.sum_congr rfl fun k _ => by rw [truncf_apply, e12]
  rw [shapeCast_self, addf_apply, Ideal.matmul_plain_apply, constant_apply, hz, zero_add]
  congr 1
  refine Finset.sum_congr rfl fun n _ => ?_
  rw [truncf_apply, truncf_apply, e3, ← eg x1 n, ← eg x2 n, ← hg, ← hu]
  congr 1
  show g (ix2 r n) * Ideal.div _ (_ + Ideal.exp (Ideal.ofBits .f32 0x00000000#32 - g (ix2 r n))) * u (ix2 r n) = act (g (ix2 r n)) (u (ix2 r n))
  rw [hz, zero_sub]
  rfl

end Cert.Proof.Experts

end
-- ==== Proof.ExpertsValue.lean ====
/-
  What the experts call computes, element by element, over the extended reals: the masked rows, one step, the accumulator after
  each step, the result's blocks.
-/
module

public import proofs.«01_k».proof.Proof.ExpertsLaunch
public import proofs.«01_k».proof.Proof.ExpertsMath

@[expose] public section

set_option maxRecDepth 16384

noncomputable section

namespace Cert.Proof.Experts

open Cert.ExpertsIdeal Cert.ExpertsIdeal.Gen
open Idealize.ShloMosaic
open Idealize.ShloMosaic.TcCoe Idealize.ShloMosaic.Tactic
open Idealize.SL Idealize.SL.Sem
open Idealize.ShloMosaic.Pipeline (Dat Cfg Window)
open Idealize.ShloMosaic.ValueIdx
open scoped BigOperators

/-! ## The masked rows -/

/-- One plane, masked. -/
theorem mask_apply (w : BitVec 32) (v : Vec Ideal S1x1536x256 .bf16) (r : Fin 1536) (q : Fin 256)
    (h : S1x1536x256.ShapeCasts S1536x256) (h' : S1536x256.ShapeCasts S1536x256) :
    (shapeCast S1536x256 (select (k0_pay7 (F := Ideal) w) (shapeCast S1536x256 v h) (broadcast S1536x256 (Scalar.ofBits .bf16 0x0000#16 : Ideal .bf16))) h' : FVec Ideal S1536x256 .bf16) (ix2 r q)
      = if r.val < cnt w then v (ix3 (0 : Fin 1) r q) else 0 := by
  have ec : k0_pay7 (F := Ideal) w (ix2 r q) = IntOp.cmpi .slt (BitVec.ofNat 32 r.val) w := by
    show IntOp.cmpi .slt (iota .tc S1536x256 32 [0] iota_S1536x256_d0_w32 (ix2 r q)) w = _
    rw [iota_single_apply]
  have hlt : IntOp.cmpi .slt (BitVec.ofNat 32 r.val) w = 1#1 ↔ r.val < cnt w := row_lt r.val w r.isLt
  rw [shapeCast_self, ValueIdx.select_apply, ec,
    shapeCast_apply v h (ix2 r q) (ix3 (0 : Fin 1) r q) (by rw [Shape.rowMajor_val_three, Shape.rowMajor_val_two]; show (0 * 1536 + r.val) * 256 + q.val = r.val * 256 + q.val; omega)]
  by_cases hr : r.val < cnt w
  · rw [if_pos hr, hlt.mpr hr]; rfl
  · rw [if_neg hr]
    have hc : ¬IntOp.cmpi .slt (BitVec.ofNat 32 r.val) w = 1#1 := fun e => hr (hlt.mp e)
    unfold Scalar.select
    exact (if_neg hc).trans bf16_zero

/-- The masked rows as one function. -/
def rowsG (w : BitVec 32) (x0 : S8x1536x256.Idx → EReal) : S1536x2048.Idx → EReal := fun i =>
  if (i 0).val < cnt w then x0 (ix3 (⟨(i 1).val / 256, by have : (i 1).val < 2048 := (i 1).isLt; omega⟩ : Fin 8) (⟨(i 0).val, (i 0).isLt⟩ : Fin 1536) (⟨(i 1).val % 256, by omega⟩ : Fin 256)) else 0

/-- One plane's store is its part of them. -/
theorem rowPiece (w : BitVec 32) (x0 : S8x1536x256.Idx → EReal) (c : Fin 8) (k : ℕ) (hk : k = 256 * c.val)
    (inb : ∀ a, (![c.val, 0, 0] : Fin 3 → ℕ) a + S1x1536x256.size a ≤ S8x1536x256.size a) (inb' : ∀ a, (![0, k] : Fin 2 → ℕ) a + S1536x256.size a ≤ S1536x2048.size a)
    (h : S1x1536x256.ShapeCasts S1536x256) (h' : S1536x256.ShapeCasts S1536x256) (x : S1536x256.Idx) :
    (shapeCast S1536x256 (select (k0_pay7 (F := Ideal) w) (shapeCast S1536x256 (fun y => x0 ((Rect.unit (s := S8x1536x256) ![c.val, 0, 0] S1x1536x256.size inb).idx y)) h) (broadcast S1536x256 (Scalar.ofBits .bf16 0x0000#16 : Ideal .bf16))) h' : FVec Ideal S1536x256 .bf16) x
      = rowsG w x0 ((Rect.unit (s := S1536x2048) ![0, k] S1536x256.size inb').emb x) := by
  subst hk
  obtain ⟨r, q, rfl⟩ : ∃ (r : Fin 1536) (q : Fin 256), x = ix2 r q := ⟨x 0, x 1, eq_ix2 x⟩
  refine (mask_apply w _ r q h h').trans ?_
  have hq := q.isLt
  unfold rowsG
  have e0 : (((Rect.unit (s := S1536x2048) ![0, 256 * c.val] S1536x256.size inb').emb (ix2 r q)) 0).val = r.val := by
    show 0 + 1 * r.val = r.val; omega
  have e1 : (((Rect.unit (s := S1536x2048) ![0, 256 * c.val] S1536x256.size inb').emb (ix2 r q)) 1).val = 256 * c.val + q.val := by
    show 256 * c.val + 1 * q.val = _; omega
  refine if_congr (by rw [e0]) (congrArg x0 ?_) rfl
  funext a; apply Fin.ext
  match a with
  | ⟨0, _⟩ => show c.val + 1 * 0 = (((Rect.unit (s := S1536x2048) ![0, 256 * c.val] S1536x256.size inb').emb (ix2 r q)) 1).val / 256; rw [e1]; omega
  | ⟨1, _⟩ => show 0 + 1 * r.val = (((Rect.unit (s := S1536x2048) ![0, 256 * c.val] S1536x256.size inb').emb (ix2 r q)) 0).val; rw [e0]; omega
  | ⟨2, _⟩ => show 0 + 1 * q.val = (((Rect.unit (s := S1536x2048) ![0, 256 * c.val] S1536x256.size inb').emb (ix2 r q)) 1).val % 256; rw [e1]; omega

/-- The stores of the planes cover the rows. -/
theorem rowPieces_cover (w : BitVec 32) (x0 : S8x1536x256.Idx → EReal) : ∀ y, ∃ p ∈ rowPieces (F := Ideal) w x0, y ∈ p.1.set :=
  View.cover_of_tiled (rowPieces (F := Ideal) w x0) S1536x256.size (by sl_kernel_rfl)

/-- The rows' buffer read whole. -/
theorem row_read (f : S1536x2048.Idx → EReal) : rowM.view.read (Elt Ideal) f = f := rfl

theorem rowsOf_eq (w : BitVec 32) (x0 : S8x1536x256.Idx → EReal) : rowsOf (F := Ideal) w x0 = rowsG w x0 := by
  have e : rowsOf (F := Ideal) w x0 = View.canon (rowPieces (F := Ideal) w x0) :=
    (row_read (rowsOf (F := Ideal) w x0)).symm.trans (by
      unfold rowsOf
      exact View.read_writes_eq_canon rowM.view _ (rowPieces (F := Ideal) w x0) (rowPieces_cover w x0))
  rw [e]
  funext y
  refine View.canon_apply_of_pieces (rowsG w x0) _ ?_ y (rowPieces_cover w x0 y)
  intro p hp
  rcases List.mem_cons.mp hp with rfl | hp
  · exact fun x => rowPiece w x0 7 1792 rfl inb_S8x1536x256_S1x1536x256_7_0_0 inb_S1536x2048_S1536x256_0_1792 shapeCasts_S1x1536x256_S1536x256 shapeCasts_S1536x256_S1536x256 x
  rcases List.mem_cons.mp hp with rfl | hp
  · exact fun x => rowPiece w x0 6 1536 rfl inb_S8x1536x256_S1x1536x256_6_0_0 inb_S1536x2048_S1536x256_0_1536 shapeCasts_S1x1536x256_S1536x256 shapeCasts_S1536x256_S1536x256 x
  rcases List.mem_cons.mp hp with rfl | hp
  · exact fun x => rowPiece w x0 5 1280 rfl inb_S8x1536x256_S1x1536x256_5_0_0 inb_S1536x2048_S1536x256_0_1280 shapeCasts_S1x1536x256_S1536x256 shapeCasts_S1536x256_S1536x256 x
  rcases List.mem_cons.mp hp with rfl | hp
  · exact fun x => rowPiece w x0 4 1024 rfl inb_S8x1536x256_S1x1536x256_4_0_0 inb_S1536x2048_S1536x256_0_1024 shapeCasts_S1x1536x256_S1536x256 shapeCasts_S1536x256_S1536x256 x
  rcases List.mem_cons.mp hp with rfl | hp
  · exact fun x => rowPiece w x0 3 768 rfl inb_S8x1536x256_S1x1536x256_3_0_0 inb_S1536x2048_S1536x256_0_768 shapeCasts_S1x1536x256_S1536x256 shapeCasts_S1536x256_S1536x256 x
  rcases List.mem_cons.mp hp with rfl | hp
  · exact fun x => rowPiece w x0 2 512 rfl inb_S8x1536x256_S1x1536x256_2_0_0 inb_S1536x2048_S1536x256_0_512 shapeCasts_S1x1536x256_S1536x256 shapeCasts_S1536x256_S1536x256 x
  rcases List.mem_cons.mp hp with rfl | hp
  · exact fun x => rowPiece w x0 1 256 rfl inb_S8x1536x256_S1x1536x256_1_0_0 inb_S1536x2048_S1536x256_0_256 shapeCasts_S1x1536x256_S1536x256 shapeCasts_S1536x256_S1536x256 x
  rcases List.mem_cons.mp hp with rfl | hp
  · exact fun x => rowPiece w x0 0 0 rfl inb_S8x1536x256_S1x1536x256_0_0_0 inb_S1536x2048_S1536x256_0_0 shapeCasts_S1x1536x256_S1536x256 shapeCasts_S1536x256_S1536x256 x
  exact absurd hp List.not_mem_nil

/-! ## The output block -/

/-- The output block as one function. -/
def outG (acc : S1536x2048.Idx → EReal) : S8x1536x256.Idx → EReal := fun i =>
  acc (ix2 (⟨(i 1).val, (i 1).isLt⟩ : Fin 1536) (⟨256 * (i 0).val + (i 2).val, by have : (i 0).val < 8 := (i 0).isLt; have : (i 2).val < 256 := (i 2).isLt; omega⟩ : Fin 2048))

/-- One plane's store is its part of it. -/
theorem outPiece (acc : S1536x2048.Idx → EReal) (c : Fin 8) (k : ℕ) (hk : k = 256 * c.val)
    (inb : ∀ a, (![c.val, 0, 0] : Fin 3 → ℕ) a + S1x1536x256.size a ≤ S8x1536x256.size a) (inb' : ∀ a, (![0, k] : Fin 2 → ℕ) a + S1536x256.size a ≤ S1536x2048.size a)
    (h : S1536x256.ShapeCasts S1x1536x256) (x : S1x1536x256.Idx) :
    (shapeCast S1x1536x256 (truncf .bf16 (View.readAt (Elt Ideal) accM.view (Rect.unit (s := S1536x2048) ![0, k] S1536x256.size inb').toLoadRect acc : FVec Ideal S1536x256 .f32) bitsLt_bf16_f32 : FVec Ideal S1536x256 .bf16) h) x
      = outG acc ((Rect.unit (s := S8x1536x256) ![c.val, 0, 0] S1x1536x256.size inb).emb x) := by
  subst hk
  obtain ⟨z, r, q, rfl⟩ : ∃ (z : Fin 1) (r : Fin 1536) (q : Fin 256), x = ix3 z r q := ⟨x 0, x 1, x 2, eq_ix3 x⟩
  have hz : z.val = 0 := by omega
  rw [shapeCast_apply _ h (ix3 z r q) (ix2 r q) (by rw [Shape.rowMajor_val_three, Shape.rowMajor_val_two]; show r.val * 256 + q.val = (z.val * 1536 + r.val) * 256 + q.val; omega), ValueIdx.truncf_apply]
  unfold outG
  show acc _ = acc _
  refine congrArg acc ?_
  funext a; apply Fin.ext
  match a with
  | ⟨0, _⟩ => show 0 + 1 * r.val = 0 + 1 * r.val; rfl
  | ⟨1, _⟩ => show 256 * c.val + 1 * q.val = 256 * (c.val + 1 * z.val) + (0 + 1 * q.val); omega

theorem outOf_eq (acc : S1536x2048.Idx → EReal) : outOf (F := Ideal) acc = outG acc := by
  unfold outOf
  funext y
  refine View.canon_apply_of_pieces (outG acc) _ ?_ y (outPieces_cover (F := Ideal) acc y)
  intro p hp
  rcases List.mem_cons.mp hp with rfl | hp
  · exact fun x => outPiece acc 7 1792 rfl inb_S8x1536x256_S1x1536x256_7_0_0 inb_S1536x2048_S1536x256_0_1792 shapeCasts_S1536x256_S1x1536x256 x
  rcases List.mem_cons.mp hp with rfl | hp
  · exact fun x => outPiece acc 6 1536 rfl inb_S8x1536x256_S1x1536x256_6_0_0 inb_S1536x2048_S1536x256_0_1536 shapeCasts_S1536x256_S1x1536x256 x
  rcases List.mem_cons.mp hp with rfl | hp
  · exact fun x => outPiece acc 5 1280 rfl inb_S8x1536x256_S1x1536x256_5_0_0 inb_S1536x2048_S1536x256_0_1280 shapeCasts_S1536x256_S1x1536x256 x
  rcases List.mem_cons.mp hp with rfl | hp
  · exact fun x => outPiece acc 4 1024 rfl inb_S8x1536x256_S1x1536x256_4_0_0 inb_S1536x2048_S1536x256_0_1024 shapeCasts_S1536x256_S1x1536x256 x
  rcases List.mem_cons.mp hp with rfl | hp
  · exact fun x => outPiece acc 3 768 rfl inb_S8x1536x256_S1x1536x256_3_0_0 inb_S1536x2048_S1536x256_0_768 shapeCasts_S1536x256_S1x1536x256 x
  rcases List.mem_cons.mp hp with rfl | hp
  · exact fun x => outPiece acc 2 512 rfl inb_S8x1536x256_S1x1536x256_2_0_0 inb_S1536x2048_S1536x256_0_512 shapeCasts_S1536x256_S1x1536x256 x
  rcases List.mem_cons.mp hp with rfl | hp
  · exact fun x => outPiece acc 1 256 rfl inb_S8x1536x256_S1x1536x256_1_0_0 inb_S1536x2048_S1536x256_0_256 shapeCasts_S1536x256_S1x1536x256 x
  rcases List.mem_cons.mp hp with rfl | hp
  · exact fun x => outPiece acc 0 0 rfl inb_S8x1536x256_S1x1536x256_0_0_0 inb_S1536x2048_S1536x256_0_0 shapeCasts_S1536x256_S1x1536x256 x
  exact absurd hp List.not_mem_nil

/-! ## One step -/

/-- A store into the top rows of the accumulator: the new value there, the old one below. -/
theorem store_apply (M : ℕ) (inb : ∀ a, (![0, 0] : Fin 2 → ℕ) a + (![M, 2048] : Fin 2 → ℕ) a ≤ S1536x2048.size a)
    (acc : S1536x2048.Idx → EReal) (pay : (⟨2, ![M, 2048]⟩ : Shape).Idx → EReal) (C : S1536x2048.Idx → EReal)
    (hpay : ∀ (r : Fin M) (j : Fin 2048) (hr : r.val < 1536), pay (ix2 r j) = C (ix2 (⟨r.val, hr⟩ : Fin 1536) j)) (r : Fin 1536) (j : Fin 2048) :
    accM.view.writes (Elt Ideal) acc [⟨Rect.unit (s := S1536x2048) ![0, 0] ![M, 2048] inb, pay⟩] (ix2 r j) = if r.val < M then C (ix2 r j) else acc (ix2 r j) := by
  by_cases hr : r.val < M
  · rw [if_pos hr]
    have e : (ix2 r j : S1536x2048.Idx) = (Rect.unit (s := S1536x2048) ![0, 0] ![M, 2048] inb).emb (ix2 (⟨r.val, hr⟩ : Fin M) j) := by
      funext a; apply Fin.ext
      match a with
      | ⟨0, _⟩ => show r.val = 0 + 1 * r.val; omega
      | ⟨1, _⟩ => show j.val = 0 + 1 * j.val; omega
    have h := View.read_writes_cons_emb (Val := Elt Ideal) accM.view acc (Rect.unit (s := S1536x2048) ![0, 0] ![M, 2048] inb) pay [] (ix2 (⟨r.val, hr⟩ : Fin M) j)
    rw [← e] at h
    exact h.trans (hpay ⟨r.val, hr⟩ j r.isLt)
  · rw [if_neg hr]
    have hn : (ix2 r j : S1536x2048.Idx) ∉ (Finset.univ : Finset (⟨2, ![M, 2048]⟩ : Shape).Idx).map (Rect.unit (s := S1536x2048) ![0, 0] ![M, 2048] inb).emb := by
      intro hm
      obtain ⟨x, -, hx⟩ := Finset.mem_map.mp hm
      have h0 := congrArg (fun i : S1536x2048.Idx => (i 0).val) hx
      have h1 : 0 + 1 * (x 0).val = r.val := h0
      have h2 : (x 0).val < M := (x 0).isLt
      omega
    have h := View.read_slice_write_of_not_mem (v := accM.view) (Val := Elt Ideal) (Rect.unit (s := S1536x2048) ![0, 0] ![M, 2048] inb) acc pay Finset.univ hn
    exact h

/-- A load of the top rows. -/
theorem load_top (e : EltTy) (v : Memref sig .tc .vmem S1536x2048 e) (M : ℕ) (inb : ∀ a, (![0, 0] : Fin 2 → ℕ) a + (![M, 2048] : Fin 2 → ℕ) a ≤ S1536x2048.size a)
    (r : Fin M) (j : Fin 2048) (hr : r.val < 1536) :
    (Rect.unit (s := S1536x2048) ![0, 0] ![M, 2048] inb).toLoadRect.idx (ix2 r j) = (ix2 (⟨r.val, hr⟩ : Fin 1536) j : S1536x2048.Idx) := by
  funext a; apply Fin.ext
  match a with
  | ⟨0, _⟩ => show 0 + 1 * r.val = r.val; omega
  | ⟨1, _⟩ => show 0 + 1 * j.val = j.val; omega

/-- One step at an element: the rows up to the count of groups take their part, the others stay. -/
theorem accStep_apply (k : ℕ) (hk : k ≤ 6) (hb : S1536x2048.Idx → EReal) (x1 x2 : S1x2048x256.Idx → EReal) (x3 : S1x256x2048.Idx → EReal)
    (acc : S1536x2048.Idx → EReal) (r : Fin 1536) (j : Fin 2048) :
    accStep (F := Ideal) k hb x1 x2 x3 acc (ix2 r j) = if r.val < 256 * k then acc (ix2 r j) + part (fun k => hb (ix2 r k)) x1 x2 x3 j else acc (ix2 r j) := by
  have key : ∀ (M : ℕ) (inb : ∀ a, (![0, 0] : Fin 2 → ℕ) a + (![M, 2048] : Fin 2 → ℕ) a ≤ S1536x2048.size a) (pay : (⟨2, ![M, 2048]⟩ : Shape).Idx → EReal)
      (_ : ∀ (r : Fin M) (j : Fin 2048), pay (ix2 r j)
        = View.readAt (Elt Ideal) accM.view (Rect.unit (s := S1536x2048) ![0, 0] ![M, 2048] inb).toLoadRect acc (ix2 r j)
          + part (fun k => View.readAt (Elt Ideal) rowM.view (Rect.unit (s := S1536x2048) ![0, 0] ![M, 2048] inb).toLoadRect hb (ix2 r k)) x1 x2 x3 j),
      accM.view.writes (Elt Ideal) acc [⟨Rect.unit (s := S1536x2048) ![0, 0] ![M, 2048] inb, pay⟩] (ix2 r j)
        = if r.val < M then acc (ix2 r j) + part (fun k => hb (ix2 r k)) x1 x2 x3 j else acc (ix2 r j) := by
    intro M inb pay hpay
    refine store_apply M inb acc pay (fun i => acc i + part (fun k => hb (ix2 (⟨(i 0).val, (i 0).isLt⟩ : Fin 1536) k)) x1 x2 x3 (⟨(i 1).val, (i 1).isLt⟩ : Fin 2048)) ?_ r j
    intro r j hr
    refine (hpay r j).trans ?_
    have ha : View.readAt (Elt Ideal) accM.view (Rect.unit (s := S1536x2048) ![0, 0] ![M, 2048] inb).toLoadRect acc (ix2 r j) = acc (ix2 (⟨r.val, hr⟩ : Fin 1536) j) :=
      congrArg acc (load_top .f32 accM M inb r j hr)
    have hh : ∀ k, View.readAt (Elt Ideal) rowM.view (Rect.unit (s := S1536x2048) ![0, 0] ![M, 2048] inb).toLoadRect hb (ix2 r k) = hb (ix2 (⟨r.val, hr⟩ : Fin 1536) k) := fun k =>
      congrArg hb (load_top .bf16 rowM M inb r k hr)
    rw [ha, funext hh]
  match k, hk with
  | 0, _ => rw [if_neg (by omega)]; rfl
  | 1, _ => exact key 256 inb_S1536x2048_S256x2048_0_0 _ fun r j => step_value 256 _ x1 x2 x3 _ shapeCasts_S1x2048x256_S2048x256 shapeCasts_S1x256x2048_S256x2048 shapeCasts_S256x2048_S256x2048 bitsLt_bf16_f32 r j _ _ rfl rfl
  | 2, _ => exact key 512 inb_S1536x2048_S512x2048_0_0 _ fun r j => step_value 512 _ x1 x2 x3 _ shapeCasts_S1x2048x256_S2048x256 shapeCasts_S1x256x2048_S256x2048 shapeCasts_S512x2048_S512x2048 bitsLt_bf16_f32 r j _ _ rfl rfl
  | 3, _ => exact key 768 inb_S1536x2048_S768x2048_0_0 _ fun r j => step_value 768 _ x1 x2 x3 _ shapeCasts_S1x2048x256_S2048x256 shapeCasts_S1x256x2048_S256x2048 shapeCasts_S768x2048_S768x2048 bitsLt_bf16_f32 r j _ _ rfl rfl
  | 4, _ => exact key 1024 inb_S1536x2048_S1024x2048_0_0 _ fun r j => step_value 1024 _ x1 x2 x3 _ shapeCasts_S1x2048x256_S2048x256 shapeCasts_S1x256x2048_S256x2048 shapeCasts_S1024x2048_S1024x2048 bitsLt_bf16_f32 r j _ _ rfl rfl
  | 5, _ => exact key 1280 inb_S1536x2048_S1280x2048_0_0 _ fun r j => step_value 1280 _ x1 x2 x3 _ shapeCasts_S1x2048x256_S2048x256 shapeCasts_S1x256x2048_S256x2048 shapeCasts_S1280x2048_S1280x2048 bitsLt_bf16_f32 r j _ _ rfl rfl
  | 6, _ => exact key 1536 inb_S1536x2048_S1536x2048_0_0 _ fun r j => step_value 1536 _ x1 x2 x3 _ shapeCasts_S1x2048x256_S2048x256 shapeCasts_S1x256x2048_S256x2048 shapeCasts_S1536x2048_S1536x2048 bitsLt_bf16_f32 r j _ _ rfl rfl

end Cert.Proof.Experts

end
-- ==== Proof.ExpertsTiles.lean ====
/-
  The experts call over the extended reals, tile by tile: the blocks as parts of the arrays, the accumulator after each step of a
  used tile, and the result's array.
-/
module

public import proofs.«01_k».proof.Proof.ExpertsValue

@[expose] public section

set_option maxRecDepth 16384

noncomputable section

namespace Cert.Proof.Experts

open Cert.ExpertsIdeal Cert.ExpertsIdeal.Gen
open Idealize.ShloMosaic
open Idealize.ShloMosaic.TcCoe Idealize.ShloMosaic.Tactic
open Idealize.SL Idealize.SL.Sem
open Idealize.ShloMosaic.Pipeline (Dat Cfg Window)
open Idealize.ShloMosaic.ValueIdx
open scoped BigOperators

variable (m : (ℓ : Loc nD τ sig) → Buf (Elt Ideal) ℓ) (ρ : Dev nD → PrngReg)
variable {T0 : S29.Idx → BitVec 32} {T1 : S1.Idx → BitVec 32} {T2 : S29.Idx → BitVec 32} (hT : InRange T0 T1 T2)

/-- The hidden rows, and the three weight arrays, as they are at the start. -/
abbrev argX (c : Dev nD) : A3 8 44544 256 := m ((c.tc : Thread nD τ).loc main_arg0)
abbrev argG (c : Dev nD) : A3 8 2048 7168 := m ((c.tc : Thread nD τ).loc main_arg4)
abbrev argU (c : Dev nD) : A3 8 2048 7168 := m ((c.tc : Thread nD τ).loc main_arg5)
abbrev argD (c : Dev nD) : A3 8 7168 2048 := m ((c.tc : Thread nD τ).loc main_arg6)

/-- A tile's expert. -/
def expOf (hT : InRange T0 T1 T2) (M : Fin 29) : Fin 8 := ⟨(T0 (ix1 M)).toNat, hT.te _⟩
/-- A tile's row. -/
def rowOf (M : Fin 29) (r : Fin 1536) : Fin 44544 := ⟨1536 * M.val + r.val, by omega⟩

theorem tile_eq (t : Fin (cfgOf (F := Ideal) hT).N) (M : Fin 29) (hM : t.val / 28 = M.val) : tileIx (crd (F := Ideal) hT t) = ix1 M := by
  funext a; apply Fin.ext
  match a with
  | ⟨0, _⟩ => exact (crd_0 (F := Ideal) hT t).trans hM

/-! ## The blocks -/

section
variable (c : Dev nD) (t : Fin (cfgOf (F := Ideal) hT).N) (M : Fin 29) (hM : t.val / 28 = M.val) (hu : M.val < (T1 one1).toNat)
include hM hu

theorem iblk_0 (p : Fin 8) (r : Fin 1536) (q : Fin 256) :
    iblk (F := Ideal) m ρ hT c (0 : Fin 5) t (ix3 p r q : S8x1536x256.Idx) = argX m c (ix3 p (rowOf M r) q) := by
  have hix : ((cfgOf (F := Ideal) hT).win (0 : Fin 5)).index t = ![0, M.val, 0] := by
    refine (ix_0 (F := Ideal) hT (crd (F := Ideal) hT t)).trans ?_
    rw [crd_0 (F := Ideal) hT t, hM, Nat.min_eq_left (by omega)]
  show argX m c ((((cfgOf (F := Ideal) hT).win (0 : Fin 5)).rect t).emb (ix3 p r q : S8x1536x256.Idx)) = _
  refine congrArg (argX m c) ?_
  funext a; apply Fin.ext
  refine (Window.rect_emb_val ((cfgOf (F := Ideal) hT).win (0 : Fin 5)) t (ix3 p r q : S8x1536x256.Idx) a).trans ?_
  rw [hix]
  match a with
  | ⟨0, _⟩ => show 0 * 8 + p.val = p.val; omega
  | ⟨1, _⟩ => show M.val * 1536 + r.val = 1536 * M.val + r.val; omega
  | ⟨2, _⟩ => show 0 * 256 + q.val = q.val; omega

theorem iblk_1 (k : Fin 2048) (n : Fin 256) (hn : 256 * (t.val % 28) + n.val < 7168) :
    iblk (F := Ideal) m ρ hT c (1 : Fin 5) t (ix3 (0 : Fin 1) k n : S1x2048x256.Idx) = argG m c (ix3 (expOf hT M) k (⟨256 * (t.val % 28) + n.val, hn⟩ : Fin 7168)) := by
  have hix : ((cfgOf (F := Ideal) hT).win (1 : Fin 5)).index t = ![(T0 (ix1 M)).toNat, 0, t.val % 28] := by
    refine (ix_1 (F := Ideal) hT (crd (F := Ideal) hT t)).trans ?_
    rw [crd_0 (F := Ideal) hT t, crd_1 (F := Ideal) hT t, hM, if_pos hu, tile_eq hT t M hM]
  show argG m c ((((cfgOf (F := Ideal) hT).win (1 : Fin 5)).rect t).emb (ix3 (0 : Fin 1) k n : S1x2048x256.Idx)) = _
  refine congrArg (argG m c) ?_
  funext a; apply Fin.ext
  refine (Window.rect_emb_val ((cfgOf (F := Ideal) hT).win (1 : Fin 5)) t (ix3 (0 : Fin 1) k n : S1x2048x256.Idx) a).trans ?_
  rw [hix]
  match a with
  | ⟨0, _⟩ => show (T0 (ix1 M)).toNat * 1 + 0 = (T0 (ix1 M)).toNat; omega
  | ⟨1, _⟩ => show 0 * 2048 + k.val = k.val; omega
  | ⟨2, _⟩ => show t.val % 28 * 256 + n.val = 256 * (t.val % 28) + n.val; omega

theorem iblk_2 (k : Fin 2048) (n : Fin 256) (hn : 256 * (t.val % 28) + n.val < 7168) :
    iblk (F := Ideal) m ρ hT c (2 : Fin 5) t (ix3 (0 : Fin 1) k n : S1x2048x256.Idx) = argU m c (ix3 (expOf hT M) k (⟨256 * (t.val % 28) + n.val, hn⟩ : Fin 7168)) := by
  have hix : ((cfgOf (F := Ideal) hT).win (2 : Fin 5)).index t = ![(T0 (ix1 M)).toNat, 0, t.val % 28] := by
    refine (ix_2 (F := Ideal) hT (crd (F := Ideal) hT t)).trans ?_
    rw [crd_0 (F := Ideal) hT t, crd_1 (F := Ideal) hT t, hM, if_pos hu, tile_eq hT t M hM]
  show argU m c ((((cfgOf (F := Ideal) hT).win (2 : Fin 5)).rect t).emb (ix3 (0 : Fin 1) k n : S1x2048x256.Idx)) = _
  refine congrArg (argU m c) ?_
  funext a; apply Fin.ext
  refine (Window.rect_emb_val ((cfgOf (F := Ideal) hT).win (2 : Fin 5)) t (ix3 (0 : Fin 1) k n : S1x2048x256.Idx) a).trans ?_
  rw [hix]
  match a with
  | ⟨0, _⟩ => show (T0 (ix1 M)).toNat * 1 + 0 = (T0 (ix1 M)).toNat; omega
  | ⟨1, _⟩ => show 0 * 2048 + k.val = k.val; omega
  | ⟨2, _⟩ => show t.val % 28 * 256 + n.val = 256 * (t.val % 28) + n.val; omega

theorem iblk_3 (j : Fin 2048) (n : Fin 256) (hn : 256 * (t.val % 28) + n.val < 7168) :
    iblk (F := Ideal) m ρ hT c (3 : Fin 5) t (ix3 (0 : Fin 1) n j : S1x256x2048.Idx) = argD m c (ix3 (expOf hT M) (⟨256 * (t.val % 28) + n.val, hn⟩ : Fin 7168) j) := by
  have hix : ((cfgOf (F := Ideal) hT).win (3 : Fin 5)).index t = ![(T0 (ix1 M)).toNat, t.val % 28, 0] := by
    refine (ix_3 (F := Ideal) hT (crd (F := Ideal) hT t)).trans ?_
    rw [crd_0 (F := Ideal) hT t, crd_1 (F := Ideal) hT t, hM, if_pos hu, tile_eq hT t M hM]
  show argD m c ((((cfgOf (F := Ideal) hT).win (3 : Fin 5)).rect t).emb (ix3 (0 : Fin 1) n j : S1x256x2048.Idx)) = _
  refine congrArg (argD m c) ?_
  funext a; apply Fin.ext
  refine (Window.rect_emb_val ((cfgOf (F := Ideal) hT).win (3 : Fin 5)) t (ix3 (0 : Fin 1) n j : S1x256x2048.Idx) a).trans ?_
  rw [hix]
  match a with
  | ⟨0, _⟩ => show (T0 (ix1 M)).toNat * 1 + 0 = (T0 (ix1 M)).toNat; omega
  | ⟨1, _⟩ => show t.val % 28 * 256 + n.val = 256 * (t.val % 28) + n.val; omega
  | ⟨2, _⟩ => show 0 * 2048 + j.val = j.val; omega

/-- The tile's rows, those past its count zero. -/
theorem rows_value (r : Fin 1536) (k : Fin 2048) :
    rowsN (F := Ideal) m ρ hT c t.val (ix2 r k : S1536x2048.Idx) = if r.val < cnt (T2 (ix1 M)) then hrow (argX m c) (rowOf M r) k else 0 := by
  have ht : t.val < 812 := Nat.lt_of_lt_of_eq t.isLt N_0
  unfold rowsN
  generalize hs : ptN (F := Ideal) hT (28 * (t.val / 28)) = s
  have hsv : s.val = 28 * (t.val / 28) := by
    rw [← hs]; show min _ 811 = _; omega
  have hsM : s.val / 28 = M.val := by omega
  rw [tile_eq hT s M hsM, rowsOf_eq _]
  unfold rowsG
  refine if_congr Iff.rfl ?_ rfl
  exact iblk_0 m ρ hT c s M hsM hu _ _ _

/-- What a step adds. -/
theorem part_value (r : Fin 1536) (j : Fin 2048) :
    part (fun k => rowsN (F := Ideal) m ρ hT c t.val (ix2 r k : S1536x2048.Idx)) (iblk (F := Ideal) m ρ hT c (1 : Fin 5) t) (iblk (F := Ideal) m ρ hT c (2 : Fin 5) t) (iblk (F := Ideal) m ρ hT c (3 : Fin 5) t) j
      = if r.val < cnt (T2 (ix1 M)) then ∑ n : Fin 256, termN (argX m c) (argG m c) (argU m c) (argD m c) (expOf hT M) (rowOf M r) j (256 * (t.val % 28) + n.val) else 0 := by
  by_cases hr : r.val < cnt (T2 (ix1 M))
  · rw [if_pos hr]
    have e : (fun k => rowsN (F := Ideal) m ρ hT c t.val (ix2 r k : S1536x2048.Idx)) = hrow (argX m c) (rowOf M r) := by
      funext k
      rw [rows_value m ρ hT c t M hM hu, if_pos hr]
    rw [e]
    unfold part
    refine Finset.sum_congr rfl fun n _ => ?_
    have hn : 256 * (t.val % 28) + n.val < 7168 := by omega
    rw [termN, dif_pos hn, iblk_3 m ρ hT c t M hM hu j n hn]
    unfold term proj
    congr 2
    · exact Finset.sum_congr rfl fun k _ => by rw [iblk_1 m ρ hT c t M hM hu k n hn]
    · exact Finset.sum_congr rfl fun k _ => by rw [iblk_2 m ρ hT c t M hM hu k n hn]
  · rw [if_neg hr]
    have e : (fun k => rowsN (F := Ideal) m ρ hT c t.val (ix2 r k : S1536x2048.Idx)) = fun _ => 0 := by
      funext k
      rw [rows_value m ρ hT c t M hM hu, if_neg hr]
    rw [e, part_zero]

end

/-! ## The accumulator -/

/-- One step of a used tile, from what the accumulator held. -/
theorem acc_step (c : Dev nD) (t : Fin (cfgOf (F := Ideal) hT).N) (M : Fin 29) (hM : t.val / 28 = M.val) (hu : M.val < (T1 one1).toNat)
    (r : Fin 1536) (j : Fin 2048) (prev : S1536x2048.Idx → EReal) (f : ℕ) (hf : t.val % 28 = f)
    (hprev : prev (ix2 r j) = if r.val < cnt (T2 (ix1 M)) then ∑ n ∈ Finset.range (256 * f), termN (argX m c) (argG m c) (argU m c) (argD m c) (expOf hT M) (rowOf M r) j n else 0)
    (h : accN (F := Ideal) m ρ hT c t.val = accStep (F := Ideal) (kk hT t) (rowsN m ρ hT c t.val) (iblk m ρ hT c (1 : Fin 5) t) (iblk m ρ hT c (2 : Fin 5) t) (iblk m ρ hT c (3 : Fin 5) t) prev) :
    accN (F := Ideal) m ρ hT c t.val (ix2 r j : S1536x2048.Idx)
      = if r.val < cnt (T2 (ix1 M)) then ∑ n ∈ Finset.range (256 * (f + 1)), termN (argX m c) (argG m c) (argU m c) (argD m c) (expOf hT M) (rowOf M r) j n else 0 := by
  have hk : kk (F := Ideal) hT t = (cnt (T2 (ix1 M)) + 255) / 256 := by unfold kk; rw [tile_eq hT t M hM]
  rw [h]
  refine (accStep_apply (kk (F := Ideal) hT t) (kk_le hT t) _ _ _ _ _ r j).trans ?_
  rw [part_value m ρ hT c t M hM hu, hprev, hf]
  by_cases hr : r.val < cnt (T2 (ix1 M))
  · rw [if_pos (by rw [hk]; omega), if_pos hr, if_pos hr, if_pos hr]
    exact sum_piece _ f
  · rw [if_neg hr, if_neg hr, if_neg hr]
    split
    · exact add_zero 0
    · rfl

/-- The accumulator after step `f` of a used tile. -/
theorem acc_value (c : Dev nD) (M : Fin 29) (hu : M.val < (T1 one1).toNat) (r : Fin 1536) (j : Fin 2048) (f : ℕ) (hf : f < 28) :
    accN (F := Ideal) m ρ hT c (28 * M.val + f) (ix2 r j : S1536x2048.Idx)
      = if r.val < cnt (T2 (ix1 M)) then ∑ n ∈ Finset.range (256 * (f + 1)), termN (argX m c) (argG m c) (argU m c) (argD m c) (expOf hT M) (rowOf M r) j n else 0 := by
  induction f with
  | zero =>
    have hN : 28 * M.val + 0 < (cfgOf (F := Ideal) hT).N := by rw [show (cfgOf (F := Ideal) hT).N = 812 from N_0]; omega
    have hmod : (28 * M.val + 0) % 28 = 0 := by omega
    refine acc_step m ρ hT c ⟨28 * M.val + 0, hN⟩ M (by show (28 * M.val + 0) / 28 = M.val; omega) hu r j (k0_pay6 (F := Ideal)) 0 hmod ?_ ?_
    · have e : k0_pay6 (F := Ideal) (ix2 r j) = 0 := Ideal.ofBits_zero_f32
      rw [e, Nat.mul_zero, Finset.range_zero, Finset.sum_empty, ite_self]
    · rw [rowsN_first m ρ hT c ⟨28 * M.val + 0, hN⟩ hmod]
      exact accN_first m ρ hT c ⟨28 * M.val + 0, hN⟩ hmod
  | succ f ih =>
    have hN : 28 * M.val + (f + 1) < (cfgOf (F := Ideal) hT).N := by rw [show (cfgOf (F := Ideal) hT).N = 812 from N_0]; omega
    have hmod : (28 * M.val + (f + 1)) % 28 = f + 1 := by omega
    have hne : ¬(28 * M.val + (f + 1)) % 28 = 0 := by omega
    refine acc_step m ρ hT c ⟨28 * M.val + (f + 1), hN⟩ M (by show (28 * M.val + (f + 1)) / 28 = M.val; omega) hu r j (accN (F := Ideal) m ρ hT c (28 * M.val + f)) (f + 1) hmod (ih (by omega)) ?_
    rw [rowsN_next m ρ hT c ⟨28 * M.val + (f + 1), hN⟩ hne]
    exact accN_next m ρ hT c ⟨28 * M.val + (f + 1), hN⟩ hne

/-! ## The result -/

/-- The wanted result: a valid row of a tile through the tile's expert, zero at the other rows. -/
def want (X : A3 8 44544 256) (Wg Wu : A3 8 2048 7168) (Wd : A3 8 7168 2048) (hT : InRange T0 T1 T2) (p : Fin 8) (M : Fin 29) (r : Fin 1536) (q : Fin 256) : EReal :=
  if r.val < cnt (T2 (ix1 M)) then expert X Wg Wu Wd (expOf hT M) (rowOf M r) (⟨256 * p.val + q.val, by omega⟩ : Fin 2048) else 0

/-- A used tile's block of the result. -/
theorem out_value (c : Dev nD) (M : Fin 29) (hu : M.val < (T1 one1).toNat) (p : Fin 8) (r : Fin 1536) (q : Fin 256) :
    outN (F := Ideal) m ρ hT c (28 * M.val + 27) (ix3 p r q : S8x1536x256.Idx) = want (argX m c) (argG m c) (argU m c) (argD m c) hT p M r q := by
  unfold outN
  rw [outOf_eq]
  refine (acc_value m ρ hT c M hu r (⟨256 * p.val + q.val, by omega⟩ : Fin 2048) 27 (by omega)).trans ?_
  unfold want
  rw [show 256 * (27 + 1) = 7168 by omega, expert_eq]

/-- The wanted result as an array. -/
def wantA (X : A3 8 44544 256) (Wg Wu : A3 8 2048 7168) (Wd : A3 8 7168 2048) (hT : InRange T0 T1 T2) : A3 8 44544 256 := fun i =>
  want X Wg Wu Wd hT (⟨(i 0).val, (i 0).isLt⟩ : Fin 8) (⟨(i 1).val / 1536, by have : (i 1).val < 44544 := (i 1).isLt; omega⟩ : Fin 29)
    (⟨(i 1).val % 1536, by omega⟩ : Fin 1536) (⟨(i 2).val, (i 2).isLt⟩ : Fin 256)

/-- The tile of the result's block at a point. -/
theorem index_4 (t : Fin (cfgOf (F := Ideal) hT).N) : ((cfgOf (F := Ideal) hT).win (4 : Fin 5)).index t = ![0, min (t.val / 28) ((T1 one1).toNat - 1), 0] := by
  refine (ix_4 (F := Ideal) hT (crd (F := Ideal) hT t)).trans ?_
  rw [crd_0 (F := Ideal) hT t]

/-- An element of that block in the array. -/
theorem emb_4 (t : Fin (cfgOf (F := Ideal) hT).N) (M : Fin 29) (hM : min (t.val / 28) ((T1 one1).toNat - 1) = M.val) (p : Fin 8) (r : Fin 1536) (q : Fin 256) :
    (((cfgOf (F := Ideal) hT).win (4 : Fin 5)).rect t).emb (ix3 p r q : S8x1536x256.Idx) = (ix3 p (rowOf M r) q : S8x44544x256.Idx) := by
  funext a; apply Fin.ext
  refine (Window.rect_emb_val ((cfgOf (F := Ideal) hT).win (4 : Fin 5)) t (ix3 p r q : S8x1536x256.Idx) a).trans ?_
  rw [index_4, hM]
  match a with
  | ⟨0, _⟩ => show 0 * 8 + p.val = p.val; omega
  | ⟨1, _⟩ => show M.val * 1536 + r.val = 1536 * M.val + r.val; omega
  | ⟨2, _⟩ => show 0 * 256 + q.val = q.val; omega

theorem wantA_apply (X : A3 8 44544 256) (Wg Wu : A3 8 2048 7168) (Wd : A3 8 7168 2048) (p : Fin 8) (M : Fin 29) (r : Fin 1536) (q : Fin 256) :
    wantA X Wg Wu Wd hT (ix3 p (rowOf M r) q) = want X Wg Wu Wd hT p M r q := by
  have hr := r.isLt
  have e1 : (1536 * M.val + r.val) / 1536 = M.val := by omega
  have e2 : (1536 * M.val + r.val) % 1536 = r.val := by omega
  show want X Wg Wu Wd hT p ⟨(1536 * M.val + r.val) / 1536, _⟩ ⟨(1536 * M.val + r.val) % 1536, _⟩ q = _
  congr 1
  · exact Fin.ext e1
  · exact Fin.ext e2

/-- A written-back block is the last one stored. -/
theorem last_of_flush (t : Fin (cfgOf (F := Ideal) hT).N) (hf : ((cfgOf (F := Ideal) hT).win (4 : Fin 5)).flush t = true) :
    lastN T1 t.val = 28 * min (t.val / 28) ((T1 one1).toNat - 1) + 27 := by
  have ht : t.val < 812 := Nat.lt_of_lt_of_eq t.isLt N_0
  have hn := hT.nu1
  unfold lastN
  by_cases h1 : t.val + 1 < 812
  · by_cases h : min (t.val / 28) ((T1 one1).toNat - 1) = min ((t.val + 1) / 28) ((T1 one1).toNat - 1)
    · rw [flush_4_false (F := Ideal) hT t h1 h] at hf; exact absurd hf Bool.false_ne_true
    · omega
  · omega

/-- Every written-back element is the wanted one. -/
theorem result_value (c : Dev nD) (p : Fin 8) (M : Fin 29) (hu : M.val < (T1 one1).toNat) (r : Fin 1536) (q : Fin 256) :
    (dats (F := Ideal) m ρ hT 0 c).arrAt (4 : Fin 5) (cfgOf (F := Ideal) hT).N (ix3 p (rowOf M r) q : S8x44544x256.Idx)
      = want (argX m c) (argG m c) (argU m c) (argD m c) hT p M r q := by
  have hn1 := hT.nu1
  have key : ∃ t : Fin (cfgOf (F := Ideal) hT).N, ((cfgOf (F := Ideal) hT).win (4 : Fin 5)).flush t = true ∧ min (t.val / 28) ((T1 one1).toNat - 1) = M.val := by
    by_cases hl : M.val < (T1 one1).toNat - 1 ∧ M.val < 28
    · refine ⟨⟨28 * M.val + 27, by rw [show (cfgOf (F := Ideal) hT).N = 812 from N_0]; omega⟩, ?_, by show min ((28 * M.val + 27) / 28) _ = _; omega⟩
      refine (((cfgOf (F := Ideal) hT).win (4 : Fin 5)).flush_out rfl _).mpr (Or.inr ⟨by show 28 * M.val + 27 + 1 < (cfgOf (F := Ideal) hT).N; rw [show (cfgOf (F := Ideal) hT).N = 812 from N_0]; omega, ?_⟩)
      intro e
      rw [index_4, index_4] at e
      have e1 : min ((28 * M.val + 27 + 1) / 28) ((T1 one1).toNat - 1) = min ((28 * M.val + 27) / 28) ((T1 one1).toNat - 1) := by
        first
          | exact congrFun e 1
          | exact (congrFun e 1).symm
      omega
    · refine ⟨⟨811, by rw [show (cfgOf (F := Ideal) hT).N = 812 from N_0]; omega⟩, ?_, by show min (811 / 28) _ = _; omega⟩
      exact (((cfgOf (F := Ideal) hT).win (4 : Fin 5)).flush_out rfl _).mpr (Or.inl (by show 811 + 1 = (cfgOf (F := Ideal) hT).N; rw [show (cfgOf (F := Ideal) hT).N = 812 from N_0]))
  obtain ⟨t, hf, hM⟩ := key
  have h := (dats (F := Ideal) m ρ hT 0 c).arrAt_forall_of_flushed (4 : Fin 5)
    (fun i v => v = wantA (argX m c) (argG m c) (argU m c) (argD m c) hT i) (by
      intro s hs y
      have hs8 : s.val < 812 := Nat.lt_of_lt_of_eq s.isLt N_0
      have hb : min (s.val / 28) ((T1 one1).toNat - 1) < 29 := by omega
      obtain ⟨p', r', q', rfl⟩ : ∃ (p' : Fin 8) (r' : Fin 1536) (q' : Fin 256), y = (ix3 p' r' q' : S8x1536x256.Idx) := ⟨y 0, y 1, y 2, eq_ix3 (y : S8x1536x256.Idx)⟩
      show outN (F := Ideal) m ρ hT c (lastN T1 s.val) (ix3 p' r' q' : S8x1536x256.Idx)
        = wantA (argX m c) (argG m c) (argU m c) (argD m c) hT ((((cfgOf (F := Ideal) hT).win (4 : Fin 5)).rect s).emb (ix3 p' r' q' : S8x1536x256.Idx))
      rw [last_of_flush hT s hs, emb_4 hT s ⟨_, hb⟩ rfl, wantA_apply]
      exact out_value m ρ hT c ⟨_, hb⟩ (by show min _ _ < _; omega) p' r' q')
    (cfgOf (F := Ideal) hT).N t (ix3 p (rowOf M r) q : S8x44544x256.Idx) t.isLt hf (by
      rw [← emb_4 hT t M hM p r q]
      exact View.emb_mem_set _ _)
  exact h.trans (wantA_apply hT _ _ _ _ p M r q)

end Cert.Proof.Experts

end
-- ==== Proof.ExpertsRef.lean ====
/-
  What the experts' reference computes, element by element, over the extended reals: the products, the gate of each expert, one
  expert's term, and the sum of the eight.
-/
module

public import proofs.«01_k».proof.Proof.ExpertsTiles
public import proofs.«01_k».proof.Proof.Gen.ExpertsReferenceIdeal.Run

@[expose] public section

set_option maxRecDepth 16384

noncomputable section

namespace Cert.Proof.Experts

open Cert.ExpertsReferenceIdeal Cert.ExpertsReferenceIdeal.Gen Cert.ExpertsReferenceIdeal.Value
open Idealize.ShloMosaic
open Idealize.ShloMosaic.TcCoe
open Idealize.ShloMosaic.StableHlo
open Idealize.SL.Sem
open Idealize.ShloMosaic.ValueIdx
open scoped BigOperators

/-- The product of every row of a stack by a matrix, at an index. -/
theorem rows_dot {G M K N : ℕ} {φ₁ φ₂ : FTy} (w : DotDims.WF ⟨3, ![G, M, K]⟩ ⟨2, ![K, N]⟩ ⟨3, ![G, M, N]⟩ [2] [0] [0, 1] [1] [] [])
    (A : FVec Ideal ⟨3, ![G, M, K]⟩ φ₁) (B : FVec Ideal ⟨2, ![K, N]⟩ φ₂) (g : Fin G) (a : Fin M) (b : Fin N) :
    Host.dotGeneral (⟨[2], [0], [0, 1], [1], [], [], w⟩ : DotDims ⟨3, ![G, M, K]⟩ ⟨2, ![K, N]⟩ ⟨3, ![G, M, N]⟩) none A B (ix3 g a b)
      = ∑ k : Fin K, A (ix3 g a k) * B (ix2 k b) := by
  show FloatOps.dotGeneral _ none _ A B (ix3 g a b) = _
  rw [Ideal.dotGeneral_apply, ← Equiv.sum_comp (contrEquiv1 (⟨[2], [0], [0, 1], [1], [], [], w⟩ : DotDims ⟨3, ![G, M, K]⟩ ⟨2, ![K, N]⟩ ⟨3, ![G, M, N]⟩) K rfl rfl).symm]
  refine Finset.sum_congr rfl fun c _ => ?_
  have hc := contrEquiv1_symm_val (⟨[2], [0], [0, 1], [1], [], [], w⟩ : DotDims ⟨3, ![G, M, K]⟩ ⟨2, ![K, N]⟩ ⟨3, ![G, M, N]⟩) K rfl rfl c
  have hl : (⟨[2], [0], [0, 1], [1], [], [], w⟩ : DotDims ⟨3, ![G, M, K]⟩ ⟨2, ![K, N]⟩ ⟨3, ![G, M, N]⟩).lhsIdx (ix3 g a b) ((contrEquiv1 _ K rfl rfl).symm c) = ix3 g a c := by
    funext x; apply Fin.ext
    match x with
    | ⟨0, _⟩ => simp [DotDims.lhsIdx]; rfl
    | ⟨1, _⟩ => simp [DotDims.lhsIdx]; rfl
    | ⟨2, _⟩ => simp [DotDims.lhsIdx]; exact hc
  have hr : (⟨[2], [0], [0, 1], [1], [], [], w⟩ : DotDims ⟨3, ![G, M, K]⟩ ⟨2, ![K, N]⟩ ⟨3, ![G, M, N]⟩).rhsIdx (ix3 g a b) ((contrEquiv1 _ K rfl rfl).symm c) = ix2 c b := by
    funext x; apply Fin.ext
    match x with
    | ⟨0, _⟩ => simp [DotDims.rhsIdx]; exact hc
    | ⟨1, _⟩ => simp [DotDims.rhsIdx]; rfl
  rw [hl, hr]

theorem dot_in (A : FVec Ideal S29x1536x2048 .f32) (B : FVec Ideal S2048x7168 .f32) (M : Fin 29) (r : Fin 1536) (n : Fin 7168) :
    Host.dotGeneral dot_S29x1536x2048_S2048x7168_S29x1536x7168_2_0_01_1_n_n none A B (ix3 M r n) = ∑ k : Fin 2048, A (ix3 M r k) * B (ix2 k n) :=
  rows_dot _ A B M r n
theorem dot_out (A : FVec Ideal S29x1536x7168 .f32) (B : FVec Ideal S7168x2048 .f32) (M : Fin 29) (r : Fin 1536) (j : Fin 2048) :
    Host.dotGeneral dot_S29x1536x7168_S7168x2048_S29x1536x2048_2_0_01_1_n_n none A B (ix3 M r j) = ∑ n : Fin 7168, A (ix3 M r n) * B (ix2 n j) :=
  rows_dot _ A B M r j

/-- One expert's matrix, cut out of the eight. -/
theorem cut_in (W : FVec Ideal S8x2048x7168 .f32) (e : ℕ) (he : e < 8) (hs : S8x2048x7168.Slices ![e, 0, 0] S1x2048x7168) (hc : S1x2048x7168.ShapeCasts S2048x7168) (k : Fin 2048) (n : Fin 7168) :
    (shapeCast S2048x7168 (extractStridedSlice S1x2048x7168 ![e, 0, 0] W hs : FVec Ideal S1x2048x7168 .f32) hc : FVec Ideal S2048x7168 .f32) (ix2 k n) = W (ix3 (⟨e, he⟩ : Fin 8) k n) :=
  (shapeCast_apply _ hc (ix2 k n) (ix3 (0 : Fin 1) k n) (by rw [Shape.rowMajor_val_three, Shape.rowMajor_val_two]; show (0 * 2048 + k.val) * 7168 + n.val = k.val * 7168 + n.val; omega)).trans
    (extractStridedSlice_apply _ W hs _ (ix3 (⟨e, he⟩ : Fin 8) k n) (fun a => match a with | ⟨0, _⟩ => rfl | ⟨1, _⟩ => (Nat.zero_add _).symm | ⟨2, _⟩ => (Nat.zero_add _).symm))
theorem cut_out (W : FVec Ideal S8x7168x2048 .f32) (e : ℕ) (he : e < 8) (hs : S8x7168x2048.Slices ![e, 0, 0] S1x7168x2048) (hc : S1x7168x2048.ShapeCasts S7168x2048) (n : Fin 7168) (j : Fin 2048) :
    (shapeCast S7168x2048 (extractStridedSlice S1x7168x2048 ![e, 0, 0] W hs : FVec Ideal S1x7168x2048 .f32) hc : FVec Ideal S7168x2048 .f32) (ix2 n j) = W (ix3 (⟨e, he⟩ : Fin 8) n j) :=
  (shapeCast_apply _ hc (ix2 n j) (ix3 (0 : Fin 1) n j) (by rw [Shape.rowMajor_val_three, Shape.rowMajor_val_two]; show (0 * 7168 + n.val) * 2048 + j.val = n.val * 2048 + j.val; omega)).trans
    (extractStridedSlice_apply _ W hs _ (ix3 (⟨e, he⟩ : Fin 8) n j) (fun a => match a with | ⟨0, _⟩ => rfl | ⟨1, _⟩ => (Nat.zero_add _).symm | ⟨2, _⟩ => (Nat.zero_add _).symm))

variable (V : Valuation τ sig (Elt Ideal))

/-- The arguments. -/
abbrev refX : A3 8 44544 256 := V (Proc.devRef .tc main_arg0)
abbrev refG : A3 8 2048 7168 := V (Proc.devRef .tc main_arg4)
abbrev refU : A3 8 2048 7168 := V (Proc.devRef .tc main_arg5)
abbrev refD : A3 8 7168 2048 := V (Proc.devRef .tc main_arg6)
abbrev refT0 : S29.Idx → BitVec 32 := V (Proc.devRef .tc main_arg1)
abbrev refT2 : S29.Idx → BitVec 32 := V (Proc.devRef .tc main_arg3)

/-- The hidden rows, tile by tile. -/
abbrev rowsR : FVec Ideal S29x1536x2048 .f32 := res_main_v2 V
theorem rows_ref (M : Fin 29) (r : Fin 1536) (k : Fin 2048) : rowsR V (ix3 M r k) = hrow (refX V) (rowOf M r) k := by
  unfold rowsR res_main_v2
  rw [extf_apply]
  refine (shapeCast_apply _ shapeCasts_S44544x8x256_S29x1536x2048 _ (ix3 (rowOf M r) (⟨k.val / 256, by omega⟩ : Fin 8) (⟨k.val % 256, by omega⟩ : Fin 256)) ?_).trans ?_
  · rw [Shape.rowMajor_val_three, Shape.rowMajor_val_three]
    show ((1536 * M.val + r.val) * 8 + k.val / 256) * 256 + k.val % 256 = (M.val * 1536 + r.val) * 2048 + k.val
    omega
  · exact transpose_apply [1, 0, 2] _ transposes_S8x44544x256_S44544x8x256_1_0_2 _ (ix3 (⟨k.val / 256, by omega⟩ : Fin 8) (rowOf M r) (⟨k.val % 256, by omega⟩ : Fin 256))
      (fun b => match b with | ⟨0, _⟩ => rfl | ⟨1, _⟩ => rfl | ⟨2, _⟩ => rfl)

/-- A projection. -/
theorem proj_ref (W : FVec Ideal S8x2048x7168 .f32) (e : ℕ) (he : e < 8) (hs : S8x2048x7168.Slices ![e, 0, 0] S1x2048x7168) (hc : S1x2048x7168.ShapeCasts S2048x7168) (M : Fin 29) (r : Fin 1536) (n : Fin 7168) :
    Host.dotGeneral dot_S29x1536x2048_S2048x7168_S29x1536x7168_2_0_01_1_n_n none (rowsR V)
        (shapeCast S2048x7168 (extractStridedSlice S1x2048x7168 ![e, 0, 0] W hs : FVec Ideal S1x2048x7168 .f32) hc : FVec Ideal S2048x7168 .f32) (ix3 M r n)
      = proj (refX V) W (⟨e, he⟩ : Fin 8) (rowOf M r) n := by
  refine (dot_in _ _ M r n).trans ?_
  exact Finset.sum_congr rfl fun k _ => by rw [rows_ref V, cut_in W e he hs hc]

/-- The gate of expert `e` at a row. -/
abbrev gateR (M : Fin 29) (r : Fin 1536) (e : Fin 8) : EReal := res_main_v18 V (ix3 M r e : S29x1536x8.Idx)

/-- It is one where the row's tile is that expert's and the row is one of its own, zero elsewhere. -/
theorem gate_ref (T1 : S1.Idx → BitVec 32) (hT : InRange (refT0 V) T1 (refT2 V)) (M : Fin 29) (r : Fin 1536) (e : Fin 8) :
    gateR V M r e = if expOf hT M = e ∧ r.val < cnt (refT2 V (ix1 M)) then (1 : EReal) else 0 := by
  have e1 : gateR V M r e
      = (((IntOp.andi (IntOp.cmpi .eq (refT0 V (ix1 M)) (BitVec.ofNat 32 e.val)) (IntOp.cmpi .slt (BitVec.ofNat 32 r.val) (refT2 V (ix1 M)))).toNat : ℝ) : EReal) := by
    unfold gateR res_main_v18 uitofp andi
    rw [broadcastInDim_apply _ bcast_S29x1x8_S29x1536x8_0_1_2 _ _ (ix3 M (0 : Fin 1) e) (fun a => match a with | ⟨0, _⟩ => rfl | ⟨1, _⟩ => rfl | ⟨2, _⟩ => rfl),
      broadcastInDim_apply _ bcast_S29x1536x1_S29x1536x8_0_1_2 _ _ (ix3 M r (0 : Fin 1)) (fun a => match a with | ⟨0, _⟩ => rfl | ⟨1, _⟩ => rfl | ⟨2, _⟩ => rfl)]
    unfold cmpi
    rw [broadcastInDim_apply _ bcast_S29x1x1_S29x1x8_0_1_2 _ _ (ix3 M (0 : Fin 1) (0 : Fin 1)) (fun a => match a with | ⟨0, _⟩ => rfl | ⟨1, _⟩ => rfl | ⟨2, _⟩ => rfl),
      broadcastInDim_apply _ bcast_S1x1x8_S29x1x8_0_1_2 _ _ (ix3 (0 : Fin 1) (0 : Fin 1) e) (fun a => match a with | ⟨0, _⟩ => rfl | ⟨1, _⟩ => rfl | ⟨2, _⟩ => rfl),
      broadcastInDim_apply _ bcast_S1x1536x1_S29x1536x1_0_1_2 _ _ (ix3 (0 : Fin 1) r (0 : Fin 1)) (fun a => match a with | ⟨0, _⟩ => rfl | ⟨1, _⟩ => rfl | ⟨2, _⟩ => rfl),
      broadcastInDim_apply _ bcast_S29x1x1_S29x1536x1_0_1_2 _ _ (ix3 M (0 : Fin 1) (0 : Fin 1)) (fun a => match a with | ⟨0, _⟩ => rfl | ⟨1, _⟩ => rfl | ⟨2, _⟩ => rfl),
      broadcastInDim_apply _ bcast_S29_S29x1x1_0 _ _ (ix1 M) (fun a => match a with | ⟨0, _⟩ => rfl),
      broadcastInDim_apply _ bcast_S29_S29x1x1_0 _ _ (ix1 M) (fun a => match a with | ⟨0, _⟩ => rfl)]
    rfl
  have h2 : IntOp.cmpi .slt (BitVec.ofNat 32 r.val) (refT2 V (ix1 M)) = 1#1 ↔ r.val < cnt (refT2 V (ix1 M)) := by
    exact row_lt r.val _ r.isLt
  have h1 : IntOp.cmpi .eq (refT0 V (ix1 M)) (BitVec.ofNat 32 e.val) = 1#1 ↔ expOf hT M = e := by
    show BitVec.ofBool (refT0 V (ix1 M) == BitVec.ofNat 32 e.val) = 1#1 ↔ _
    have hb : ∀ b : Bool, BitVec.ofBool b = 1#1 ↔ b = true := by decide
    rw [hb, beq_iff_eq, Fin.ext_iff]
    show _ ↔ (refT0 V (ix1 M)).toNat = e.val
    constructor
    · intro h; rw [h, BitVec.toNat_ofNat]; omega
    · intro h; rw [← h]; exact word_fin _ 8 (hT.te _)
  have bit : ∀ a b : BitVec 1, (IntOp.andi a b).toNat = if a = 1#1 ∧ b = 1#1 then 1 else 0 := by decide
  rw [e1, bit]
  by_cases h : expOf hT M = e ∧ r.val < cnt (refT2 V (ix1 M))
  · rw [if_pos h, if_pos ⟨h1.mpr h.1, h2.mpr h.2⟩]; simp
  · rw [if_neg h, if_neg fun h' => h ⟨h1.mp h'.1, h2.mp h'.2⟩]; simp

/-- One expert's term: its gate times its output. -/
theorem term_ref (e : ℕ) (he : e < 8) (h18 : S29x1536x8.Slices ![0, 0, e] S29x1536x1) (hs : S8x2048x7168.Slices ![e, 0, 0] S1x2048x7168) (hs' : S8x7168x2048.Slices ![e, 0, 0] S1x7168x2048)
    (hc : S1x2048x7168.ShapeCasts S2048x7168) (hc' : S1x7168x2048.ShapeCasts S7168x2048) (hb : S29x1536x1.BroadcastsInDim S29x1536x2048 (![0, 1, 2] : Fin 3 → Fin 3)) (h1 : S_.BroadcastsInDim S29x1536x7168 (![] : Fin 0 → Fin 3))
    (g : FVec Ideal S29x1536x7168 .f32)
    (hg : g = Host.dotGeneral dot_S29x1536x2048_S2048x7168_S29x1536x7168_2_0_01_1_n_n none (rowsR V) (shapeCast S2048x7168 (extractStridedSlice S1x2048x7168 ![e, 0, 0] (refG V : FVec Ideal S8x2048x7168 .f32) hs : FVec Ideal S1x2048x7168 .f32) hc : FVec Ideal S2048x7168 .f32))
    (M : Fin 29) (r : Fin 1536) (j : Fin 2048) :
    mulf (broadcastInDim S29x1536x2048 ![0, 1, 2] hb (extractStridedSlice S29x1536x1 ![0, 0, e] (res_main_v18 V) h18))
      (Host.dotGeneral dot_S29x1536x7168_S7168x2048_S29x1536x2048_2_0_01_1_n_n none
        (mulf (mulf g (Host.divf (broadcastInDim S29x1536x7168 ![] h1 (constant S_ .f32 0x3F800000#32)) (addf (broadcastInDim S29x1536x7168 ![] h1 (constant S_ .f32 0x3F800000#32)) (Host.exp (Host.negf g)))))
          (Host.dotGeneral dot_S29x1536x2048_S2048x7168_S29x1536x7168_2_0_01_1_n_n none (rowsR V) (shapeCast S2048x7168 (extractStridedSlice S1x2048x7168 ![e, 0, 0] (refU V : FVec Ideal S8x2048x7168 .f32) hs : FVec Ideal S1x2048x7168 .f32) hc : FVec Ideal S2048x7168 .f32)))
        (shapeCast S7168x2048 (extractStridedSlice S1x7168x2048 ![e, 0, 0] (refD V : FVec Ideal S8x7168x2048 .f32) hs' : FVec Ideal S1x7168x2048 .f32) hc' : FVec Ideal S7168x2048 .f32)) (ix3 M r j)
      = gateR V M r (⟨e, he⟩ : Fin 8) * expert (refX V) (refG V) (refU V) (refD V) (⟨e, he⟩ : Fin 8) (rowOf M r) j := by
  rw [mulf_apply]
  refine congrArg₂ (· * ·) ?_ ?_
  · exact (broadcastInDim_apply _ hb _ _ (ix3 M r (0 : Fin 1)) (fun a => match a with | ⟨0, _⟩ => rfl | ⟨1, _⟩ => rfl | ⟨2, _⟩ => rfl)).trans
      (extractStridedSlice_apply _ _ h18 _ (ix3 M r (⟨e, he⟩ : Fin 8)) (fun a => match a with | ⟨0, _⟩ => (Nat.zero_add _).symm | ⟨1, _⟩ => (Nat.zero_add _).symm | ⟨2, _⟩ => rfl))
  · refine (dot_out _ _ M r j).trans (Finset.sum_congr rfl fun n _ => ?_)
    unfold term
    rw [cut_out _ e he hs' hc', ← proj_ref V (refG V) e he hs hc, ← proj_ref V (refU V) e he hs hc, ← hg, mulf_apply]
    rfl

/-- The running sum from zero over the eight experts is the term of the tile's own. -/
theorem sum_ref (T1 : S1.Idx → BitVec 32) (hT : InRange (refT0 V) T1 (refT2 V)) (M : Fin 29) (r : Fin 1536) (x : Fin 8 → EReal) :
    ((((((((0 + gateR V M r 0 * x 0) + gateR V M r 1 * x 1) + gateR V M r 2 * x 2) + gateR V M r 3 * x 3) + gateR V M r 4 * x 4) + gateR V M r 5 * x 5) + gateR V M r 6 * x 6) + gateR V M r 7 * x 7)
      = if r.val < cnt (refT2 V (ix1 M)) then x (expOf hT M) else 0 := by
  have e : ((((((((0 + gateR V M r 0 * x 0) + gateR V M r 1 * x 1) + gateR V M r 2 * x 2) + gateR V M r 3 * x 3) + gateR V M r 4 * x 4) + gateR V M r 5 * x 5) + gateR V M r 6 * x 6) + gateR V M r 7 * x 7)
      = ∑ e : Fin 8, gateR V M r e * x e := by rw [Fin.sum_univ_eight, zero_add]
  rw [e]
  simp only [gate_ref V T1 hT M r]
  by_cases hr : r.val < cnt (refT2 V (ix1 M))
  · rw [if_pos hr, Finset.sum_eq_single (expOf hT M)]
    · rw [if_pos ⟨rfl, hr⟩, one_mul]
    · intro b _ hb; rw [if_neg fun h => hb h.1.symm, zero_mul]
    · intro h; exact absurd (Finset.mem_univ _) h
  · rw [if_neg hr]
    exact Finset.sum_eq_zero fun b _ => by rw [if_neg fun h => hr h.2, zero_mul]

/-- The sum of the first five experts' terms. -/
theorem five_ref (M : Fin 29) (r : Fin 1536) (j : Fin 2048) :
    (res_main_v94 V (ix3 M r j : S29x1536x2048.Idx) : EReal)
      = ((((0 + gateR V M r 0 * expert (refX V) (refG V) (refU V) (refD V) 0 (rowOf M r) j) + gateR V M r 1 * expert (refX V) (refG V) (refU V) (refD V) 1 (rowOf M r) j)
          + gateR V M r 2 * expert (refX V) (refG V) (refU V) (refD V) 2 (rowOf M r) j) + gateR V M r 3 * expert (refX V) (refG V) (refU V) (refD V) 3 (rowOf M r) j)
          + gateR V M r 4 * expert (refX V) (refG V) (refU V) (refD V) 4 (rowOf M r) j := by
  unfold res_main_v94
  rw [addf_apply, addf_apply, addf_apply, addf_apply, addf_apply]
  refine congrArg₂ (· + ·) (congrArg₂ (· + ·) (congrArg₂ (· + ·) (congrArg₂ (· + ·) (congrArg₂ (· + ·) ?_ ?_) ?_) ?_) ?_) ?_
  · exact Ideal.ofBits_zero_f32
  · exact term_ref V 0 (by omega) slices_S29x1536x8_S29x1536x1_0_0_0 slices_S8x2048x7168_S1x2048x7168_0_0_0 slices_S8x7168x2048_S1x7168x2048_0_0_0 shapeCasts_S1x2048x7168_S2048x7168 shapeCasts_S1x7168x2048_S7168x2048 bcast_S29x1536x1_S29x1536x2048_0_1_2 bcast_S_S29x1536x7168 _ rfl M r j
  · exact term_ref V 1 (by omega) slices_S29x1536x8_S29x1536x1_0_0_1 slices_S8x2048x7168_S1x2048x7168_1_0_0 slices_S8x7168x2048_S1x7168x2048_1_0_0 shapeCasts_S1x2048x7168_S2048x7168 shapeCasts_S1x7168x2048_S7168x2048 bcast_S29x1536x1_S29x1536x2048_0_1_2 bcast_S_S29x1536x7168 _ rfl M r j
  · exact term_ref V 2 (by omega) slices_S29x1536x8_S29x1536x1_0_0_2 slices_S8x2048x7168_S1x2048x7168_2_0_0 slices_S8x7168x2048_S1x7168x2048_2_0_0 shapeCasts_S1x2048x7168_S2048x7168 shapeCasts_S1x7168x2048_S7168x2048 bcast_S29x1536x1_S29x1536x2048_0_1_2 bcast_S_S29x1536x7168 _ rfl M r j
  · exact term_ref V 3 (by omega) slices_S29x1536x8_S29x1536x1_0_0_3 slices_S8x2048x7168_S1x2048x7168_3_0_0 slices_S8x7168x2048_S1x7168x2048_3_0_0 shapeCasts_S1x2048x7168_S2048x7168 shapeCasts_S1x7168x2048_S7168x2048 bcast_S29x1536x1_S29x1536x2048_0_1_2 bcast_S_S29x1536x7168 _ rfl M r j
  · exact term_ref V 4 (by omega) slices_S29x1536x8_S29x1536x1_0_0_4 slices_S8x2048x7168_S1x2048x7168_4_0_0 slices_S8x7168x2048_S1x7168x2048_4_0_0 shapeCasts_S1x2048x7168_S2048x7168 shapeCasts_S1x7168x2048_S7168x2048 bcast_S29x1536x1_S29x1536x2048_0_1_2 bcast_S_S29x1536x7168 _ rfl M r j

/-- The reference's result: the tile's own expert on the tile's own rows, zero on the others. -/
theorem run_experts_ref (m' : (ℓ : Loc nD τ sig) → Buf (Elt Ideal) ℓ) (ρ' : Dev nD → PrngReg) (T1 : S1.Idx → BitVec 32)
    (hT : ∀ c : Dev nD, InRange (refT0 (launchContents m' c)) T1 (refT2 (launchContents m' c))) :
    θ_run (defs (F := Ideal)) (onTc (τ := τ) (main (F := Ideal))) ⟨m', fun _ => 0, ρ'⟩ fun r => ∀ c : Dev nD,
      (∀ (p : Fin 8) (M : Fin 29) (s : Fin 1536) (q : Fin 256), (r.2.mem ((c.tc : Thread nD τ).loc main_v142) : A3 8 44544 256) (ix3 p (rowOf M s) q)
        = want (refX (launchContents m' c)) (refG (launchContents m' c)) (refU (launchContents m' c)) (refD (launchContents m' c)) (hT c) p M s q)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) := by
  refine (θ_run (defs (F := Ideal)) _ _).mono (fun r h c => ⟨fun p M s q => ?_, (h c).2⟩) (run (F := Ideal) m' ρ')
  refine (congrFun (h c).1 (ix3 p (rowOf M s) q : S8x44544x256.Idx)).trans ?_
  rw [truncf_apply]
  refine (transpose_apply [1, 0, 2] _ transposes_S44544x8x256_S8x44544x256_1_0_2 (ix3 p (rowOf M s) q) (ix3 (rowOf M s) p q) (fun b => match b with | ⟨0, _⟩ => rfl | ⟨1, _⟩ => rfl | ⟨2, _⟩ => rfl)).trans ?_
  refine (shapeCast_apply _ shapeCasts_S29x1536x2048_S44544x8x256 _ (ix3 M s (⟨256 * p.val + q.val, by omega⟩ : Fin 2048)) ?_).trans ?_
  · rw [Shape.rowMajor_val_three, Shape.rowMajor_val_three]
    show (M.val * 1536 + s.val) * 2048 + (256 * p.val + q.val) = ((1536 * M.val + s.val) * 8 + p.val) * 256 + q.val
    omega
  rw [addf_apply, addf_apply, addf_apply]
  refine Eq.trans (congrArg₂ (· + ·) (congrArg₂ (· + ·) (congrArg₂ (· + ·) (five_ref (launchContents m' c) M s _)
    (term_ref (launchContents m' c) 5 (by omega) slices_S29x1536x8_S29x1536x1_0_0_5 slices_S8x2048x7168_S1x2048x7168_5_0_0 slices_S8x7168x2048_S1x7168x2048_5_0_0 shapeCasts_S1x2048x7168_S2048x7168 shapeCasts_S1x7168x2048_S7168x2048 bcast_S29x1536x1_S29x1536x2048_0_1_2 bcast_S_S29x1536x7168 _ rfl M s _))
    (term_ref (launchContents m' c) 6 (by omega) slices_S29x1536x8_S29x1536x1_0_0_6 slices_S8x2048x7168_S1x2048x7168_6_0_0 slices_S8x7168x2048_S1x7168x2048_6_0_0 shapeCasts_S1x2048x7168_S2048x7168 shapeCasts_S1x7168x2048_S7168x2048 bcast_S29x1536x1_S29x1536x2048_0_1_2 bcast_S_S29x1536x7168 _ rfl M s _))
    (term_ref (launchContents m' c) 7 (by omega) slices_S29x1536x8_S29x1536x1_0_0_7 slices_S8x2048x7168_S1x2048x7168_7_0_0 slices_S8x7168x2048_S1x7168x2048_7_0_0 shapeCasts_S1x2048x7168_S2048x7168 shapeCasts_S1x7168x2048_S7168x2048 bcast_S29x1536x1_S29x1536x2048_0_1_2 bcast_S_S29x1536x7168 _ rfl M s _)) ?_
  exact sum_ref (launchContents m' c) T1 (hT c) M s fun e => expert (refX (launchContents m' c)) (refG (launchContents m' c)) (refU (launchContents m' c)) (refD (launchContents m' c)) e (rowOf M s) (⟨256 * p.val + q.val, by omega⟩ : Fin 2048)

end Cert.Proof.Experts

end
-- ==== Proof.ExpertsPre.lean ====
/-
  What the experts' precondition says of the three tables, and which rows the claim's mask selects.
-/
module

public import proofs.«01_k».proof.Proof.ExpertsTiles
public import proofs.«01_k».proof.Proof.Gen.Pre_tables_in_range
public import proofs.«01_k».proof.Proof.Gen.On_rows_of_used_tiles
public import Idealize.ShloMosaic.Lib.ReduceAll

@[expose] public section

set_option maxRecDepth 16384

noncomputable section

namespace Cert.Proof.Experts

open Cert.ExpertsIdeal
open Idealize.ShloMosaic
open Idealize.ShloMosaic.ValueIdx
open Idealize.SL.Sem

variable {F : FTy → Type} [FloatOps F]

/-- Two bits both set. -/
theorem both_set (a b : BitVec 1) (h : IntOp.andi a b = 1#1) : a = 1#1 ∧ b = 1#1 := by revert a b; decide
/-- A comparison's bit. -/
theorem bool_set (b : Bool) (h : BitVec.ofBool b = 1#1) : b = true := by revert b; decide

/-- A word from zero up to a small bound, read as signed. -/
theorem word_below (v : BitVec 32) (n : ℕ) (hn : n < 2147483648) (e : IntOp.andi (IntOp.cmpi .sge v 0#32) (IntOp.cmpi .slt v (BitVec.ofNat 32 n)) = 1#1) : v.toNat < n := by
  obtain ⟨h0, h1⟩ := both_set _ _ e
  replace h0 : (0#32).sle v = true := bool_set _ h0
  replace h1 : v.slt (BitVec.ofNat 32 n) = true := bool_set _ h1
  rw [BitVec.sle_eq_decide, decide_eq_true_eq, BitVec.toInt_eq_toNat_cond, BitVec.toInt_eq_toNat_cond] at h0
  rw [BitVec.slt_eq_decide, decide_eq_true_eq, BitVec.toInt_eq_toNat_cond, BitVec.toInt_eq_toNat_cond] at h1
  simp only [BitVec.toNat_ofNat, Nat.reducePow, Nat.reduceMod] at h0 h1
  omega
/-- A word at least a bound, read as signed. -/
theorem word_least (v : BitVec 32) (e : IntOp.cmpi .sge v 1#32 = 1#1) : 1 ≤ v.toNat ∧ v.toNat < 2147483648 := by
  replace e : (1#32).sle v = true := bool_set _ e
  rw [BitVec.sle_eq_decide, decide_eq_true_eq, BitVec.toInt_eq_toNat_cond, BitVec.toInt_eq_toNat_cond] at e
  simp only [BitVec.toNat_ofNat, Nat.reducePow, Nat.reduceMod] at e
  omega
/-- A word at most a bound, read as signed. -/
theorem word_most (v : BitVec 32) (e : IntOp.cmpi .sle v 1536#32 = 1#1) : v.toInt < 1537 := by
  replace e : v.sle 1536#32 = true := bool_set _ e
  rw [BitVec.sle_eq_decide, decide_eq_true_eq, toInt_small 1536 (by omega)] at e
  omega

/-- The precondition bounds the three tables. -/
theorem inRange_of_pre (a0 : FVec F S8x44544x256 .bf16) (T0 : S29.Idx → BitVec 32) (T1 : S1.Idx → BitVec 32) (T2 : S29.Idx → BitVec 32)
    (a4 a5 : FVec F S8x2048x7168 .f32) (a6 : FVec F S8x7168x2048 .f32) (h : Cert.Pre_tables_in_range.fn (F := F) a0 T0 T1 T2 a4 a5 a6 = fun _ => 1#1) : InRange T0 T1 T2 := by
  have : Subsingleton Cert.Pre_tables_in_range.S_.Idx := ⟨fun a b => funext fun x => x.elim0⟩
  obtain ⟨h1, h2⟩ := both_set _ _ (congrFun h (fun x => x.elim0))
  obtain ⟨h3, h4⟩ := both_set _ _ h1
  have e0 := Host.reduce_andi_all _ _ _ _ _ h3
  have e1 := Host.reduce_andi_all _ _ _ _ _ h4
  have e2 := Host.reduce_andi_all _ _ _ _ _ h2
  exact ⟨fun k => word_below _ 8 (by omega) (e0 k), (word_least _ (e1 one1)).1, (word_least _ (e1 one1)).2, fun k => word_most _ (e2 k)⟩

/-- A row the mask selects is a row of a used tile. -/
theorem used_of_mask (a0 : FVec F S8x44544x256 .bf16) (T0 : S29.Idx → BitVec 32) (T1 : S1.Idx → BitVec 32) (T2 : S29.Idx → BitVec 32)
    (a4 a5 : FVec F S8x2048x7168 .f32) (a6 : FVec F S8x7168x2048 .f32) (hT : InRange T0 T1 T2) (i : S8x44544x256.Idx)
    (h : Cert.On_rows_of_used_tiles.fn (F := F) a0 T0 T1 T2 a4 a5 a6 i = 1#1) :
    ∃ (p : Fin 8) (M : Fin 29) (r : Fin 1536) (q : Fin 256), i = ix3 p (rowOf M r) q ∧ M.val < (T1 one1).toNat := by
  have hi1 : (i 1).val < 44544 := (i 1).isLt
  refine ⟨⟨(i 0).val, (i 0).isLt⟩, ⟨(i 1).val / 1536, by omega⟩, ⟨(i 1).val % 1536, by omega⟩, ⟨(i 2).val, (i 2).isLt⟩, ?_, ?_⟩
  · funext a; apply Fin.ext
    match a with
    | ⟨0, _⟩ => rfl
    | ⟨1, _⟩ => show (i 1).val = 1536 * ((i 1).val / 1536) + (i 1).val % 1536; omega
    | ⟨2, _⟩ => rfl
  · show (i 1).val / 1536 < (T1 one1).toNat
    have e : IntOp.cmpi .slt (BitVec.ofNat 32 (i 1).val) (IntOp.minsi (T1 one1) 29#32 * 1536#32) = 1#1 := by
      have e' : Cert.On_rows_of_used_tiles.fn (F := F) a0 T0 T1 T2 a4 a5 a6 i = IntOp.cmpi .slt (BitVec.ofNat 32 (i 1).val) (IntOp.minsi (T1 one1) 29#32 * 1536#32) := by
        unfold Cert.On_rows_of_used_tiles.fn
        refine (broadcastInDim_apply _ _ _ _ (ix3 (0 : Fin 1) (⟨(i 1).val, hi1⟩ : Fin 44544) (0 : Fin 1)) (fun a => match a with | ⟨0, _⟩ => rfl | ⟨1, _⟩ => rfl | ⟨2, _⟩ => rfl)).trans ?_
        unfold cmpi
        refine congrArg₂ (IntOp.cmpi .slt) ?_ ?_
        · exact broadcastInDim_apply _ _ _ _ (ix1 (⟨(i 1).val, hi1⟩ : Fin 44544)) (fun a => match a with | ⟨0, _⟩ => rfl)
        · refine (broadcastInDim_apply _ _ _ _ (ix3 (0 : Fin 1) (0 : Fin 1) (0 : Fin 1)) (fun a => match a with | ⟨0, _⟩ => rfl | ⟨1, _⟩ => rfl | ⟨2, _⟩ => rfl)).trans ?_
          exact broadcastInDim_apply _ _ _ _ one1 (fun a => match a with | ⟨0, _⟩ => rfl)
      rw [← e', h]
    have hb : ∀ b : Bool, BitVec.ofBool b = 1#1 → b = true := bool_set
    replace e : (BitVec.ofNat 32 (i 1).val).slt (IntOp.minsi (T1 one1) 29#32 * 1536#32) = true := bool_set _ e
    have hn : (IntOp.minsi (T1 one1) 29#32).toNat = min (T1 one1).toNat 29 := by
      have h31 := hT.nu31
      have hs : (T1 one1).slt 29#32 = true ↔ (T1 one1).toNat < 29 := by
        rw [BitVec.slt_eq_decide, decide_eq_true_eq, toInt_small 29 (by omega), toInt_pos _ h31]; omega
      unfold IntOp.minsi
      by_cases q : (T1 one1).toNat < 29
      · rw [if_pos (hs.mpr q)]; omega
      · rw [if_neg fun h => q (hs.mp h)]; show 29 = _; omega
    have hm : (IntOp.minsi (T1 one1) 29#32 * 1536#32).toNat = min (T1 one1).toNat 29 * 1536 := by
      rw [BitVec.toNat_mul, hn, BitVec.toNat_ofNat]; omega
    have hr : (BitVec.ofNat 32 (i 1).val).toNat = (i 1).val := by rw [BitVec.toNat_ofNat]; omega
    rw [BitVec.slt_eq_decide, decide_eq_true_eq, BitVec.toInt_eq_toNat_cond, BitVec.toInt_eq_toNat_cond, hm, hr] at e
    omega

end Cert.Proof.Experts

end
-- ==== Proof.ExpertsClaims.lean ====
/-
  The experts' claims: both runs leave arguments and counters as they were, and over the extended reals they end with the same
  rows of the used tiles.
-/
module

public import proofs.«01_k».proof.Defs
public import proofs.«01_k».proof.Proof.ExpertsRef
public import proofs.«01_k».proof.Proof.ExpertsPre
public import proofs.«01_k».proof.Proof.Gen.Experts

@[expose] public section

set_option maxRecDepth 16384

noncomputable section

namespace Cert.Proof.Experts

open Cert.ExpertsIdeal Cert.ExpertsIdeal.Gen
open Idealize.ShloMosaic
open Idealize.ShloMosaic.TcCoe
open Idealize.ShloMosaic.StableHlo
open Idealize.SL.Sem
open Idealize.ShloMosaic.ValueIdx

section
variable {F : FTy → Type} [FloatOps F] (m : (ℓ : Loc nD τ sig) → Buf (Elt F) ℓ)

/-- The one device. -/
abbrev dev0 : Dev nD := (⟨0, by decide⟩ : Fin nD)

/-- The tables a memory holds. -/
abbrev tab0 : S29.Idx → BitVec 32 := m ((dev0.tc : Thread nD τ).loc main_arg1)
abbrev tab1 : S1.Idx → BitVec 32 := m ((dev0.tc : Thread nD τ).loc main_arg2)
abbrev tab2 : S29.Idx → BitVec 32 := m ((dev0.tc : Thread nD τ).loc main_arg3)

/-- There is no other device. -/
theorem dev_eq (c : Dev nD) : c = dev0 := Subsingleton.elim (α := Fin 1) c dev0

theorem holds_tabs : Holds m (tab0 m) (tab1 m) (tab2 m) :=
  ⟨fun c => by rw [dev_eq c], fun c => by rw [dev_eq c], fun c => by rw [dev_eq c]⟩

end

/-- The run over the extended reals, its result read at the used tiles. -/
theorem run_experts (m : (ℓ : Loc nD τ sig) → Buf (Elt Ideal) ℓ) (ρ : Dev nD → PrngReg) (hT : InRange (tab0 m) (tab1 m) (tab2 m)) :
    θ_run (defs (F := Ideal)) (onTc (τ := τ) (main (F := Ideal))) ⟨m, fun _ => 0, ρ⟩ (fun r => ∀ c : Dev nD,
      (∀ (p : Fin 8) (M : Fin 29) (s : Fin 1536) (q : Fin 256), M.val < (tab1 m one1).toNat →
        (r.2.mem ((c.tc : Thread nD τ).loc main_v0) : A3 8 44544 256) (ix3 p (rowOf M s) q) = want (argX m c) (argG m c) (argU m c) (argD m c) hT p M s q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  have hp := holds_tabs m
  (θ_run defs _ _).mono (fun _ h c => ⟨fun p M s q hu => (congrFun ((h.1 c).1 (4 : Fin 5)) (ix3 p (rowOf M s) q : S8x44544x256.Idx)).trans (result_value m ρ hT c p M hu s q),
    ((h.1 c).1 (0 : Fin 5)).trans ((dats m ρ hT 0 c).arrAt_in (0 : Fin 5) rfl _), ((h.1 c).2 0).trans (hp.1 c).symm, ((h.1 c).2 1).trans (hp.2.1 c).symm, ((h.1 c).2 2).trans (hp.2.2 c).symm,
    ((h.1 c).1 (1 : Fin 5)).trans ((dats m ρ hT 0 c).arrAt_in (1 : Fin 5) rfl _), ((h.1 c).1 (2 : Fin 5)).trans ((dats m ρ hT 0 c).arrAt_in (2 : Fin 5) rfl _), ((h.1 c).1 (3 : Fin 5)).trans ((dats m ρ hT 0 c).arrAt_in (3 : Fin 5) rfl _)⟩) (run_main_quiescent m ρ hT hp)

/-- The bit-exact frame, said of the idealized program's text. -/
def quiescentBits : Prop :=
  ∀ (m : (ℓ : Loc nD τ sig) → Buf (Elt Bits) ℓ) (g : Dev nD → PrngReg),
    (∀ c : Dev nD, (@Cert.Pre_tables_in_range.fn Cert.Pre_tables_in_range.Gen.facts Bits _ (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))) = fun _ => 1#1) →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

/-- The kernel's program and the idealized one have the same text, so the two statements are one. -/
theorem quiescentBits_eq : quiescentBits = Cert.quiescent_Experts (hExperts := Cert.Experts.Gen.facts) (hPre_tables_in_range := Cert.Pre_tables_in_range.Gen.facts) := by sl_kernel_rfl

/-- The idealized text at the bit-exact instance. -/
theorem quiescentBits_holds : quiescentBits := fun m ρ hpre =>
  run_main (F := Bits) m ρ (inRange_of_pre (F := Bits) _ _ _ _ _ _ _ (hpre dev0)) (holds_tabs (F := Bits) m)

/-- The kernel at the bit-exact instance. -/
theorem frame_p : Cert.quiescent_Experts (hExperts := Cert.Experts.Gen.facts) (hPre_tables_in_range := Cert.Pre_tables_in_range.Gen.facts) :=
  quiescentBits_eq.mp quiescentBits_holds

/-- The idealized kernel at the ideal instance. -/
theorem frame_pi : Cert.quiescent_ExpertsIdeal (hExpertsIdeal := Cert.ExpertsIdeal.Gen.facts) (hPre_tables_in_range := Cert.Pre_tables_in_range.Gen.facts) := fun m ρ hpre =>
  run_main (F := Ideal) m ρ (inRange_of_pre (F := Ideal) _ _ _ _ _ _ _ (hpre dev0)) (holds_tabs (F := Ideal) m)

/-- The reference at the ideal instance; it declares no counter. -/
theorem frame_ri : Cert.quiescent_ExpertsReferenceIdeal (hExpertsReferenceIdeal := Cert.ExpertsReferenceIdeal.Gen.facts) (hPre_tables_in_range := Cert.Pre_tables_in_range.Gen.facts) := fun m ρ _ =>
  (θ_run (Cert.ExpertsReferenceIdeal.defs (F := Ideal)) _ _).mono (fun r h => ⟨fun c => (h c).2, sem_eq_zero_of_no_sems (by decide) r.2⟩)
    (Cert.ExpertsReferenceIdeal.Value.run (F := Ideal) m ρ)

/-- Kernel and reference end with equal rows of the used tiles at the ideal instance. -/
theorem algebraic : Cert.algebraic_ExpertsIdeal_ExpertsReferenceIdeal_on_rows_of_used_tiles (hExpertsIdeal := Cert.ExpertsIdeal.Gen.facts) (hExpertsReferenceIdeal := Cert.ExpertsReferenceIdeal.Gen.facts)
    (hPre_tables_in_range := Cert.Pre_tables_in_range.Gen.facts) (hOn_rows_of_used_tiles := Cert.On_rows_of_used_tiles.Gen.facts) := fun m ρ m' ρ' hpre hagree => by
  have hT : InRange (tab0 m) (tab1 m) (tab2 m) := inRange_of_pre (F := Ideal) _ _ _ _ _ _ _ (hpre dev0)
  have h1 : ∀ c : Dev nD, refT0 (launchContents m' c) = tab0 m := fun c => (hagree c).2.1.trans ((holds_tabs m).1 c)
  have h3 : ∀ c : Dev nD, refT2 (launchContents m' c) = tab2 m := fun c => (hagree c).2.2.2.1.trans ((holds_tabs m).2.2 c)
  have hT' : ∀ c : Dev nD, InRange (refT0 (launchContents m' c)) (tab1 m) (refT2 (launchContents m' c)) := fun c => by rw [h1 c, h3 c]; exact hT
  have same : ∀ {T0 T0' : S29.Idx → BitVec 32} {T2 T2' : S29.Idx → BitVec 32} (a : T0' = T0) (b : T2' = T2) (h : InRange T0 (tab1 m) T2) (h' : InRange T0' (tab1 m) T2') (X X' : A3 8 44544 256) (G G' U U' : A3 8 2048 7168) (D D' : A3 8 7168 2048)
      (_ : X' = X) (_ : G' = G) (_ : U' = U) (_ : D' = D) (p : Fin 8) (M : Fin 29) (s : Fin 1536) (q : Fin 256), want X' G' U' D' h' p M s q = want X G U D h p M s q := by
    intros; subst_vars; rfl
  have mask : ∀ (c : Dev nD) (i : S8x44544x256.Idx), Cert.On_rows_of_used_tiles.fn (F := Ideal) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) i = 1#1 →
      ∃ (p : Fin 8) (M : Fin 29) (s : Fin 1536) (q : Fin 256), i = ix3 p (rowOf M s) q ∧ M.val < (tab1 m one1).toNat := fun c i h => by
    rw [dev_eq c] at h
    exact used_of_mask (F := Ideal) _ _ _ _ _ _ _ hT i h
  refine ⟨fun c => wantA (argX m c) (argG m c) (argU m c) (argD m c) hT, ?_, ?_⟩
  · refine (θ_run (defs (F := Ideal)) _ _).mono (fun r h c => ⟨fun i hi => ?_, (h c).2⟩) (run_experts m ρ hT)
    obtain ⟨p, M, s, q, rfl, hu⟩ := mask c i hi
    exact ((h c).1 p M s q hu).trans (wantA_apply hT _ _ _ _ p M s q).symm
  · refine (θ_run (Cert.ExpertsReferenceIdeal.defs (F := Ideal)) _ _).mono (fun r h c => ⟨fun i hi => ?_, (h c).2⟩) (run_experts_ref m' ρ' (tab1 m) hT')
    obtain ⟨p, M, s, q, rfl, hu⟩ := mask c i hi
    refine ((h c).1 p M s q).trans (Eq.trans ?_ (wantA_apply hT _ _ _ _ p M s q).symm)
    exact same (h1 c) (h3 c) hT (hT' c) _ _ _ _ _ _ _ _ (hagree c).1 (hagree c).2.2.2.2.1 (hagree c).2.2.2.2.2.1 (hagree c).2.2.2.2.2.2 p M s q

end Cert.Proof.Experts

end
-- ==== Proof.lean ====
/-
  The certificate of two calls. The gather: both programs run, leave their arguments and every counter as they were, and end
  with the same result, row `pos t` of each of the four planes, at the bit-exact instance and at the ideal one. The experts:
  both programs run, leave their arguments and every counter as they were, and end, at the ideal instance, with the same rows
  of the used tiles.

  The gather: Proof/Words.lean … Proof/Body.lean prove one vector subcore's run, Proof/Split.lean and Proof/Launch.lean the
  call's and the program's, Proof/Value.lean what it computes. The experts: Proof/ExpertsRuns.lean … Proof/ExpertsLaunch.lean
  prove the run, Proof/ExpertsMath.lean … Proof/ExpertsTiles.lean what the kernel computes, Proof/ExpertsRef.lean what the
  reference computes, Proof/ExpertsPre.lean the precondition and the mask, Proof/ExpertsClaims.lean the claims. This file puts
  them together.
-/
module

public import proofs.«01_k».proof.Defs
public import proofs.«01_k».proof.Proof.Gen.Kernel
public import proofs.«01_k».proof.Proof.Gen.Reference
public import proofs.«01_k».proof.Proof.Value
public import proofs.«01_k».proof.Proof.ExpertsClaims

@[expose] public section

noncomputable section

namespace Cert.Proof

open Idealize.ShloMosaic Idealize.SL.Sem Cert.Proof.Gather

/-- The kernel at the bit-exact instance: the idealized program's text is the kernel's own, so its run is this one. -/
theorem frame_p : Cert.quiescent_Kernel (hKernel := Cert.Kernel.Gen.facts) (hPre_pos_in_rows := Cert.Pre_pos_in_rows.Gen.facts) := fun m ρ hpre =>
  (θ_run (Cert.KernelIdeal.defs (F := Bits)) _ _).mono (fun _ h => ⟨fun c => (h.1 c).2, h.2⟩)
    (run_main (F := Bits) m ρ fun d => pos_of_pre (F := Bits) _ _ (hpre d))

/-- The idealized kernel at the ideal instance. -/
theorem frame_pi : Cert.quiescent_KernelIdeal (hKernelIdeal := Cert.KernelIdeal.Gen.facts) (hPre_pos_in_rows := Cert.Pre_pos_in_rows.Gen.facts) := fun m ρ hpre =>
  (θ_run (Cert.KernelIdeal.defs (F := Ideal)) _ _).mono (fun _ h => ⟨fun c => (h.1 c).2, h.2⟩)
    (run_main (F := Ideal) m ρ fun d => pos_of_pre (F := Ideal) _ _ (hpre d))

/-- The reference at the ideal instance; it declares no counter. -/
theorem frame_ri : Cert.quiescent_ReferenceIdeal (hReferenceIdeal := Cert.ReferenceIdeal.Gen.facts) (hPre_pos_in_rows := Cert.Pre_pos_in_rows.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The reference at the bit-exact instance. -/
theorem frame_r : Cert.quiescent_Reference (hReference := Cert.Reference.Gen.facts) (hPre_pos_in_rows := Cert.Pre_pos_in_rows.Gen.facts) := fun m ρ _ =>
  (θ_run (Cert.ReferenceIdeal.defs (F := Bits)) _ _).mono (fun r h => ⟨fun c => (h c).2, sem_eq_zero_of_no_sems (by decide) r.2⟩)
    (Cert.ReferenceIdeal.Value.run (F := Bits) m ρ)

/-- Kernel and reference end with equal results at the ideal instance. -/
theorem algebraic : Cert.algebraic_KernelIdeal_ReferenceIdeal (hKernelIdeal := Cert.KernelIdeal.Gen.facts) (hReferenceIdeal := Cert.ReferenceIdeal.Gen.facts)
    (hPre_pos_in_rows := Cert.Pre_pos_in_rows.Gen.facts) := fun m ρ m' ρ' hpre hagree =>
  have hpos : ∀ d k, (argP m d k).toNat < 44544 := fun d => pos_of_pre (F := Ideal) _ _ (hpre d)
  ⟨fun d => want (argA m d) (argP m d) (hpos d),
    (θ_run (Cert.KernelIdeal.defs (F := Ideal)) _ _).mono (fun _ h => h.1) (run_main (F := Ideal) m ρ hpos),
    run_ref (F := Ideal) m' ρ' (argA m) (argP m) hpos hagree⟩

/-- Kernel and reference end with equal results at the bit-exact instance. -/
theorem bitexact : Cert.bitexact_Kernel_Reference (hKernel := Cert.Kernel.Gen.facts) (hReference := Cert.Reference.Gen.facts)
    (hPre_pos_in_rows := Cert.Pre_pos_in_rows.Gen.facts) := fun m ρ m' ρ' hpre hagree =>
  have hpos : ∀ d k, (argP (F := Bits) m d k).toNat < 44544 := fun d => pos_of_pre (F := Bits) _ _ (hpre d)
  ⟨fun d => want (argA (F := Bits) m d) (argP (F := Bits) m d) (hpos d),
    (θ_run (Cert.KernelIdeal.defs (F := Bits)) _ _).mono (fun _ h => h.1) (run_main (F := Bits) m ρ hpos),
    run_ref (F := Bits) m' ρ' (argA (F := Bits) m) (argP (F := Bits) m) hpos hagree⟩

/-- Every claim of the certificate. -/
theorem claim : Cert.Claim :=
  ⟨Cert.Kernel.Gen.facts, Cert.KernelIdeal.Gen.facts, Cert.ReferenceIdeal.Gen.facts, Cert.Reference.Gen.facts,
    Cert.Experts.Gen.facts, Cert.ExpertsIdeal.Gen.facts, Cert.ExpertsReferenceIdeal.Gen.facts,
    Cert.Pre_pos_in_rows.Gen.facts, Cert.Pre_tables_in_range.Gen.facts, Cert.On_rows_of_used_tiles.Gen.facts,
    frame_p, frame_pi, frame_ri, frame_r, Experts.frame_p, Experts.frame_pi, Experts.frame_ri, trivial, algebraic, bitexact,
    trivial, Experts.algebraic⟩

end Cert.Proof

end
